-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v20_0)) (v2 : (c : Dev Cert.KernelIdeal.nD) → Buf (Elt Ideal) ((c.tc : Thread Cert.KernelIdeal.nD Cert.KernelIdeal.τ).loc Cert.KernelIdeal.main_v20_1)) (v3 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_v20_1) = v2 c
          ∧ r.2.mem ((c.tc : Thread Cert.KernelIdeal.nD Cert.KernelIdeal.τ).loc Cert.KernelIdeal.main_v20_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v391) = v0 c
          ∧ r.2.mem ((c.tc : Thread Cert.ReferenceIdeal.nD Cert.ReferenceIdeal.τ).loc Cert.ReferenceIdeal.main_v392) = v1 c
          ∧ r.2.mem ((c.tc : Thread Cert.ReferenceIdeal.nD Cert.ReferenceIdeal.τ).loc Cert.ReferenceIdeal.main_v393) = v2 c
          ∧ r.2.mem ((c.tc : Thread Cert.ReferenceIdeal.nD Cert.ReferenceIdeal.τ).loc Cert.ReferenceIdeal.main_v394) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v2)) (v2 : (c : Dev Cert.Kernel3Ideal.nD) → Buf (Elt Ideal) ((c.tc : Thread Cert.Kernel3Ideal.nD Cert.Kernel3Ideal.τ).loc Cert.Kernel3Ideal.main_v0_0)) (v3 : (c : Dev Cert.Kernel3Ideal.nD) → Buf (Elt Ideal) ((c.tc : Thread Cert.Kernel3Ideal.nD Cert.Kernel3Ideal.τ).loc Cert.Kernel3Ideal.main_v0_1)) (v4 : (c : Dev Cert.Kernel3Ideal.nD) → Buf (Elt Ideal) ((c.tc : Thread Cert.Kernel3Ideal.nD Cert.Kernel3Ideal.τ).loc Cert.Kernel3Ideal.main_v3)) (v5 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v2) = v1 c
          ∧ r.2.mem ((c.tc : Thread Cert.Kernel3Ideal.nD Cert.Kernel3Ideal.τ).loc Cert.Kernel3Ideal.main_v0_0) = v2 c
          ∧ r.2.mem ((c.tc : Thread Cert.Kernel3Ideal.nD Cert.Kernel3Ideal.τ).loc Cert.Kernel3Ideal.main_v0_1) = v3 c
          ∧ r.2.mem ((c.tc : Thread Cert.Kernel3Ideal.nD Cert.Kernel3Ideal.τ).loc Cert.Kernel3Ideal.main_v3) = v4 c
          ∧ r.2.mem ((c.tc : Thread Cert.Kernel3Ideal.nD Cert.Kernel3Ideal.τ).loc Cert.Kernel3Ideal.main_v4) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_v4) = v2 c
          ∧ r.2.mem ((c.tc : Thread Cert.Reference3Ideal.nD Cert.Reference3Ideal.τ).loc Cert.Reference3Ideal.main_v5) = v3 c
          ∧ r.2.mem ((c.tc : Thread Cert.Reference3Ideal.nD Cert.Reference3Ideal.τ).loc Cert.Reference3Ideal.main_v6) = v4 c
          ∧ r.2.mem ((c.tc : Thread Cert.Reference3Ideal.nD Cert.Reference3Ideal.τ).loc Cert.Reference3Ideal.main_v7) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v36)) (v1 : (c : Dev Cert.Kernel4Ideal.nD) → Buf (Elt Ideal) ((c.tc : Thread Cert.Kernel4Ideal.nD Cert.Kernel4Ideal.τ).loc Cert.Kernel4Ideal.main_v13_0)) (v2 : (c : Dev Cert.Kernel4Ideal.nD) → Buf (Elt Ideal) ((c.tc : Thread Cert.Kernel4Ideal.nD Cert.Kernel4Ideal.τ).loc Cert.Kernel4Ideal.main_v13_1)) (v3 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_v13_0) = v1 c
          ∧ r.2.mem ((c.tc : Thread Cert.Kernel4Ideal.nD Cert.Kernel4Ideal.τ).loc Cert.Kernel4Ideal.main_v13_1) = v2 c
          ∧ r.2.mem ((c.tc : Thread Cert.Kernel4Ideal.nD Cert.Kernel4Ideal.τ).loc Cert.Kernel4Ideal.main_v13_2) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v347) = v0 c
          ∧ r.2.mem ((c.tc : Thread Cert.Reference4Ideal.nD Cert.Reference4Ideal.τ).loc Cert.Reference4Ideal.main_v348) = v1 c
          ∧ r.2.mem ((c.tc : Thread Cert.Reference4Ideal.nD Cert.Reference4Ideal.τ).loc Cert.Reference4Ideal.main_v349) = v2 c
          ∧ r.2.mem ((c.tc : Thread Cert.Reference4Ideal.nD Cert.Reference4Ideal.τ).loc Cert.Reference4Ideal.main_v350) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S33280x1024 : Shape := ⟨2, ![33280, 1024]⟩
abbrev S33280x512 : Shape := ⟨2, ![33280, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x4608 : Shape := ⟨3, ![2, 1024, 4608]⟩
abbrev S2x512x1024 : Shape := ⟨3, ![2, 512, 1024]⟩
abbrev S2x31x512 : Shape := ⟨3, ![2, 31, 512]⟩
abbrev S2x512 : Shape := ⟨2, ![2, 512]⟩
abbrev S2x1024x1024 : Shape := ⟨3, ![2, 1024, 1024]⟩
abbrev S1024 : Shape := ⟨1, ![1024]⟩
abbrev S2x1024x2560 : Shape := ⟨3, ![2, 1024, 2560]⟩
abbrev S2x1024x2048 : Shape := ⟨3, ![2, 1024, 2048]⟩
abbrev S1x1024 : Shape := ⟨2, ![1, 1024]⟩
abbrev S1040x1024 : Shape := ⟨2, ![1040, 1024]⟩
abbrev S1x1024x2816 : Shape := ⟨3, ![1, 1024, 2816]⟩
abbrev S1x2816x1024 : Shape := ⟨3, ![1, 2816, 1024]⟩
abbrev S1040x2816 : Shape := ⟨2, ![1040, 2816]⟩
abbrev S1040 : Shape := ⟨1, ![1040]⟩
abbrev S1040x1 : Shape := ⟨2, ![1040, 1]⟩
abbrev S1x1024x256 : Shape := ⟨3, ![1, 1024, 256]⟩
abbrev S1024x256 : Shape := ⟨2, ![1024, 256]⟩
abbrev S1040x256 : Shape := ⟨2, ![1040, 256]⟩
abbrev S2816x1024 : Shape := ⟨2, ![2816, 1024]⟩
abbrev S1x1024x2560 : Shape := ⟨3, ![1, 1024, 2560]⟩
abbrev S1040x512 : Shape := ⟨2, ![1040, 512]⟩
abbrev S1x1024x512 : Shape := ⟨3, ![1, 1024, 512]⟩
abbrev S1024x512 : Shape := ⟨2, ![1024, 512]⟩
abbrev S1x31x512 : Shape := ⟨3, ![1, 31, 512]⟩
abbrev S31x512 : Shape := ⟨2, ![31, 512]⟩
abbrev S31x1x512 : Shape := ⟨3, ![31, 1, 512]⟩
abbrev S31x8x512 : Shape := ⟨3, ![31, 8, 512]⟩
abbrev S1x512 : Shape := ⟨2, ![1, 512]⟩
abbrev S512 : Shape := ⟨1, ![512]⟩
abbrev S640x1024 : Shape := ⟨2, ![640, 1024]⟩
abbrev S1x1024x2048 : Shape := ⟨3, ![1, 1024, 2048]⟩
abbrev S640x512 : Shape := ⟨2, ![640, 512]⟩
abbrev S32x512 : Shape := ⟨2, ![32, 512]⟩
abbrev S1x512x1024 : Shape := ⟨3, ![1, 512, 1024]⟩
abbrev S1x1024x1024 : Shape := ⟨3, ![1, 1024, 1024]⟩
abbrev S672x512 : Shape := ⟨2, ![672, 512]⟩
abbrev S8x83x8x512 : Shape := ⟨4, ![8, 83, 8, 512]⟩
abbrev S664x512 : Shape := ⟨2, ![664, 512]⟩
abbrev S83x8x512 : Shape := ⟨3, ![83, 8, 512]⟩
abbrev S1x83x8x512 : Shape := ⟨4, ![1, 83, 8, 512]⟩
abbrev S656x512 : Shape := ⟨2, ![656, 512]⟩
abbrev S82x8x512 : Shape := ⟨3, ![82, 8, 512]⟩
abbrev S1x82x8x512 : Shape := ⟨4, ![1, 82, 8, 512]⟩
abbrev S1x1x512 : Shape := ⟨3, ![1, 1, 512]⟩
abbrev S4x8x512 : Shape := ⟨3, ![4, 8, 512]⟩
abbrev S1x8x512 : Shape := ⟨3, ![1, 8, 512]⟩
abbrev S8x512 : Shape := ⟨2, ![8, 512]⟩
abbrev S1x4x8x512 : Shape := ⟨4, ![1, 4, 8, 512]⟩
abbrev S32 : Shape := ⟨1, ![32]⟩
abbrev S32x1 : Shape := ⟨2, ![32, 1]⟩
abbrev S320x1024 : Shape := ⟨2, ![320, 1024]⟩
abbrev S320 : Shape := ⟨1, ![320]⟩
abbrev S320x1 : Shape := ⟨2, ![320, 1]⟩
abbrev S1024x1024 : Shape := ⟨2, ![1024, 1024]⟩
abbrev S320x512 : Shape := ⟨2, ![320, 512]⟩
abbrev S512x1024 : Shape := ⟨2, ![512, 1024]⟩
abbrev S32768x1024 : Shape := ⟨2, ![32768, 1024]⟩
abbrev S1024x2816 : Shape := ⟨2, ![1024, 2816]⟩
abbrev S1024x1 : Shape := ⟨2, ![1024, 1]⟩

abbrev nBuf : Space → Nat
  | .hbm => 66
  | .vmem => 53
  | .smem => 0
  | _ => 0

abbrev bufTy : (tb : Table) → Fin (tcTables nBuf tb) → BufTy
  | .hbm, ⟨0, _⟩ => ⟨S33280x1024, .f32⟩
  | .hbm, ⟨1, _⟩ => ⟨S33280x512, .bf16⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024, .f32⟩
  | .hbm, ⟨7, _⟩ => ⟨S2x1024x4608, .f32⟩
  | .hbm, ⟨8, _⟩ => ⟨S2x512x1024, .f32⟩
  | .hbm, ⟨9, _⟩ => ⟨S2x31x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S2x512x1024, .f32⟩
  | .hbm, ⟨14, _⟩ => ⟨S2x1024x1024, .f32⟩
  | .hbm, ⟨15, _⟩ => ⟨S2x1024, .f32⟩
  | .hbm, ⟨16, _⟩ => ⟨S2x1024x2816, .f32⟩
  | .hbm, ⟨17, _⟩ => ⟨S2x1024x2816, .f32⟩
  | .hbm, ⟨18, _⟩ => ⟨S2x2816x1024, .f32⟩
  | .hbm, ⟨19, _⟩ => ⟨S1024, .f32⟩
  | .hbm, ⟨20, _⟩ => ⟨S2x1024x2816, .bf16⟩
  | .hbm, ⟨21, _⟩ => ⟨S2x1024x2816, .bf16⟩
  | .hbm, ⟨22, _⟩ => ⟨S2x2816x1024, .bf16⟩
  | .hbm, ⟨23, _⟩ => ⟨S2x1024x2816, .bf16⟩
  | .hbm, ⟨24, _⟩ => ⟨S2x1024x2816, .bf16⟩
  | .hbm, ⟨25, _⟩ => ⟨S2x2816x1024, .bf16⟩
  | .hbm, ⟨26, _⟩ => ⟨S2x1024x2560, .f32⟩
  | .hbm, ⟨27, _⟩ => ⟨S2x1024x2560, .bf16⟩
  | .hbm, ⟨28, _⟩ => ⟨S2x1024x2048, .f32⟩
  | .hbm, ⟨29, _⟩ => ⟨S2x1024x2048, .bf16⟩
  | .hbm, ⟨30, _⟩ => ⟨S2x512x1024, .bf16⟩
  | .hbm, ⟨31, _⟩ => ⟨S2x512x1024, .bf16⟩
  | .hbm, ⟨32, _⟩ => ⟨S2x1024x1024, .bf16⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S33280x1024, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S33280x512, .bf16⟩
  | .hbm, ⟨41, _⟩ => ⟨S33280x512, .bf16⟩
  | .hbm, ⟨42, _⟩ => ⟨S33280x512, .bf16⟩
  | .hbm, ⟨43, _⟩ => ⟨S33280x512, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1x31x512, .f32⟩
  | .hbm, ⟨48, _⟩ => ⟨S31x512, .f32⟩
  | .hbm, ⟨49, _⟩ => ⟨S31x1x512, .f32⟩
  | .hbm, ⟨50, _⟩ => ⟨S31x8x512, .f32⟩
  | .hbm, ⟨51, _⟩ => ⟨S1x512, .f32⟩
  | .hbm, ⟨52, _⟩ => ⟨S512, .f32⟩
  | .hbm, ⟨53, _⟩ => ⟨S1x512, .f32⟩
  | .hbm, ⟨54, _⟩ => ⟨S1x512, .f32⟩
  | .hbm, ⟨55, _⟩ => ⟨S512, .f32⟩
  | .hbm, ⟨56, _⟩ => ⟨S1x512, .f32⟩
  | .hbm, ⟨57, _⟩ => ⟨S1x512, .f32⟩
  | .hbm, ⟨58, _⟩ => ⟨S512, .f32⟩
  | .hbm, ⟨59, _⟩ => ⟨S1x512, .f32⟩
  | .hbm, ⟨60, _⟩ => ⟨S33280x1024, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S1x1024, .f32⟩
  | .hbm, ⟨65, _⟩ => ⟨S32768x1024, .f32⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1040x1024, .f32⟩
  | .local _ .vmem, ⟨7, _⟩ => ⟨S1040x1024, .f32⟩
  | .local _ .vmem, ⟨8, _⟩ => ⟨S1040x2816, .bf16⟩
  | .local _ .vmem, ⟨9, _⟩ => ⟨S1040x1024, .f32⟩
  | .local _ .vmem, ⟨10, _⟩ => ⟨S1040x1024, .f32⟩
  | .local _ .vmem, ⟨11, _⟩ => ⟨S1x1024, .f32⟩
  | .local _ .vmem, ⟨12, _⟩ => ⟨S1x1024x2560, .bf16⟩
  | .local _ .vmem, ⟨13, _⟩ => ⟨S1040x512, .bf16⟩
  | .local _ .vmem, ⟨14, _⟩ => ⟨S1040x512, .bf16⟩
  | .local _ .vmem, ⟨15, _⟩ => ⟨S1040x512, .bf16⟩
  | .local _ .vmem, ⟨16, _⟩ => ⟨S1040x512, .bf16⟩
  | .local _ .vmem, ⟨17, _⟩ => ⟨S1040x512, .bf16⟩
  | .local _ .vmem, ⟨18, _⟩ => ⟨S1040x512, .bf16⟩
  | .local _ .vmem, ⟨19, _⟩ => ⟨S1040x512, .f32⟩
  | .local _ .vmem, ⟨20, _⟩ => ⟨S1040x512, .f32⟩
  | .local _ .vmem, ⟨21, _⟩ => ⟨S640x1024, .f32⟩
  | .local _ .vmem, ⟨22, _⟩ => ⟨S640x1024, .f32⟩
  | .local _ .vmem, ⟨23, _⟩ => ⟨S1x1024, .f32⟩
  | .local _ .vmem, ⟨24, _⟩ => ⟨S1x1024x2048, .bf16⟩
  | .local _ .vmem, ⟨25, _⟩ => ⟨S640x512, .bf16⟩
  | .local _ .vmem, ⟨26, _⟩ => ⟨S640x512, .bf16⟩
  | .local _ .vmem, ⟨27, _⟩ => ⟨S640x512, .f32⟩
  | .local _ .vmem, ⟨28, _⟩ => ⟨S640x512, .f32⟩
  | .local _ .vmem, ⟨29, _⟩ => ⟨S32x512, .f32⟩
  | .local _ .vmem, ⟨30, _⟩ => ⟨S32x512, .f32⟩
  | .local _ .vmem, ⟨31, _⟩ => ⟨S31x8x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512x1024, .bf16⟩
  | .local _ .vmem, ⟨36, _⟩ => ⟨S1x512x1024, .bf16⟩
  | .local _ .vmem, ⟨37, _⟩ => ⟨S1x1024x1024, .bf16⟩
  | .local _ .vmem, ⟨38, _⟩ => ⟨S640x1024, .f32⟩
  | .local _ .vmem, ⟨39, _⟩ => ⟨S640x1024, .f32⟩
  | .local _ .vmem, ⟨40, _⟩ => ⟨S672x512, .f32⟩
  | .local _ .vmem, ⟨41, _⟩ => ⟨S8x83x8x512, .f32⟩
  | .local _ .vmem, ⟨42, _⟩ => ⟨S640x512, .bf16⟩
  | .local _ .vmem, ⟨43, _⟩ => ⟨S1024x1024, .f32⟩
  | .local _ .vmem, ⟨44, _⟩ => ⟨S1024x1024, .f32⟩
  | .local _ .vmem, ⟨45, _⟩ => ⟨S1x1024, .f32⟩
  | .local _ .vmem, ⟨46, _⟩ => ⟨S1x1024x2816, .bf16⟩
  | .local _ .vmem, ⟨47, _⟩ => ⟨S1x1024x2816, .bf16⟩
  | .local _ .vmem, ⟨48, _⟩ => ⟨S1x2816x1024, .bf16⟩
  | .local _ .vmem, ⟨49, _⟩ => ⟨S1x1024, .f32⟩
  | .local _ .vmem, ⟨50, _⟩ => ⟨S1024x1024, .f32⟩
  | .local _ .vmem, ⟨51, _⟩ => ⟨S1024x1024, .f32⟩
  | .local _ .vmem, ⟨52, _⟩ => ⟨S1024x2816, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg13_0 : Ref sig .tc := ⟨.vmem, 38, rfl⟩
abbrev cc2_stg13_1 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg6_1 : Ref sig .tc := ⟨.vmem, 51, rfl⟩
abbrev cc3_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem13_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem6_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1040x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1040x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024x2560 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1040x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1040x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1040x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1040x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![52], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_11 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_12 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S640x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S640x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S32x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S31x8x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x512x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024x1024 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S640x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![32], ![false]⟩

def k3_mult1 (i : grid3.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c128_i32 : BitVec 32 := 128#32
  let v18 : BitVec 32 := Scalar.addi v17 c128_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  v30
def cc3_transform_0 (i : grid3.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c128_i32 : BitVec 32 := 128#32
  let v18 : BitVec 32 := Scalar.addi v17 c128_i32
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v18 v29
  let v31 : BitVec 32 := v30
  let c0_i32_10 : BitVec 32 := 0#32
  let c0_i32_11 : BitVec 32 := 0#32
  ![v31.toNat, c0_i32_10.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024x2816 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024x2816 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2816x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ReferenceIdeal.lean ====
abbrev S33280x1024 : Shape := ⟨2, ![33280, 1024]⟩
abbrev S33280x512 : Shape := ⟨2, ![33280, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x1024x4608 : Shape := ⟨3, ![2, 1024, 4608]⟩
abbrev S2x512x1024 : Shape := ⟨3, ![2, 512, 1024]⟩
abbrev S2x31x512 : Shape := ⟨3, ![2, 31, 512]⟩
abbrev S2x512 : Shape := ⟨2, ![2, 512]⟩
abbrev S2x1024x1024 : Shape := ⟨3, ![2, 1024, 1024]⟩
abbrev S1024 : Shape := ⟨1, ![1024]⟩
abbrev S1x1024 : Shape := ⟨2, ![1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S33280 : Shape := ⟨1, ![33280]⟩
abbrev S33280x1 : Shape := ⟨2, ![33280, 1]⟩
abbrev S33280x2816 : Shape := ⟨2, ![33280, 2816]⟩
abbrev S1x1024x4608 : Shape := ⟨3, ![1, 1024, 4608]⟩
abbrev S1024x4608 : Shape := ⟨2, ![1024, 4608]⟩
abbrev S33280x4608 : Shape := ⟨2, ![33280, 4608]⟩
abbrev S4x8320x4608 : Shape := ⟨3, ![4, 8320, 4608]⟩
abbrev S4x8208x4608 : Shape := ⟨3, ![4, 8208, 4608]⟩
abbrev S4x8208x512 : Shape := ⟨3, ![4, 8208, 512]⟩
abbrev S4x8208x1024 : Shape := ⟨3, ![4, 8208, 1024]⟩
abbrev S4x8238x512 : Shape := ⟨3, ![4, 8238, 512]⟩
abbrev S1x1x512 : Shape := ⟨3, ![1, 1, 512]⟩
abbrev S512 : Shape := ⟨1, ![512]⟩
abbrev S1x512 : Shape := ⟨2, ![1, 512]⟩
abbrev S4x8208 : Shape := ⟨2, ![4, 8208]⟩
abbrev S4x8208x1 : Shape := ⟨3, ![4, 8208, 1]⟩
abbrev S1x512x1024 : Shape := ⟨3, ![1, 512, 1024]⟩
abbrev S512x1024 : Shape := ⟨2, ![512, 1024]⟩
abbrev S4x8320x512 : Shape := ⟨3, ![4, 8320, 512]⟩
abbrev S4x8320x1024 : Shape := ⟨3, ![4, 8320, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S4x8208x2816 : Shape := ⟨3, ![4, 8208, 2816]⟩
abbrev S4x8192x1024 : Shape := ⟨3, ![4, 8192, 1024]⟩
abbrev S32768x1024 : Shape := ⟨2, ![32768, 1024]⟩

abbrev nBuf : Space → Nat
  | .hbm => 468
  | .vmem => 0
  | .smem => 0
  | _ => 0

abbrev hbmTy0_0 (i : Nat) : BufTy := match i % 128 with
  | 0 => ⟨S33280x1024, .f32⟩
  | 1 => ⟨S33280x512, .bf16⟩
  | 2 => ⟨S2x1024, .f32⟩
  | 3 => ⟨S2x1024x2816, .f32⟩
  | 4 => ⟨S2x1024x2816, .f32⟩
  | 5 => ⟨S2x2816x1024, .f32⟩
  | 6 => ⟨S2x1024, .f32⟩
  | 7 => ⟨S2x1024x4608, .f32⟩
  | 8 => ⟨S2x512x1024, .f32⟩
  | 9 => ⟨S2x31x512, .f32⟩
  | 10 => ⟨S2x512, .f32⟩
  | 11 => ⟨S2x512, .f32⟩
  | 12 => ⟨S2x512, .f32⟩
  | 13 => ⟨S2x512x1024, .f32⟩
  | 14 => ⟨S2x1024x1024, .f32⟩
  | 15 => ⟨S2x1024, .f32⟩
  | 16 => ⟨S2x1024x2816, .f32⟩
  | 17 => ⟨S2x1024x2816, .f32⟩
  | 18 => ⟨S2x2816x1024, .f32⟩
  | 19 => ⟨S1024, .f32⟩
  | 20 => ⟨S1x1024, .f32⟩
  | 21 => ⟨S1024, .f32⟩
  | 22 => ⟨S1x1024x2816, .f32⟩
  | 23 => ⟨S1024x2816, .f32⟩
  | 24 => ⟨S1x1024x2816, .f32⟩
  | 25 => ⟨S1024x2816, .f32⟩
  | 26 => ⟨S1x2816x1024, .f32⟩
  | 27 => ⟨S2816x1024, .f32⟩
  | 28 => ⟨S33280x1024, .f32⟩
  | 29 => ⟨S_, .f32⟩
  | 30 => ⟨S33280, .f32⟩
  | 31 => ⟨S33280x1, .f32⟩
  | 32 => ⟨S_, .f32⟩
  | 33 => ⟨S33280x1, .f32⟩
  | 34 => ⟨S33280x1, .f32⟩
  | 35 => ⟨S_, .f32⟩
  | 36 => ⟨S33280x1, .f32⟩
  | 37 => ⟨S33280x1, .f32⟩
  | 38 => ⟨S33280x1, .f32⟩
  | 39 => ⟨S33280x1024, .f32⟩
  | 40 => ⟨S33280x1024, .f32⟩
  | 41 => ⟨S1x1024, .f32⟩
  | 42 => ⟨S33280x1024, .f32⟩
  | 43 => ⟨S33280x1024, .f32⟩
  | 44 => ⟨S33280x2816, .f32⟩
  | 45 => ⟨S33280x2816, .f32⟩
  | 46 => ⟨S33280x2816, .f32⟩
  | 47 => ⟨S_, .f32⟩
  | 48 => ⟨S33280x2816, .f32⟩
  | 49 => ⟨S33280x2816, .f32⟩
  | 50 => ⟨S_, .f32⟩
  | 51 => ⟨S33280x2816, .f32⟩
  | 52 => ⟨S33280x2816, .f32⟩
  | 53 => ⟨S33280x2816, .f32⟩
  | 54 => ⟨S33280x2816, .f32⟩
  | 55 => ⟨S33280x2816, .f32⟩
  | 56 => ⟨S33280x1024, .f32⟩
  | 57 => ⟨S_, .f32⟩
  | 58 => ⟨S33280x1024, .f32⟩
  | 59 => ⟨S33280x1024, .f32⟩
  | 60 => ⟨S33280x1024, .f32⟩
  | 61 => ⟨S1x1024, .f32⟩
  | 62 => ⟨S1024, .f32⟩
  | 63 => ⟨S33280x1024, .f32⟩
  | 64 => ⟨S_, .f32⟩
  | 65 => ⟨S33280, .f32⟩
  | 66 => ⟨S33280x1, .f32⟩
  | 67 => ⟨S_, .f32⟩
  | 68 => ⟨S33280x1, .f32⟩
  | 69 => ⟨S33280x1, .f32⟩
  | 70 => ⟨S_, .f32⟩
  | 71 => ⟨S33280x1, .f32⟩
  | 72 => ⟨S33280x1, .f32⟩
  | 73 => ⟨S33280x1, .f32⟩
  | 74 => ⟨S33280x1024, .f32⟩
  | 75 => ⟨S33280x1024, .f32⟩
  | 76 => ⟨S1x1024, .f32⟩
  | 77 => ⟨S33280x1024, .f32⟩
  | 78 => ⟨S33280x1024, .f32⟩
  | 79 => ⟨S1x1024x4608, .f32⟩
  | 80 => ⟨S1024x4608, .f32⟩
  | 81 => ⟨S33280x4608, .f32⟩
  | 82 => ⟨S33280x512, .f32⟩
  | 83 => ⟨S_, .f32⟩
  | 84 => ⟨S33280x512, .f32⟩
  | 85 => ⟨S33280x512, .f32⟩
  | 86 => ⟨S33280x512, .f32⟩
  | 87 => ⟨S33280x512, .f32⟩
  | 88 => ⟨S4x8320x4608, .f32⟩
  | 89 => ⟨S4x8208x4608, .f32⟩
  | 90 => ⟨S4x8208x512, .f32⟩
  | 91 => ⟨S4x8208x512, .f32⟩
  | 92 => ⟨S4x8208x1024, .f32⟩
  | 93 => ⟨S4x8208x1024, .f32⟩
  | 94 => ⟨S4x8208x512, .f32⟩
  | 95 => ⟨S4x8208x512, .f32⟩
  | 96 => ⟨S_, .f32⟩
  | 97 => ⟨S4x8208x512, .f32⟩
  | 98 => ⟨S4x8208x512, .f32⟩
  | 99 => ⟨S_, .f32⟩
  | 100 => ⟨S4x8208x512, .f32⟩
  | 101 => ⟨S4x8208x512, .f32⟩
  | 102 => ⟨S4x8208x512, .f32⟩
  | 103 => ⟨S_, .i32⟩
  | 104 => ⟨S_, .f32⟩
  | 105 => ⟨S4x8238x512, .f32⟩
  | 106 => ⟨S4x8208x512, .f32⟩
  | 107 => ⟨S1x1x512, .f32⟩
  | 108 => ⟨S512, .f32⟩
  | 109 => ⟨S1x1x512, .f32⟩
  | 110 => ⟨S4x8208x512, .f32⟩
  | 111 => ⟨S4x8208x512, .f32⟩
  | 112 => ⟨S_, .f32⟩
  | 113 => ⟨S4x8208x512, .f32⟩
  | 114 => ⟨S4x8208x512, .f32⟩
  | 115 => ⟨S4x8208x512, .f32⟩
  | 116 => ⟨S1x1x512, .f32⟩
  | 117 => ⟨S512, .f32⟩
  | 118 => ⟨S1x1x512, .f32⟩
  | 119 => ⟨S4x8208x512, .f32⟩
  | 120 => ⟨S4x8208x512, .f32⟩
  | 121 => ⟨S4x8208x512, .f32⟩
  | 122 => ⟨S4x8208x512, .f32⟩
  | 123 => ⟨S1x1x512, .f32⟩
  | 124 => ⟨S512, .f32⟩
  | 125 => ⟨S1x1x512, .f32⟩
  | 126 => ⟨S4x8208x512, .f32⟩
  | 127 => ⟨S4x8208x512, .f32⟩
  | _ => ⟨S33280x1024, .f32⟩

abbrev hbmTy0_1 (i : Nat) : BufTy := match i % 128 with
  | 0 => ⟨S4x8208x512, .f32⟩
  | 1 => ⟨S4x8208x512, .f32⟩
  | 2 => ⟨S1x1x512, .f32⟩
  | 3 => ⟨S512, .f32⟩
  | 4 => ⟨S1x1x512, .f32⟩
  | 5 => ⟨S4x8208x512, .f32⟩
  | 6 => ⟨S4x8208x512, .f32⟩
  | 7 => ⟨S4x8208x512, .f32⟩
  | 8 => ⟨S4x8208x512, .f32⟩
  | 9 => ⟨S1x1x512, .f32⟩
  | 10 => ⟨S512, .f32⟩
  | 11 => ⟨S1x1x512, .f32⟩
  | 12 => ⟨S4x8208x512, .f32⟩
  | 13 => ⟨S4x8208x512, .f32⟩
  | 14 => ⟨S4x8208x512, .f32⟩
  | 15 => ⟨S4x8208x512, .f32⟩
  | 16 => ⟨S1x1x512, .f32⟩
  | 17 => ⟨S512, .f32⟩
  | 18 => ⟨S1x1x512, .f32⟩
  | 19 => ⟨S4x8208x512, .f32⟩
  | 20 => ⟨S4x8208x512, .f32⟩
  | 21 => ⟨S4x8208x512, .f32⟩
  | 22 => ⟨S4x8208x512, .f32⟩
  | 23 => ⟨S1x1x512, .f32⟩
  | 24 => ⟨S512, .f32⟩
  | 25 => ⟨S1x1x512, .f32⟩
  | 26 => ⟨S4x8208x512, .f32⟩
  | 27 => ⟨S4x8208x512, .f32⟩
  | 28 => ⟨S4x8208x512, .f32⟩
  | 29 => ⟨S4x8208x512, .f32⟩
  | 30 => ⟨S1x1x512, .f32⟩
  | 31 => ⟨S512, .f32⟩
  | 32 => ⟨S1x1x512, .f32⟩
  | 33 => ⟨S4x8208x512, .f32⟩
  | 34 => ⟨S4x8208x512, .f32⟩
  | 35 => ⟨S4x8208x512, .f32⟩
  | 36 => ⟨S4x8208x512, .f32⟩
  | 37 => ⟨S1x1x512, .f32⟩
  | 38 => ⟨S512, .f32⟩
  | 39 => ⟨S1x1x512, .f32⟩
  | 40 => ⟨S4x8208x512, .f32⟩
  | 41 => ⟨S4x8208x512, .f32⟩
  | 42 => ⟨S4x8208x512, .f32⟩
  | 43 => ⟨S4x8208x512, .f32⟩
  | 44 => ⟨S1x1x512, .f32⟩
  | 45 => ⟨S512, .f32⟩
  | 46 => ⟨S1x1x512, .f32⟩
  | 47 => ⟨S4x8208x512, .f32⟩
  | 48 => ⟨S4x8208x512, .f32⟩
  | 49 => ⟨S4x8208x512, .f32⟩
  | 50 => ⟨S4x8208x512, .f32⟩
  | 51 => ⟨S1x1x512, .f32⟩
  | 52 => ⟨S512, .f32⟩
  | 53 => ⟨S1x1x512, .f32⟩
  | 54 => ⟨S4x8208x512, .f32⟩
  | 55 => ⟨S4x8208x512, .f32⟩
  | 56 => ⟨S4x8208x512, .f32⟩
  | 57 => ⟨S4x8208x512, .f32⟩
  | 58 => ⟨S1x1x512, .f32⟩
  | 59 => ⟨S512, .f32⟩
  | 60 => ⟨S1x1x512, .f32⟩
  | 61 => ⟨S4x8208x512, .f32⟩
  | 62 => ⟨S4x8208x512, .f32⟩
  | 63 => ⟨S4x8208x512, .f32⟩
  | 64 => ⟨S4x8208x512, .f32⟩
  | 65 => ⟨S1x1x512, .f32⟩
  | 66 => ⟨S512, .f32⟩
  | 67 => ⟨S1x1x512, .f32⟩
  | 68 => ⟨S4x8208x512, .f32⟩
  | 69 => ⟨S4x8208x512, .f32⟩
  | 70 => ⟨S4x8208x512, .f32⟩
  | 71 => ⟨S4x8208x512, .f32⟩
  | 72 => ⟨S1x1x512, .f32⟩
  | 73 => ⟨S512, .f32⟩
  | 74 => ⟨S1x1x512, .f32⟩
  | 75 => ⟨S4x8208x512, .f32⟩
  | 76 => ⟨S4x8208x512, .f32⟩
  | 77 => ⟨S4x8208x512, .f32⟩
  | 78 => ⟨S4x8208x512, .f32⟩
  | 79 => ⟨S1x1x512, .f32⟩
  | 80 => ⟨S512, .f32⟩
  | 81 => ⟨S1x1x512, .f32⟩
  | 82 => ⟨S4x8208x512, .f32⟩
  | 83 => ⟨S4x8208x512, .f32⟩
  | 84 => ⟨S4x8208x512, .f32⟩
  | 85 => ⟨S4x8208x512, .f32⟩
  | 86 => ⟨S1x1x512, .f32⟩
  | 87 => ⟨S512, .f32⟩
  | 88 => ⟨S1x1x512, .f32⟩
  | 89 => ⟨S4x8208x512, .f32⟩
  | 90 => ⟨S4x8208x512, .f32⟩
  | 91 => ⟨S4x8208x512, .f32⟩
  | 92 => ⟨S4x8208x512, .f32⟩
  | 93 => ⟨S1x1x512, .f32⟩
  | 94 => ⟨S512, .f32⟩
  | 95 => ⟨S1x1x512, .f32⟩
  | 96 => ⟨S4x8208x512, .f32⟩
  | 97 => ⟨S4x8208x512, .f32⟩
  | 98 => ⟨S4x8208x512, .f32⟩
  | 99 => ⟨S4x8208x512, .f32⟩
  | 100 => ⟨S1x1x512, .f32⟩
  | 101 => ⟨S512, .f32⟩
  | 102 => ⟨S1x1x512, .f32⟩
  | 103 => ⟨S4x8208x512, .f32⟩
  | 104 => ⟨S4x8208x512, .f32⟩
  | 105 => ⟨S4x8208x512, .f32⟩
  | 106 => ⟨S4x8208x512, .f32⟩
  | 107 => ⟨S1x1x512, .f32⟩
  | 108 => ⟨S512, .f32⟩
  | 109 => ⟨S1x1x512, .f32⟩
  | 110 => ⟨S4x8208x512, .f32⟩
  | 111 => ⟨S4x8208x512, .f32⟩
  | 112 => ⟨S4x8208x512, .f32⟩
  | 113 => ⟨S4x8208x512, .f32⟩
  | 114 => ⟨S1x1x512, .f32⟩
  | 115 => ⟨S512, .f32⟩
  | 116 => ⟨S1x1x512, .f32⟩
  | 117 => ⟨S4x8208x512, .f32⟩
  | 118 => ⟨S4x8208x512, .f32⟩
  | 119 => ⟨S4x8208x512, .f32⟩
  | 120 => ⟨S4x8208x512, .f32⟩
  | 121 => ⟨S1x1x512, .f32⟩
  | 122 => ⟨S512, .f32⟩
  | 123 => ⟨S1x1x512, .f32⟩
  | 124 => ⟨S4x8208x512, .f32⟩
  | 125 => ⟨S4x8208x512, .f32⟩
  | 126 => ⟨S4x8208x512, .f32⟩
  | 127 => ⟨S4x8208x512, .f32⟩
  | _ => ⟨S33280x1024, .f32⟩

abbrev hbmTy0_2 (i : Nat) : BufTy := match i % 128 with
  | 0 => ⟨S1x1x512, .f32⟩
  | 1 => ⟨S512, .f32⟩
  | 2 => ⟨S1x1x512, .f32⟩
  | 3 => ⟨S4x8208x512, .f32⟩
  | 4 => ⟨S4x8208x512, .f32⟩
  | 5 => ⟨S4x8208x512, .f32⟩
  | 6 => ⟨S4x8208x512, .f32⟩
  | 7 => ⟨S1x1x512, .f32⟩
  | 8 => ⟨S512, .f32⟩
  | 9 => ⟨S1x1x512, .f32⟩
  | 10 => ⟨S4x8208x512, .f32⟩
  | 11 => ⟨S4x8208x512, .f32⟩
  | 12 => ⟨S4x8208x512, .f32⟩
  | 13 => ⟨S4x8208x512, .f32⟩
  | 14 => ⟨S1x1x512, .f32⟩
  | 15 => ⟨S512, .f32⟩
  | 16 => ⟨S1x1x512, .f32⟩
  | 17 => ⟨S4x8208x512, .f32⟩
  | 18 => ⟨S4x8208x512, .f32⟩
  | 19 => ⟨S4x8208x512, .f32⟩
  | 20 => ⟨S4x8208x512, .f32⟩
  | 21 => ⟨S1x1x512, .f32⟩
  | 22 => ⟨S512, .f32⟩
  | 23 => ⟨S1x1x512, .f32⟩
  | 24 => ⟨S4x8208x512, .f32⟩
  | 25 => ⟨S4x8208x512, .f32⟩
  | 26 => ⟨S4x8208x512, .f32⟩
  | 27 => ⟨S4x8208x512, .f32⟩
  | 28 => ⟨S1x1x512, .f32⟩
  | 29 => ⟨S512, .f32⟩
  | 30 => ⟨S1x1x512, .f32⟩
  | 31 => ⟨S4x8208x512, .f32⟩
  | 32 => ⟨S4x8208x512, .f32⟩
  | 33 => ⟨S4x8208x512, .f32⟩
  | 34 => ⟨S4x8208x512, .f32⟩
  | 35 => ⟨S1x1x512, .f32⟩
  | 36 => ⟨S512, .f32⟩
  | 37 => ⟨S1x1x512, .f32⟩
  | 38 => ⟨S4x8208x512, .f32⟩
  | 39 => ⟨S4x8208x512, .f32⟩
  | 40 => ⟨S4x8208x512, .f32⟩
  | 41 => ⟨S4x8208x512, .f32⟩
  | 42 => ⟨S1x1x512, .f32⟩
  | 43 => ⟨S512, .f32⟩
  | 44 => ⟨S1x1x512, .f32⟩
  | 45 => ⟨S4x8208x512, .f32⟩
  | 46 => ⟨S4x8208x512, .f32⟩
  | 47 => ⟨S4x8208x512, .f32⟩
  | 48 => ⟨S4x8208x512, .f32⟩
  | 49 => ⟨S1x1x512, .f32⟩
  | 50 => ⟨S512, .f32⟩
  | 51 => ⟨S1x1x512, .f32⟩
  | 52 => ⟨S4x8208x512, .f32⟩
  | 53 => ⟨S4x8208x512, .f32⟩
  | 54 => ⟨S4x8208x512, .f32⟩
  | 55 => ⟨S4x8208x512, .f32⟩
  | 56 => ⟨S1x1x512, .f32⟩
  | 57 => ⟨S512, .f32⟩
  | 58 => ⟨S1x1x512, .f32⟩
  | 59 => ⟨S4x8208x512, .f32⟩
  | 60 => ⟨S4x8208x512, .f32⟩
  | 61 => ⟨S4x8208x512, .f32⟩
  | 62 => ⟨S4x8208x512, .f32⟩
  | 63 => ⟨S1x1x512, .f32⟩
  | 64 => ⟨S512, .f32⟩
  | 65 => ⟨S1x1x512, .f32⟩
  | 66 => ⟨S4x8208x512, .f32⟩
  | 67 => ⟨S4x8208x512, .f32⟩
  | 68 => ⟨S4x8208x512, .f32⟩
  | 69 => ⟨S1x512, .f32⟩
  | 70 => ⟨S512, .f32⟩
  | 71 => ⟨S1x1x512, .f32⟩
  | 72 => ⟨S4x8208x512, .f32⟩
  | 73 => ⟨S4x8208x512, .f32⟩
  | 74 => ⟨S_, .f32⟩
  | 75 => ⟨S4x8208, .f32⟩
  | 76 => ⟨S4x8208x1, .f32⟩
  | 77 => ⟨S_, .f32⟩
  | 78 => ⟨S4x8208x1, .f32⟩
  | 79 => ⟨S4x8208x1, .f32⟩
  | 80 => ⟨S4x8208x512, .f32⟩
  | 81 => ⟨S4x8208x512, .f32⟩
  | 82 => ⟨S4x8208x512, .f32⟩
  | 83 => ⟨S_, .f32⟩
  | 84 => ⟨S4x8208, .f32⟩
  | 85 => ⟨S4x8208x1, .f32⟩
  | 86 => ⟨S_, .f32⟩
  | 87 => ⟨S4x8208x1, .f32⟩
  | 88 => ⟨S4x8208x1, .f32⟩
  | 89 => ⟨S4x8208x512, .f32⟩
  | 90 => ⟨S4x8208x512, .f32⟩
  | 91 => ⟨S_, .f32⟩
  | 92 => ⟨S4x8208x1, .f32⟩
  | 93 => ⟨S4x8208x1, .f32⟩
  | 94 => ⟨S4x8208x1, .f32⟩
  | 95 => ⟨S4x8208x512, .f32⟩
  | 96 => ⟨S4x8208x512, .f32⟩
  | 97 => ⟨S1x512, .f32⟩
  | 98 => ⟨S512, .f32⟩
  | 99 => ⟨S1x1x512, .f32⟩
  | 100 => ⟨S4x8208x512, .f32⟩
  | 101 => ⟨S4x8208x512, .f32⟩
  | 102 => ⟨S1x512, .f32⟩
  | 103 => ⟨S512, .f32⟩
  | 104 => ⟨S1x1x512, .f32⟩
  | 105 => ⟨S4x8208x512, .f32⟩
  | 106 => ⟨S4x8208x512, .f32⟩
  | 107 => ⟨S4x8208x512, .f32⟩
  | 108 => ⟨S4x8208x512, .f32⟩
  | 109 => ⟨S_, .f32⟩
  | 110 => ⟨S4x8208x512, .f32⟩
  | 111 => ⟨S4x8208x512, .f32⟩
  | 112 => ⟨S_, .f32⟩
  | 113 => ⟨S4x8208x512, .f32⟩
  | 114 => ⟨S4x8208x512, .f32⟩
  | 115 => ⟨S4x8208x512, .f32⟩
  | 116 => ⟨S1x512x1024, .f32⟩
  | 117 => ⟨S512x1024, .f32⟩
  | 118 => ⟨S4x8208x1024, .f32⟩
  | 119 => ⟨S33280x512, .f32⟩
  | 120 => ⟨S4x8320x512, .f32⟩
  | 121 => ⟨S4x8208x512, .f32⟩
  | 122 => ⟨S1x512x1024, .f32⟩
  | 123 => ⟨S512x1024, .f32⟩
  | 124 => ⟨S4x8208x1024, .f32⟩
  | 125 => ⟨S4x8208x1024, .f32⟩
  | 126 => ⟨S4x8208x1024, .f32⟩
  | 127 => ⟨S_, .f32⟩
  | _ => ⟨S33280x1024, .f32⟩

abbrev hbmTy0_3 (i : Nat) : BufTy := match i % 128 with
  | 0 => ⟨S4x8208x1024, .f32⟩
  | 1 => ⟨S4x8208x1024, .f32⟩
  | 2 => ⟨S_, .f32⟩
  | 3 => ⟨S4x8208x1024, .f32⟩
  | 4 => ⟨S4x8208x1024, .f32⟩
  | 5 => ⟨S4x8208x1024, .f32⟩
  | 6 => ⟨S4x8208x1024, .f32⟩
  | 7 => ⟨S4x8208x1024, .f32⟩
  | 8 => ⟨S_, .f32⟩
  | 9 => ⟨S4x8208x1024, .f32⟩
  | 10 => ⟨S4x8208x1024, .f32⟩
  | 11 => ⟨S_, .f32⟩
  | 12 => ⟨S4x8208x1024, .f32⟩
  | 13 => ⟨S4x8208x1024, .f32⟩
  | 14 => ⟨S4x8208x1024, .f32⟩
  | 15 => ⟨S4x8208x1024, .f32⟩
  | 16 => ⟨S4x8320x1024, .f32⟩
  | 17 => ⟨S4x8208x1024, .f32⟩
  | 18 => ⟨S1x1024x1024, .f32⟩
  | 19 => ⟨S1024x1024, .f32⟩
  | 20 => ⟨S4x8208x1024, .f32⟩
  | 21 => ⟨S4x8208x1024, .f32⟩
  | 22 => ⟨S1x1024, .f32⟩
  | 23 => ⟨S1024, .f32⟩
  | 24 => ⟨S1x1024x2816, .f32⟩
  | 25 => ⟨S1024x2816, .f32⟩
  | 26 => ⟨S1x1024x2816, .f32⟩
  | 27 => ⟨S1024x2816, .f32⟩
  | 28 => ⟨S1x2816x1024, .f32⟩
  | 29 => ⟨S2816x1024, .f32⟩
  | 30 => ⟨S4x8208x1024, .f32⟩
  | 31 => ⟨S_, .f32⟩
  | 32 => ⟨S4x8208, .f32⟩
  | 33 => ⟨S4x8208x1, .f32⟩
  | 34 => ⟨S_, .f32⟩
  | 35 => ⟨S4x8208x1, .f32⟩
  | 36 => ⟨S4x8208x1, .f32⟩
  | 37 => ⟨S_, .f32⟩
  | 38 => ⟨S4x8208x1, .f32⟩
  | 39 => ⟨S4x8208x1, .f32⟩
  | 40 => ⟨S4x8208x1, .f32⟩
  | 41 => ⟨S4x8208x1024, .f32⟩
  | 42 => ⟨S4x8208x1024, .f32⟩
  | 43 => ⟨S1x1x1024, .f32⟩
  | 44 => ⟨S4x8208x1024, .f32⟩
  | 45 => ⟨S4x8208x1024, .f32⟩
  | 46 => ⟨S4x8208x2816, .f32⟩
  | 47 => ⟨S4x8208x2816, .f32⟩
  | 48 => ⟨S4x8208x2816, .f32⟩
  | 49 => ⟨S_, .f32⟩
  | 50 => ⟨S4x8208x2816, .f32⟩
  | 51 => ⟨S4x8208x2816, .f32⟩
  | 52 => ⟨S_, .f32⟩
  | 53 => ⟨S4x8208x2816, .f32⟩
  | 54 => ⟨S4x8208x2816, .f32⟩
  | 55 => ⟨S4x8208x2816, .f32⟩
  | 56 => ⟨S4x8208x2816, .f32⟩
  | 57 => ⟨S4x8208x2816, .f32⟩
  | 58 => ⟨S4x8208x1024, .f32⟩
  | 59 => ⟨S_, .f32⟩
  | 60 => ⟨S4x8208x1024, .f32⟩
  | 61 => ⟨S4x8208x1024, .f32⟩
  | 62 => ⟨S4x8208x1024, .f32⟩
  | 63 => ⟨S4x8208x1024, .f32⟩
  | 64 => ⟨S_, .f32⟩
  | 65 => ⟨S4x8208, .f32⟩
  | 66 => ⟨S4x8208x1, .f32⟩
  | 67 => ⟨S_, .f32⟩
  | 68 => ⟨S4x8208x1, .f32⟩
  | 69 => ⟨S4x8208x1, .f32⟩
  | 70 => ⟨S_, .f32⟩
  | 71 => ⟨S4x8208x1, .f32⟩
  | 72 => ⟨S4x8208x1, .f32⟩
  | 73 => ⟨S4x8208x1, .f32⟩
  | 74 => ⟨S4x8208x1024, .f32⟩
  | 75 => ⟨S4x8208x1024, .f32⟩
  | 76 => ⟨S1x1x1024, .f32⟩
  | 77 => ⟨S4x8208x1024, .f32⟩
  | 78 => ⟨S4x8208x1024, .f32⟩
  | 79 => ⟨S4x8192x1024, .f32⟩
  | 80 => ⟨S32768x1024, .f32⟩
  | 81 => ⟨S33280x512, .bf16⟩
  | 82 => ⟨S33280x512, .bf16⟩
  | 83 => ⟨S33280x512, .bf16⟩
  | _ => ⟨S33280x1024, .f32⟩

abbrev hbmTy (i : Nat) : BufTy := match i / 128 with
  | 0 => hbmTy0_0 i
  | 1 => hbmTy0_1 i
  | 2 => hbmTy0_2 i
  | 3 => hbmTy0_3 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_2 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_6 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_v61 : Ref sig .tc := ⟨.hbm, 98, rfl⟩
abbrev main_cst_8 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c : Ref sig .tc := ⟨.hbm, 103, rfl⟩
abbrev main_call1_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_9 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_cst_10 : Ref sig .tc := ⟨.hbm, 330, rfl⟩
abbrev main_v289 : Ref sig .tc := ⟨.hbm, 331, rfl⟩
abbrev main_v290 : Ref sig .tc := ⟨.hbm, 332, rfl⟩
abbrev main_cst_11 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_cst_12 : Ref sig .tc := ⟨.hbm, 339, rfl⟩
abbrev main_v296 : Ref sig .tc := ⟨.hbm, 340, rfl⟩
abbrev main_v297 : Ref sig .tc := ⟨.hbm, 341, rfl⟩
abbrev main_cst_13 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_cst_14 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_call2_v0 : Ref sig .tc := ⟨.hbm, 363, rfl⟩
abbrev main_call2_v1 : Ref sig .tc := ⟨.hbm, 364, rfl⟩
abbrev main_call2_cst : Ref sig .tc := ⟨.hbm, 365, rfl⟩
abbrev main_call2_v2 : Ref sig .tc := ⟨.hbm, 366, rfl⟩
abbrev main_call2_v3 : Ref sig .tc := ⟨.hbm, 367, rfl⟩
abbrev main_call2_cst_0 : Ref sig .tc := ⟨.hbm, 368, rfl⟩
abbrev main_call2_v4 : Ref sig .tc := ⟨.hbm, 369, rfl⟩
abbrev main_call2_v5 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_cst_15 : Ref sig .tc := ⟨.hbm, 383, rfl⟩
abbrev main_v329 : Ref sig .tc := ⟨.hbm, 384, rfl⟩
abbrev main_v330 : Ref sig .tc := ⟨.hbm, 385, rfl⟩
abbrev main_cst_16 : Ref sig .tc := ⟨.hbm, 386, rfl⟩
abbrev main_v331 : Ref sig .tc := ⟨.hbm, 387, rfl⟩
abbrev main_v332 : Ref sig .tc := ⟨.hbm, 388, rfl⟩
abbrev main_v333 : Ref sig .tc := ⟨.hbm, 389, rfl⟩
abbrev main_v334 : Ref sig .tc := ⟨.hbm, 390, rfl⟩
abbrev main_v335 : Ref sig .tc := ⟨.hbm, 391, rfl⟩
abbrev main_cst_17 : Ref sig .tc := ⟨.hbm, 392, rfl⟩
abbrev main_v336 : Ref sig .tc := ⟨.hbm, 393, rfl⟩
abbrev main_v337 : Ref sig .tc := ⟨.hbm, 394, rfl⟩
abbrev main_cst_18 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_v341 : Ref sig .tc := ⟨.hbm, 399, rfl⟩
abbrev main_v342 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_cst_19 : Ref sig .tc := ⟨.hbm, 415, rfl⟩
abbrev main_v357 : Ref sig .tc := ⟨.hbm, 416, rfl⟩
abbrev main_v358 : Ref sig .tc := ⟨.hbm, 417, rfl⟩
abbrev main_cst_20 : Ref sig .tc := ⟨.hbm, 418, rfl⟩
abbrev main_v359 : Ref sig .tc := ⟨.hbm, 419, rfl⟩
abbrev main_v360 : Ref sig .tc := ⟨.hbm, 420, rfl⟩
abbrev main_cst_21 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_v366 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_call3_v0 : Ref sig .tc := ⟨.hbm, 431, rfl⟩
abbrev main_call3_v1 : Ref sig .tc := ⟨.hbm, 432, rfl⟩
abbrev main_call3_cst : Ref sig .tc := ⟨.hbm, 433, rfl⟩
abbrev main_call3_v2 : Ref sig .tc := ⟨.hbm, 434, rfl⟩
abbrev main_call3_v3 : Ref sig .tc := ⟨.hbm, 435, rfl⟩
abbrev main_call3_cst_0 : Ref sig .tc := ⟨.hbm, 436, rfl⟩
abbrev main_call3_v4 : Ref sig .tc := ⟨.hbm, 437, rfl⟩
abbrev main_call3_v5 : Ref sig .tc := ⟨.hbm, 438, rfl⟩
abbrev main_v370 : Ref sig .tc := ⟨.hbm, 439, rfl⟩
abbrev main_v371 : Ref sig .tc := ⟨.hbm, 440, rfl⟩
abbrev main_v372 : Ref sig .tc := ⟨.hbm, 441, rfl⟩
abbrev main_v373 : Ref sig .tc := ⟨.hbm, 442, rfl⟩
abbrev main_cst_22 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_cst_23 : Ref sig .tc := ⟨.hbm, 448, rfl⟩
abbrev main_v378 : Ref sig .tc := ⟨.hbm, 449, rfl⟩
abbrev main_v379 : Ref sig .tc := ⟨.hbm, 450, rfl⟩
abbrev main_cst_24 : Ref sig .tc := ⟨.hbm, 451, rfl⟩
abbrev main_v380 : Ref sig .tc := ⟨.hbm, 452, rfl⟩
abbrev main_v381 : Ref sig .tc := ⟨.hbm, 453, rfl⟩
abbrev main_cst_25 : Ref sig .tc := ⟨.hbm, 454, rfl⟩
abbrev main_v382 : Ref sig .tc := ⟨.hbm, 455, rfl⟩
abbrev main_v383 : Ref sig .tc := ⟨.hbm, 456, rfl⟩
abbrev main_v384 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_v388 : Ref sig .tc := ⟨.hbm, 461, rfl⟩
abbrev main_v389 : Ref sig .tc := ⟨.hbm, 462, rfl⟩
abbrev main_v390 : Ref sig .tc := ⟨.hbm, 463, rfl⟩
abbrev main_v391 : Ref sig .tc := ⟨.hbm, 464, rfl⟩
abbrev main_v392 : Ref sig .tc := ⟨.hbm, 465, rfl⟩
abbrev main_v393 : Ref sig .tc := ⟨.hbm, 466, rfl⟩
abbrev main_v394 : Ref sig .tc := ⟨.hbm, 467, rfl⟩

abbrev nD : Nat := 1
abbrev τ : Topo := Topo.v7x

variable {F : FTy → Type} [FloatOps F]
-- ==== Kernel2.lean ====
abbrev S4x8192x1024 : Shape := ⟨3, ![4, 8192, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S32768x1024 : Shape := ⟨2, ![32768, 1024]⟩
abbrev S_ : Shape := ⟨0, ![]⟩
abbrev S112x1024 : Shape := ⟨2, ![112, 1024]⟩
abbrev S128x1024 : Shape := ⟨2, ![128, 1024]⟩
abbrev S1x1024 : Shape := ⟨2, ![1, 1024]⟩
abbrev S1024 : Shape := ⟨1, ![1024]⟩
abbrev S33280x1024 : Shape := ⟨2, ![33280, 1024]⟩
abbrev S1040x1024 : Shape := ⟨2, ![1040, 1024]⟩
abbrev S1x1024x2816 : Shape := ⟨3, ![1, 1024, 2816]⟩
abbrev S1x2816x1024 : Shape := ⟨3, ![1, 2816, 1024]⟩
abbrev S1040x2816 : Shape := ⟨2, ![1040, 2816]⟩
abbrev S912x1024 : Shape := ⟨2, ![912, 1024]⟩
abbrev S1040 : Shape := ⟨1, ![1040]⟩
abbrev S1040x1 : Shape := ⟨2, ![1040, 1]⟩
abbrev S1x1024x256 : Shape := ⟨3, ![1, 1024, 256]⟩
abbrev S1024x256 : Shape := ⟨2, ![1024, 256]⟩
abbrev S1040x256 : Shape := ⟨2, ![1040, 256]⟩
abbrev S2816x1024 : Shape := ⟨2, ![2816, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S32768x1024, .f32⟩
  | .hbm, ⟨7, _⟩ => ⟨S_, .f32⟩
  | .hbm, ⟨8, _⟩ => ⟨S112x1024, .f32⟩
  | .hbm, ⟨9, _⟩ => ⟨S128x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S2x1024x2816, .bf16⟩
  | .hbm, ⟨14, _⟩ => ⟨S2x1024x2816, .bf16⟩
  | .hbm, ⟨15, _⟩ => ⟨S2x2816x1024, .bf16⟩
  | .hbm, ⟨16, _⟩ => ⟨S33280x1024, .f32⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S128x1024, .f32⟩
  | .local _ .vmem, ⟨7, _⟩ => ⟨S1040x1024, .f32⟩
  | .local _ .vmem, ⟨8, _⟩ => ⟨S1040x1024, .f32⟩
  | .local _ .vmem, ⟨9, _⟩ => ⟨S1040x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c8192_i32 : BitVec 32 := 8192#32
  let v17 : BitVec 32 := Scalar.muli v16 c8192_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c1040_i32 : BitVec 32 := 1040#32
  let v28 : BitVec 32 := Scalar.muli v27 c1040_i32
  let c128_i32 : BitVec 32 := 128#32
  let v29 : BitVec 32 := Scalar.subi v28 c128_i32
  let c0_i32_10 : BitVec 32 := 0#32
  let v30 : BitVec 32 := Scalar.maxsi v29 c0_i32_10
  let v31 : BitVec 32 := Scalar.addi v17 v30
  v31
def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8192_i32 : BitVec 32 := 8192#32
  let v17 : BitVec 32 := Scalar.muli v16 c8192_i32
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1040_i32 : BitVec 32 := 1040#32
  let v28 : BitVec 32 := Scalar.muli v27 c1040_i32
  let c128_i32 : BitVec 32 := 128#32
  let v29 : BitVec 32 := Scalar.subi v28 c128_i32
  let c0_i32_10 : BitVec 32 := 0#32
  let v30 : BitVec 32 := Scalar.maxsi v29 c0_i32_10
  let v31 : BitVec 32 := Scalar.addi v17 v30
  let v32 : BitVec 32 := v31
  let c0_i32_11 : BitVec 32 := 0#32
  let c0_i32_12 : BitVec 32 := 0#32
  ![v32.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1040x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x8192x1024 : Shape := ⟨3, ![4, 8192, 1024]⟩
abbrev S16x1024 : Shape := ⟨2, ![16, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S4x16x1024 : Shape := ⟨3, ![4, 16, 1024]⟩
abbrev S4x8208x1024 : Shape := ⟨3, ![4, 8208, 1024]⟩
abbrev S1x1024 : Shape := ⟨2, ![1, 1024]⟩
abbrev S1024 : Shape := ⟨1, ![1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S_ : Shape := ⟨0, ![]⟩
abbrev S4x8208 : Shape := ⟨2, ![4, 8208]⟩
abbrev S4x8208x1 : Shape := ⟨3, ![4, 8208, 1]⟩
abbrev S1x1x1024 : Shape := ⟨3, ![1, 1, 1024]⟩
abbrev S4x8208x2816 : Shape := ⟨3, ![4, 8208, 2816]⟩
abbrev S4x8320x1024 : Shape := ⟨3, ![4, 8320, 1024]⟩
abbrev S33280x1024 : Shape := ⟨2, ![33280, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S4x16x1024, .f32⟩
  | .hbm, ⟨7, _⟩ => ⟨S4x8208x1024, .f32⟩
  | .hbm, ⟨8, _⟩ => ⟨S1x1024, .f32⟩
  | .hbm, ⟨9, _⟩ => ⟨S1024, .f32⟩
  | .hbm, ⟨10, _⟩ => ⟨S1x1024x2816, .f32⟩
  | .hbm, ⟨11, _⟩ => ⟨S1024x2816, .f32⟩
  | .hbm, ⟨12, _⟩ => ⟨S1x1024x2816, .f32⟩
  | .hbm, ⟨13, _⟩ => ⟨S1024x2816, .f32⟩
  | .hbm, ⟨14, _⟩ => ⟨S1x2816x1024, .f32⟩
  | .hbm, ⟨15, _⟩ => ⟨S2816x1024, .f32⟩
  | .hbm, ⟨16, _⟩ => ⟨S4x8208x1024, .f32⟩
  | .hbm, ⟨17, _⟩ => ⟨S_, .f32⟩
  | .hbm, ⟨18, _⟩ => ⟨S4x8208, .f32⟩
  | .hbm, ⟨19, _⟩ => ⟨S4x8208x1, .f32⟩
  | .hbm, ⟨20, _⟩ => ⟨S_, .f32⟩
  | .hbm, ⟨21, _⟩ => ⟨S4x8208x1, .f32⟩
  | .hbm, ⟨22, _⟩ => ⟨S4x8208x1, .f32⟩
  | .hbm, ⟨23, _⟩ => ⟨S_, .f32⟩
  | .hbm, ⟨24, _⟩ => ⟨S4x8208x1, .f32⟩
  | .hbm, ⟨25, _⟩ => ⟨S4x8208x1, .f32⟩
  | .hbm, ⟨26, _⟩ => ⟨S4x8208x1, .f32⟩
  | .hbm, ⟨27, _⟩ => ⟨S4x8208x1024, .f32⟩
  | .hbm, ⟨28, _⟩ => ⟨S4x8208x1024, .f32⟩
  | .hbm, ⟨29, _⟩ => ⟨S1x1x1024, .f32⟩
  | .hbm, ⟨30, _⟩ => ⟨S4x8208x1024, .f32⟩
  | .hbm, ⟨31, _⟩ => ⟨S4x8208x1024, .f32⟩
  | .hbm, ⟨32, _⟩ => ⟨S4x8208x2816, .f32⟩
  | .hbm, ⟨33, _⟩ => ⟨S4x8208x2816, .f32⟩
  | .hbm, ⟨34, _⟩ => ⟨S4x8208x2816, .f32⟩
  | .hbm, ⟨35, _⟩ => ⟨S_, .f32⟩
  | .hbm, ⟨36, _⟩ => ⟨S4x8208x2816, .f32⟩
  | .hbm, ⟨37, _⟩ => ⟨S4x8208x2816, .f32⟩
  | .hbm, ⟨38, _⟩ => ⟨S_, .f32⟩
  | .hbm, ⟨39, _⟩ => ⟨S4x8208x2816, .f32⟩
  | .hbm, ⟨40, _⟩ => ⟨S4x8208x2816, .f32⟩
  | .hbm, ⟨41, _⟩ => ⟨S4x8208x2816, .f32⟩
  | .hbm, ⟨42, _⟩ => ⟨S4x8208x2816, .f32⟩
  | .hbm, ⟨43, _⟩ => ⟨S4x8208x2816, .f32⟩
  | .hbm, ⟨44, _⟩ => ⟨S4x8208x1024, .f32⟩
  | .hbm, ⟨45, _⟩ => ⟨S_, .f32⟩
  | .hbm, ⟨46, _⟩ => ⟨S4x8208x1024, .f32⟩
  | .hbm, ⟨47, _⟩ => ⟨S4x8208x1024, .f32⟩
  | .hbm, ⟨48, _⟩ => ⟨S4x8208x1024, .f32⟩
  | .hbm, ⟨49, _⟩ => ⟨S_, .i32⟩
  | .hbm, ⟨50, _⟩ => ⟨S_, .f32⟩
  | .hbm, ⟨51, _⟩ => ⟨S4x8320x1024, .f32⟩
  | .hbm, ⟨52, _⟩ => ⟨S33280x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S2x1024x2816 : Shape := ⟨3, ![2, 1024, 2816]⟩
abbrev S2x2816x1024 : Shape := ⟨3, ![2, 2816, 1024]⟩
abbrev S2x1024x4608 : Shape := ⟨3, ![2, 1024, 4608]⟩
abbrev S2x512x1024 : Shape := ⟨3, ![2, 512, 1024]⟩
abbrev S2x1024x1024 : Shape := ⟨3, ![2, 1024, 1024]⟩
abbrev S2x1024x2560 : Shape := ⟨3, ![2, 1024, 2560]⟩
abbrev S2x1024x2048 : Shape := ⟨3, ![2, 1024, 2048]⟩
abbrev S1x512x4608 : Shape := ⟨3, ![1, 512, 4608]⟩
abbrev S1x512x2560 : Shape := ⟨3, ![1, 512, 2560]⟩
abbrev S1x512x2048 : Shape := ⟨3, ![1, 512, 2048]⟩
abbrev S512x2560 : Shape := ⟨2, ![512, 2560]⟩
abbrev S512x2048 : Shape := ⟨2, ![512, 2048]⟩
abbrev S1x512x2816 : Shape := ⟨3, ![1, 512, 2816]⟩
abbrev S512x2816 : Shape := ⟨2, ![512, 2816]⟩
abbrev S1x1408x1024 : Shape := ⟨3, ![1, 1408, 1024]⟩
abbrev S1408x1024 : Shape := ⟨2, ![1408, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S2x1024x2816, .f32⟩
  | .hbm, ⟨1, _⟩ => ⟨S2x2816x1024, .f32⟩
  | .hbm, ⟨2, _⟩ => ⟨S2x1024x4608, .f32⟩
  | .hbm, ⟨3, _⟩ => ⟨S2x512x1024, .f32⟩
  | .hbm, ⟨4, _⟩ => ⟨S2x1024x1024, .f32⟩
  | .hbm, ⟨5, _⟩ => ⟨S2x1024x2560, .bf16⟩
  | .hbm, ⟨6, _⟩ => ⟨S2x1024x2048, .bf16⟩
  | .hbm, ⟨7, _⟩ => ⟨S2x1024x2816, .bf16⟩
  | .hbm, ⟨8, _⟩ => ⟨S2x2816x1024, .bf16⟩
  | .hbm, ⟨9, _⟩ => ⟨S2x512x1024, .bf16⟩
  | .hbm, ⟨10, _⟩ => ⟨S2x1024x1024, .bf16⟩
  | .local _ .vmem, ⟨0, _⟩ => ⟨S1x512x4608, .f32⟩
  | .local _ .vmem, ⟨1, _⟩ => ⟨S1x512x4608, .f32⟩
  | .local _ .vmem, ⟨2, _⟩ => ⟨S1x512x2560, .bf16⟩
  | .local _ .vmem, ⟨3, _⟩ => ⟨S1x512x2560, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2816, .f32⟩
  | .local _ .vmem, ⟨7, _⟩ => ⟨S1x512x2816, .f32⟩
  | .local _ .vmem, ⟨8, _⟩ => ⟨S1x512x2816, .bf16⟩
  | .local _ .vmem, ⟨9, _⟩ => ⟨S1x512x2816, .bf16⟩
  | .local _ .vmem, ⟨10, _⟩ => ⟨S1x1408x1024, .f32⟩
  | .local _ .vmem, ⟨11, _⟩ => ⟨S1x1408x1024, .f32⟩
  | .local _ .vmem, ⟨12, _⟩ => ⟨S1x1408x1024, .bf16⟩
  | .local _ .vmem, ⟨13, _⟩ => ⟨S1x1408x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | _, _ => ⟨S2x1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc4_sem0_0 : DmaSem sig := 18
abbrev cc4_sem0_1 : DmaSem sig := 19
abbrev cc4_sem1_0 : DmaSem sig := 20
abbrev cc4_sem1_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2816 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![2, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1408x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![2, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![2, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]
-- ==== Reference3Ideal.lean ====
abbrev S2x1024x2816 : Shape := ⟨3, ![2, 1024, 2816]⟩
abbrev S2x2816x1024 : Shape := ⟨3, ![2, 2816, 1024]⟩
abbrev S2x1024x4608 : Shape := ⟨3, ![2, 1024, 4608]⟩
abbrev S2x512x1024 : Shape := ⟨3, ![2, 512, 1024]⟩
abbrev S2x1024x1024 : Shape := ⟨3, ![2, 1024, 1024]⟩
abbrev S2x1024x2560 : Shape := ⟨3, ![2, 1024, 2560]⟩
abbrev S2x1024x2048 : Shape := ⟨3, ![2, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x1024x2816, .f32⟩
  | .hbm, ⟨1, _⟩ => ⟨S2x2816x1024, .f32⟩
  | .hbm, ⟨2, _⟩ => ⟨S2x1024x4608, .f32⟩
  | .hbm, ⟨3, _⟩ => ⟨S2x512x1024, .f32⟩
  | .hbm, ⟨4, _⟩ => ⟨S2x1024x1024, .f32⟩
  | .hbm, ⟨5, _⟩ => ⟨S2x1024x2560, .f32⟩
  | .hbm, ⟨6, _⟩ => ⟨S2x1024x2048, .f32⟩
  | .hbm, ⟨7, _⟩ => ⟨S2x1024x2816, .bf16⟩
  | .hbm, ⟨8, _⟩ => ⟨S2x2816x1024, .bf16⟩
  | .hbm, ⟨9, _⟩ => ⟨S2x1024x2560, .bf16⟩
  | .hbm, ⟨10, _⟩ => ⟨S2x1024x2048, .bf16⟩
  | .hbm, ⟨11, _⟩ => ⟨S2x512x1024, .bf16⟩
  | .hbm, ⟨12, _⟩ => ⟨S2x1024x1024, .bf16⟩
  | _, _ => ⟨S2x1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S33280x1024 : Shape := ⟨2, ![33280, 1024]⟩
abbrev S33280x512 : Shape := ⟨2, ![33280, 512]⟩
abbrev S2x1024 : Shape := ⟨2, ![2, 1024]⟩
abbrev S2x1024x4608 : Shape := ⟨3, ![2, 1024, 4608]⟩
abbrev S2x512x1024 : Shape := ⟨3, ![2, 512, 1024]⟩
abbrev S2x31x512 : Shape := ⟨3, ![2, 31, 512]⟩
abbrev S2x512 : Shape := ⟨2, ![2, 512]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S2x1024x2560 : Shape := ⟨3, ![2, 1024, 2560]⟩
abbrev S2x1024x2048 : Shape := ⟨3, ![2, 1024, 2048]⟩
abbrev S1x1024 : Shape := ⟨2, ![1, 1024]⟩
abbrev S1024 : Shape := ⟨1, ![1024]⟩
abbrev S1040x1024 : Shape := ⟨2, ![1040, 1024]⟩
abbrev S1x1024x2560 : Shape := ⟨3, ![1, 1024, 2560]⟩
abbrev S1040x512 : Shape := ⟨2, ![1040, 512]⟩
abbrev S1040 : Shape := ⟨1, ![1040]⟩
abbrev S1040x1 : Shape := ⟨2, ![1040, 1]⟩
abbrev S1x1024x512 : Shape := ⟨3, ![1, 1024, 512]⟩
abbrev S1024x512 : Shape := ⟨2, ![1024, 512]⟩
abbrev S1x31x512 : Shape := ⟨3, ![1, 31, 512]⟩
abbrev S31x512 : Shape := ⟨2, ![31, 512]⟩
abbrev S31x1x512 : Shape := ⟨3, ![31, 1, 512]⟩
abbrev S31x8x512 : Shape := ⟨3, ![31, 8, 512]⟩
abbrev S1x512 : Shape := ⟨2, ![1, 512]⟩
abbrev S512 : Shape := ⟨1, ![512]⟩
abbrev S640x1024 : Shape := ⟨2, ![640, 1024]⟩
abbrev S1x1024x2048 : Shape := ⟨3, ![1, 1024, 2048]⟩
abbrev S640x512 : Shape := ⟨2, ![640, 512]⟩
abbrev S32x512 : Shape := ⟨2, ![32, 512]⟩
abbrev S1x512x1024 : Shape := ⟨3, ![1, 512, 1024]⟩
abbrev S1x1024x1024 : Shape := ⟨3, ![1, 1024, 1024]⟩
abbrev S672x512 : Shape := ⟨2, ![672, 512]⟩
abbrev S8x83x8x512 : Shape := ⟨4, ![8, 83, 8, 512]⟩
abbrev S664x512 : Shape := ⟨2, ![664, 512]⟩
abbrev S83x8x512 : Shape := ⟨3, ![83, 8, 512]⟩
abbrev S1x83x8x512 : Shape := ⟨4, ![1, 83, 8, 512]⟩
abbrev S656x512 : Shape := ⟨2, ![656, 512]⟩
abbrev S82x8x512 : Shape := ⟨3, ![82, 8, 512]⟩
abbrev S1x82x8x512 : Shape := ⟨4, ![1, 82, 8, 512]⟩
abbrev S1x1x512 : Shape := ⟨3, ![1, 1, 512]⟩
abbrev S4x8x512 : Shape := ⟨3, ![4, 8, 512]⟩
abbrev S1x8x512 : Shape := ⟨3, ![1, 8, 512]⟩
abbrev S8x512 : Shape := ⟨2, ![8, 512]⟩
abbrev S1x4x8x512 : Shape := ⟨4, ![1, 4, 8, 512]⟩
abbrev S32 : Shape := ⟨1, ![32]⟩
abbrev S32x1 : Shape := ⟨2, ![32, 1]⟩
abbrev S320x1024 : Shape := ⟨2, ![320, 1024]⟩
abbrev S320 : Shape := ⟨1, ![320]⟩
abbrev S320x1 : Shape := ⟨2, ![320, 1]⟩
abbrev S1024x1024 : Shape := ⟨2, ![1024, 1024]⟩
abbrev S320x512 : Shape := ⟨2, ![320, 512]⟩
abbrev S512x1024 : Shape := ⟨2, ![512, 1024]⟩
abbrev S1x1024x2816 : Shape := ⟨3, ![1, 1024, 2816]⟩
abbrev S1x2816x1024 : Shape := ⟨3, ![1, 2816, 1024]⟩
abbrev S1040x2816 : Shape := ⟨2, ![1040, 2816]⟩
abbrev S1x1024x256 : Shape := ⟨3, ![1, 1024, 256]⟩
abbrev S1024x256 : Shape := ⟨2, ![1024, 256]⟩
abbrev S1040x256 : Shape := ⟨2, ![1040, 256]⟩
abbrev S2816x1024 : Shape := ⟨2, ![2816, 1024]⟩
abbrev S4x8320x1024 : Shape := ⟨3, ![4, 8320, 1024]⟩
abbrev S4x8208x1024 : Shape := ⟨3, ![4, 8208, 1024]⟩

abbrev nBuf : Space → Nat
  | .hbm => 55
  | .vmem => 43
  | .smem => 0
  | _ => 0

abbrev bufTy : (tb : Table) → Fin (tcTables nBuf tb) → BufTy
  | .hbm, ⟨0, _⟩ => ⟨S33280x1024, .f32⟩
  | .hbm, ⟨1, _⟩ => ⟨S33280x512, .bf16⟩
  | .hbm, ⟨2, _⟩ => ⟨S2x1024, .f32⟩
  | .hbm, ⟨3, _⟩ => ⟨S2x1024x4608, .f32⟩
  | .hbm, ⟨4, _⟩ => ⟨S2x512x1024, .f32⟩
  | .hbm, ⟨5, _⟩ => ⟨S2x31x512, .f32⟩
  | .hbm, ⟨6, _⟩ => ⟨S2x512, .f32⟩
  | .hbm, ⟨7, _⟩ => ⟨S2x512, .f32⟩
  | .hbm, ⟨8, _⟩ => ⟨S2x512, .f32⟩
  | .hbm, ⟨9, _⟩ => ⟨S2x512x1024, .f32⟩
  | .hbm, ⟨10, _⟩ => ⟨S2x1024x1024, .f32⟩
  | .hbm, ⟨11, _⟩ => ⟨S2x1024, .f32⟩
  | .hbm, ⟨12, _⟩ => ⟨S2x1024x2816, .f32⟩
  | .hbm, ⟨13, _⟩ => ⟨S2x1024x2816, .f32⟩
  | .hbm, ⟨14, _⟩ => ⟨S2x2816x1024, .f32⟩
  | .hbm, ⟨15, _⟩ => ⟨S2x1024x2816, .bf16⟩
  | .hbm, ⟨16, _⟩ => ⟨S2x1024x2816, .bf16⟩
  | .hbm, ⟨17, _⟩ => ⟨S2x2816x1024, .bf16⟩
  | .hbm, ⟨18, _⟩ => ⟨S2x1024x2560, .f32⟩
  | .hbm, ⟨19, _⟩ => ⟨S2x1024x2560, .bf16⟩
  | .hbm, ⟨20, _⟩ => ⟨S2x1024x2048, .f32⟩
  | .hbm, ⟨21, _⟩ => ⟨S2x1024x2048, .bf16⟩
  | .hbm, ⟨22, _⟩ => ⟨S2x512x1024, .bf16⟩
  | .hbm, ⟨23, _⟩ => ⟨S2x512x1024, .bf16⟩
  | .hbm, ⟨24, _⟩ => ⟨S2x1024x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S33280x512, .bf16⟩
  | .hbm, ⟨29, _⟩ => ⟨S33280x512, .bf16⟩
  | .hbm, ⟨30, _⟩ => ⟨S33280x512, .bf16⟩
  | .hbm, ⟨31, _⟩ => ⟨S33280x512, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1x31x512, .f32⟩
  | .hbm, ⟨36, _⟩ => ⟨S31x512, .f32⟩
  | .hbm, ⟨37, _⟩ => ⟨S31x1x512, .f32⟩
  | .hbm, ⟨38, _⟩ => ⟨S31x8x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S1x512, .f32⟩
  | .hbm, ⟨43, _⟩ => ⟨S512, .f32⟩
  | .hbm, ⟨44, _⟩ => ⟨S1x512, .f32⟩
  | .hbm, ⟨45, _⟩ => ⟨S1x512, .f32⟩
  | .hbm, ⟨46, _⟩ => ⟨S512, .f32⟩
  | .hbm, ⟨47, _⟩ => ⟨S1x512, .f32⟩
  | .hbm, ⟨48, _⟩ => ⟨S33280x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S33280x1024, .f32⟩
  | .hbm, ⟨53, _⟩ => ⟨S4x8320x1024, .f32⟩
  | .hbm, ⟨54, _⟩ => ⟨S4x8208x1024, .f32⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1x1024x2560, .bf16⟩
  | .local _ .vmem, ⟨4, _⟩ => ⟨S1040x512, .bf16⟩
  | .local _ .vmem, ⟨5, _⟩ => ⟨S1040x512, .bf16⟩
  | .local _ .vmem, ⟨6, _⟩ => ⟨S1040x512, .bf16⟩
  | .local _ .vmem, ⟨7, _⟩ => ⟨S1040x512, .bf16⟩
  | .local _ .vmem, ⟨8, _⟩ => ⟨S1040x512, .bf16⟩
  | .local _ .vmem, ⟨9, _⟩ => ⟨S1040x512, .bf16⟩
  | .local _ .vmem, ⟨10, _⟩ => ⟨S1040x512, .f32⟩
  | .local _ .vmem, ⟨11, _⟩ => ⟨S1040x512, .f32⟩
  | .local _ .vmem, ⟨12, _⟩ => ⟨S640x1024, .f32⟩
  | .local _ .vmem, ⟨13, _⟩ => ⟨S640x1024, .f32⟩
  | .local _ .vmem, ⟨14, _⟩ => ⟨S1x1024, .f32⟩
  | .local _ .vmem, ⟨15, _⟩ => ⟨S1x1024x2048, .bf16⟩
  | .local _ .vmem, ⟨16, _⟩ => ⟨S640x512, .bf16⟩
  | .local _ .vmem, ⟨17, _⟩ => ⟨S640x512, .bf16⟩
  | .local _ .vmem, ⟨18, _⟩ => ⟨S640x512, .f32⟩
  | .local _ .vmem, ⟨19, _⟩ => ⟨S640x512, .f32⟩
  | .local _ .vmem, ⟨20, _⟩ => ⟨S32x512, .f32⟩
  | .local _ .vmem, ⟨21, _⟩ => ⟨S32x512, .f32⟩
  | .local _ .vmem, ⟨22, _⟩ => ⟨S31x8x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512x1024, .bf16⟩
  | .local _ .vmem, ⟨27, _⟩ => ⟨S1x512x1024, .bf16⟩
  | .local _ .vmem, ⟨28, _⟩ => ⟨S1x1024x1024, .bf16⟩
  | .local _ .vmem, ⟨29, _⟩ => ⟨S640x1024, .f32⟩
  | .local _ .vmem, ⟨30, _⟩ => ⟨S640x1024, .f32⟩
  | .local _ .vmem, ⟨31, _⟩ => ⟨S672x512, .f32⟩
  | .local _ .vmem, ⟨32, _⟩ => ⟨S8x83x8x512, .f32⟩
  | .local _ .vmem, ⟨33, _⟩ => ⟨S640x512, .bf16⟩
  | .local _ .vmem, ⟨34, _⟩ => ⟨S1040x1024, .f32⟩
  | .local _ .vmem, ⟨35, _⟩ => ⟨S1040x1024, .f32⟩
  | .local _ .vmem, ⟨36, _⟩ => ⟨S1x1024, .f32⟩
  | .local _ .vmem, ⟨37, _⟩ => ⟨S1x1024x2816, .bf16⟩
  | .local _ .vmem, ⟨38, _⟩ => ⟨S1x1024x2816, .bf16⟩
  | .local _ .vmem, ⟨39, _⟩ => ⟨S1x2816x1024, .bf16⟩
  | .local _ .vmem, ⟨40, _⟩ => ⟨S1040x1024, .f32⟩
  | .local _ .vmem, ⟨41, _⟩ => ⟨S1040x1024, .f32⟩
  | .local _ .vmem, ⟨42, _⟩ => ⟨S1040x2816, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13_0 : Ref sig .tc := ⟨.hbm, 28, rfl⟩
abbrev main_v13_1 : Ref sig .tc := ⟨.hbm, 29, rfl⟩
abbrev main_v13_2 : Ref sig .tc := ⟨.hbm, 30, rfl⟩
abbrev main_v13_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg13_1 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem13_1 : DmaSem sig := 30
abbrev cc2_sem0_0 : DmaSem sig := 31
abbrev cc2_sem0_1 : DmaSem sig := 32
abbrev cc2_sem1_0 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem5_1 : DmaSem sig := 38

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1040x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![52], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c20_i32 : BitVec 32 := 20#32
  let v0 : BitVec 32 := Scalar.muli arg0 c20_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S640x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S640x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S31x8x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x512x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S640x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1040x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024x2816 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2816x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1040x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== Reference4Ideal.lean ====
abbrev S33280x1024 : Shape := ⟨2, ![33280, 1024]⟩
abbrev S33280x512 : Shape := ⟨2, ![33280, 512]⟩
abbrev S2x1024 : Shape := ⟨2, ![2, 1024]⟩
abbrev S2x1024x4608 : Shape := ⟨3, ![2, 1024, 4608]⟩
abbrev S2x512x1024 : Shape := ⟨3, ![2, 512, 1024]⟩
abbrev S2x31x512 : Shape := ⟨3, ![2, 31, 512]⟩
abbrev S2x512 : Shape := ⟨2, ![2, 512]⟩
abbrev S2x1024x1024 : Shape := ⟨3, ![2, 1024, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S33280 : Shape := ⟨1, ![33280]⟩
abbrev S33280x1 : Shape := ⟨2, ![33280, 1]⟩
abbrev S1x1024x4608 : Shape := ⟨3, ![1, 1024, 4608]⟩
abbrev S1024x4608 : Shape := ⟨2, ![1024, 4608]⟩
abbrev S33280x4608 : Shape := ⟨2, ![33280, 4608]⟩
abbrev S4x8320x4608 : Shape := ⟨3, ![4, 8320, 4608]⟩
abbrev S4x8208x4608 : Shape := ⟨3, ![4, 8208, 4608]⟩
abbrev S4x8208x512 : Shape := ⟨3, ![4, 8208, 512]⟩
abbrev S4x8208x1024 : Shape := ⟨3, ![4, 8208, 1024]⟩
abbrev S4x8238x512 : Shape := ⟨3, ![4, 8238, 512]⟩
abbrev S1x1x512 : Shape := ⟨3, ![1, 1, 512]⟩
abbrev S512 : Shape := ⟨1, ![512]⟩
abbrev S1x512 : Shape := ⟨2, ![1, 512]⟩
abbrev S4x8208 : Shape := ⟨2, ![4, 8208]⟩
abbrev S4x8208x1 : Shape := ⟨3, ![4, 8208, 1]⟩
abbrev S1x512x1024 : Shape := ⟨3, ![1, 512, 1024]⟩
abbrev S512x1024 : Shape := ⟨2, ![512, 1024]⟩
abbrev S4x8320x512 : Shape := ⟨3, ![4, 8320, 512]⟩
abbrev S4x8320x1024 : Shape := ⟨3, ![4, 8320, 1024]⟩
abbrev S1x1024x1024 : Shape := ⟨3, ![1, 1024, 1024]⟩
abbrev S1024x1024 : Shape := ⟨2, ![1024, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S1x1x1024 : Shape := ⟨3, ![1, 1, 1024]⟩
abbrev S4x8208x2816 : Shape := ⟨3, ![4, 8208, 2816]⟩

abbrev nBuf : Space → Nat
  | .hbm => 404
  | .vmem => 0
  | .smem => 0
  | _ => 0

abbrev hbmTy0_0 (i : Nat) : BufTy := match i % 128 with
  | 0 => ⟨S33280x1024, .f32⟩
  | 1 => ⟨S33280x512, .bf16⟩
  | 2 => ⟨S2x1024, .f32⟩
  | 3 => ⟨S2x1024x4608, .f32⟩
  | 4 => ⟨S2x512x1024, .f32⟩
  | 5 => ⟨S2x31x512, .f32⟩
  | 6 => ⟨S2x512, .f32⟩
  | 7 => ⟨S2x512, .f32⟩
  | 8 => ⟨S2x512, .f32⟩
  | 9 => ⟨S2x512x1024, .f32⟩
  | 10 => ⟨S2x1024x1024, .f32⟩
  | 11 => ⟨S2x1024, .f32⟩
  | 12 => ⟨S2x1024x2816, .f32⟩
  | 13 => ⟨S2x1024x2816, .f32⟩
  | 14 => ⟨S2x2816x1024, .f32⟩
  | 15 => ⟨S1x1024, .f32⟩
  | 16 => ⟨S1024, .f32⟩
  | 17 => ⟨S33280x1024, .f32⟩
  | 18 => ⟨S_, .f32⟩
  | 19 => ⟨S33280, .f32⟩
  | 20 => ⟨S33280x1, .f32⟩
  | 21 => ⟨S_, .f32⟩
  | 22 => ⟨S33280x1, .f32⟩
  | 23 => ⟨S33280x1, .f32⟩
  | 24 => ⟨S_, .f32⟩
  | 25 => ⟨S33280x1, .f32⟩
  | 26 => ⟨S33280x1, .f32⟩
  | 27 => ⟨S33280x1, .f32⟩
  | 28 => ⟨S33280x1024, .f32⟩
  | 29 => ⟨S33280x1024, .f32⟩
  | 30 => ⟨S1x1024, .f32⟩
  | 31 => ⟨S33280x1024, .f32⟩
  | 32 => ⟨S33280x1024, .f32⟩
  | 33 => ⟨S1x1024x4608, .f32⟩
  | 34 => ⟨S1024x4608, .f32⟩
  | 35 => ⟨S33280x4608, .f32⟩
  | 36 => ⟨S33280x512, .f32⟩
  | 37 => ⟨S_, .f32⟩
  | 38 => ⟨S33280x512, .f32⟩
  | 39 => ⟨S33280x512, .f32⟩
  | 40 => ⟨S33280x512, .f32⟩
  | 41 => ⟨S33280x512, .f32⟩
  | 42 => ⟨S4x8320x4608, .f32⟩
  | 43 => ⟨S4x8208x4608, .f32⟩
  | 44 => ⟨S4x8208x512, .f32⟩
  | 45 => ⟨S4x8208x512, .f32⟩
  | 46 => ⟨S4x8208x1024, .f32⟩
  | 47 => ⟨S4x8208x1024, .f32⟩
  | 48 => ⟨S4x8208x512, .f32⟩
  | 49 => ⟨S4x8208x512, .f32⟩
  | 50 => ⟨S_, .f32⟩
  | 51 => ⟨S4x8208x512, .f32⟩
  | 52 => ⟨S4x8208x512, .f32⟩
  | 53 => ⟨S_, .f32⟩
  | 54 => ⟨S4x8208x512, .f32⟩
  | 55 => ⟨S4x8208x512, .f32⟩
  | 56 => ⟨S4x8208x512, .f32⟩
  | 57 => ⟨S_, .i32⟩
  | 58 => ⟨S_, .f32⟩
  | 59 => ⟨S4x8238x512, .f32⟩
  | 60 => ⟨S4x8208x512, .f32⟩
  | 61 => ⟨S1x1x512, .f32⟩
  | 62 => ⟨S512, .f32⟩
  | 63 => ⟨S1x1x512, .f32⟩
  | 64 => ⟨S4x8208x512, .f32⟩
  | 65 => ⟨S4x8208x512, .f32⟩
  | 66 => ⟨S_, .f32⟩
  | 67 => ⟨S4x8208x512, .f32⟩
  | 68 => ⟨S4x8208x512, .f32⟩
  | 69 => ⟨S4x8208x512, .f32⟩
  | 70 => ⟨S1x1x512, .f32⟩
  | 71 => ⟨S512, .f32⟩
  | 72 => ⟨S1x1x512, .f32⟩
  | 73 => ⟨S4x8208x512, .f32⟩
  | 74 => ⟨S4x8208x512, .f32⟩
  | 75 => ⟨S4x8208x512, .f32⟩
  | 76 => ⟨S4x8208x512, .f32⟩
  | 77 => ⟨S1x1x512, .f32⟩
  | 78 => ⟨S512, .f32⟩
  | 79 => ⟨S1x1x512, .f32⟩
  | 80 => ⟨S4x8208x512, .f32⟩
  | 81 => ⟨S4x8208x512, .f32⟩
  | 82 => ⟨S4x8208x512, .f32⟩
  | 83 => ⟨S4x8208x512, .f32⟩
  | 84 => ⟨S1x1x512, .f32⟩
  | 85 => ⟨S512, .f32⟩
  | 86 => ⟨S1x1x512, .f32⟩
  | 87 => ⟨S4x8208x512, .f32⟩
  | 88 => ⟨S4x8208x512, .f32⟩
  | 89 => ⟨S4x8208x512, .f32⟩
  | 90 => ⟨S4x8208x512, .f32⟩
  | 91 => ⟨S1x1x512, .f32⟩
  | 92 => ⟨S512, .f32⟩
  | 93 => ⟨S1x1x512, .f32⟩
  | 94 => ⟨S4x8208x512, .f32⟩
  | 95 => ⟨S4x8208x512, .f32⟩
  | 96 => ⟨S4x8208x512, .f32⟩
  | 97 => ⟨S4x8208x512, .f32⟩
  | 98 => ⟨S1x1x512, .f32⟩
  | 99 => ⟨S512, .f32⟩
  | 100 => ⟨S1x1x512, .f32⟩
  | 101 => ⟨S4x8208x512, .f32⟩
  | 102 => ⟨S4x8208x512, .f32⟩
  | 103 => ⟨S4x8208x512, .f32⟩
  | 104 => ⟨S4x8208x512, .f32⟩
  | 105 => ⟨S1x1x512, .f32⟩
  | 106 => ⟨S512, .f32⟩
  | 107 => ⟨S1x1x512, .f32⟩
  | 108 => ⟨S4x8208x512, .f32⟩
  | 109 => ⟨S4x8208x512, .f32⟩
  | 110 => ⟨S4x8208x512, .f32⟩
  | 111 => ⟨S4x8208x512, .f32⟩
  | 112 => ⟨S1x1x512, .f32⟩
  | 113 => ⟨S512, .f32⟩
  | 114 => ⟨S1x1x512, .f32⟩
  | 115 => ⟨S4x8208x512, .f32⟩
  | 116 => ⟨S4x8208x512, .f32⟩
  | 117 => ⟨S4x8208x512, .f32⟩
  | 118 => ⟨S4x8208x512, .f32⟩
  | 119 => ⟨S1x1x512, .f32⟩
  | 120 => ⟨S512, .f32⟩
  | 121 => ⟨S1x1x512, .f32⟩
  | 122 => ⟨S4x8208x512, .f32⟩
  | 123 => ⟨S4x8208x512, .f32⟩
  | 124 => ⟨S4x8208x512, .f32⟩
  | 125 => ⟨S4x8208x512, .f32⟩
  | 126 => ⟨S1x1x512, .f32⟩
  | 127 => ⟨S512, .f32⟩
  | _ => ⟨S33280x1024, .f32⟩

abbrev hbmTy0_1 (i : Nat) : BufTy := match i % 128 with
  | 0 => ⟨S1x1x512, .f32⟩
  | 1 => ⟨S4x8208x512, .f32⟩
  | 2 => ⟨S4x8208x512, .f32⟩
  | 3 => ⟨S4x8208x512, .f32⟩
  | 4 => ⟨S4x8208x512, .f32⟩
  | 5 => ⟨S1x1x512, .f32⟩
  | 6 => ⟨S512, .f32⟩
  | 7 => ⟨S1x1x512, .f32⟩
  | 8 => ⟨S4x8208x512, .f32⟩
  | 9 => ⟨S4x8208x512, .f32⟩
  | 10 => ⟨S4x8208x512, .f32⟩
  | 11 => ⟨S4x8208x512, .f32⟩
  | 12 => ⟨S1x1x512, .f32⟩
  | 13 => ⟨S512, .f32⟩
  | 14 => ⟨S1x1x512, .f32⟩
  | 15 => ⟨S4x8208x512, .f32⟩
  | 16 => ⟨S4x8208x512, .f32⟩
  | 17 => ⟨S4x8208x512, .f32⟩
  | 18 => ⟨S4x8208x512, .f32⟩
  | 19 => ⟨S1x1x512, .f32⟩
  | 20 => ⟨S512, .f32⟩
  | 21 => ⟨S1x1x512, .f32⟩
  | 22 => ⟨S4x8208x512, .f32⟩
  | 23 => ⟨S4x8208x512, .f32⟩
  | 24 => ⟨S4x8208x512, .f32⟩
  | 25 => ⟨S4x8208x512, .f32⟩
  | 26 => ⟨S1x1x512, .f32⟩
  | 27 => ⟨S512, .f32⟩
  | 28 => ⟨S1x1x512, .f32⟩
  | 29 => ⟨S4x8208x512, .f32⟩
  | 30 => ⟨S4x8208x512, .f32⟩
  | 31 => ⟨S4x8208x512, .f32⟩
  | 32 => ⟨S4x8208x512, .f32⟩
  | 33 => ⟨S1x1x512, .f32⟩
  | 34 => ⟨S512, .f32⟩
  | 35 => ⟨S1x1x512, .f32⟩
  | 36 => ⟨S4x8208x512, .f32⟩
  | 37 => ⟨S4x8208x512, .f32⟩
  | 38 => ⟨S4x8208x512, .f32⟩
  | 39 => ⟨S4x8208x512, .f32⟩
  | 40 => ⟨S1x1x512, .f32⟩
  | 41 => ⟨S512, .f32⟩
  | 42 => ⟨S1x1x512, .f32⟩
  | 43 => ⟨S4x8208x512, .f32⟩
  | 44 => ⟨S4x8208x512, .f32⟩
  | 45 => ⟨S4x8208x512, .f32⟩
  | 46 => ⟨S4x8208x512, .f32⟩
  | 47 => ⟨S1x1x512, .f32⟩
  | 48 => ⟨S512, .f32⟩
  | 49 => ⟨S1x1x512, .f32⟩
  | 50 => ⟨S4x8208x512, .f32⟩
  | 51 => ⟨S4x8208x512, .f32⟩
  | 52 => ⟨S4x8208x512, .f32⟩
  | 53 => ⟨S4x8208x512, .f32⟩
  | 54 => ⟨S1x1x512, .f32⟩
  | 55 => ⟨S512, .f32⟩
  | 56 => ⟨S1x1x512, .f32⟩
  | 57 => ⟨S4x8208x512, .f32⟩
  | 58 => ⟨S4x8208x512, .f32⟩
  | 59 => ⟨S4x8208x512, .f32⟩
  | 60 => ⟨S4x8208x512, .f32⟩
  | 61 => ⟨S1x1x512, .f32⟩
  | 62 => ⟨S512, .f32⟩
  | 63 => ⟨S1x1x512, .f32⟩
  | 64 => ⟨S4x8208x512, .f32⟩
  | 65 => ⟨S4x8208x512, .f32⟩
  | 66 => ⟨S4x8208x512, .f32⟩
  | 67 => ⟨S4x8208x512, .f32⟩
  | 68 => ⟨S1x1x512, .f32⟩
  | 69 => ⟨S512, .f32⟩
  | 70 => ⟨S1x1x512, .f32⟩
  | 71 => ⟨S4x8208x512, .f32⟩
  | 72 => ⟨S4x8208x512, .f32⟩
  | 73 => ⟨S4x8208x512, .f32⟩
  | 74 => ⟨S4x8208x512, .f32⟩
  | 75 => ⟨S1x1x512, .f32⟩
  | 76 => ⟨S512, .f32⟩
  | 77 => ⟨S1x1x512, .f32⟩
  | 78 => ⟨S4x8208x512, .f32⟩
  | 79 => ⟨S4x8208x512, .f32⟩
  | 80 => ⟨S4x8208x512, .f32⟩
  | 81 => ⟨S4x8208x512, .f32⟩
  | 82 => ⟨S1x1x512, .f32⟩
  | 83 => ⟨S512, .f32⟩
  | 84 => ⟨S1x1x512, .f32⟩
  | 85 => ⟨S4x8208x512, .f32⟩
  | 86 => ⟨S4x8208x512, .f32⟩
  | 87 => ⟨S4x8208x512, .f32⟩
  | 88 => ⟨S4x8208x512, .f32⟩
  | 89 => ⟨S1x1x512, .f32⟩
  | 90 => ⟨S512, .f32⟩
  | 91 => ⟨S1x1x512, .f32⟩
  | 92 => ⟨S4x8208x512, .f32⟩
  | 93 => ⟨S4x8208x512, .f32⟩
  | 94 => ⟨S4x8208x512, .f32⟩
  | 95 => ⟨S4x8208x512, .f32⟩
  | 96 => ⟨S1x1x512, .f32⟩
  | 97 => ⟨S512, .f32⟩
  | 98 => ⟨S1x1x512, .f32⟩
  | 99 => ⟨S4x8208x512, .f32⟩
  | 100 => ⟨S4x8208x512, .f32⟩
  | 101 => ⟨S4x8208x512, .f32⟩
  | 102 => ⟨S4x8208x512, .f32⟩
  | 103 => ⟨S1x1x512, .f32⟩
  | 104 => ⟨S512, .f32⟩
  | 105 => ⟨S1x1x512, .f32⟩
  | 106 => ⟨S4x8208x512, .f32⟩
  | 107 => ⟨S4x8208x512, .f32⟩
  | 108 => ⟨S4x8208x512, .f32⟩
  | 109 => ⟨S4x8208x512, .f32⟩
  | 110 => ⟨S1x1x512, .f32⟩
  | 111 => ⟨S512, .f32⟩
  | 112 => ⟨S1x1x512, .f32⟩
  | 113 => ⟨S4x8208x512, .f32⟩
  | 114 => ⟨S4x8208x512, .f32⟩
  | 115 => ⟨S4x8208x512, .f32⟩
  | 116 => ⟨S4x8208x512, .f32⟩
  | 117 => ⟨S1x1x512, .f32⟩
  | 118 => ⟨S512, .f32⟩
  | 119 => ⟨S1x1x512, .f32⟩
  | 120 => ⟨S4x8208x512, .f32⟩
  | 121 => ⟨S4x8208x512, .f32⟩
  | 122 => ⟨S4x8208x512, .f32⟩
  | 123 => ⟨S4x8208x512, .f32⟩
  | 124 => ⟨S1x1x512, .f32⟩
  | 125 => ⟨S512, .f32⟩
  | 126 => ⟨S1x1x512, .f32⟩
  | 127 => ⟨S4x8208x512, .f32⟩
  | _ => ⟨S33280x1024, .f32⟩

abbrev hbmTy0_2 (i : Nat) : BufTy := match i % 128 with
  | 0 => ⟨S4x8208x512, .f32⟩
  | 1 => ⟨S4x8208x512, .f32⟩
  | 2 => ⟨S4x8208x512, .f32⟩
  | 3 => ⟨S1x1x512, .f32⟩
  | 4 => ⟨S512, .f32⟩
  | 5 => ⟨S1x1x512, .f32⟩
  | 6 => ⟨S4x8208x512, .f32⟩
  | 7 => ⟨S4x8208x512, .f32⟩
  | 8 => ⟨S4x8208x512, .f32⟩
  | 9 => ⟨S4x8208x512, .f32⟩
  | 10 => ⟨S1x1x512, .f32⟩
  | 11 => ⟨S512, .f32⟩
  | 12 => ⟨S1x1x512, .f32⟩
  | 13 => ⟨S4x8208x512, .f32⟩
  | 14 => ⟨S4x8208x512, .f32⟩
  | 15 => ⟨S4x8208x512, .f32⟩
  | 16 => ⟨S4x8208x512, .f32⟩
  | 17 => ⟨S1x1x512, .f32⟩
  | 18 => ⟨S512, .f32⟩
  | 19 => ⟨S1x1x512, .f32⟩
  | 20 => ⟨S4x8208x512, .f32⟩
  | 21 => ⟨S4x8208x512, .f32⟩
  | 22 => ⟨S4x8208x512, .f32⟩
  | 23 => ⟨S1x512, .f32⟩
  | 24 => ⟨S512, .f32⟩
  | 25 => ⟨S1x1x512, .f32⟩
  | 26 => ⟨S4x8208x512, .f32⟩
  | 27 => ⟨S4x8208x512, .f32⟩
  | 28 => ⟨S_, .f32⟩
  | 29 => ⟨S4x8208, .f32⟩
  | 30 => ⟨S4x8208x1, .f32⟩
  | 31 => ⟨S_, .f32⟩
  | 32 => ⟨S4x8208x1, .f32⟩
  | 33 => ⟨S4x8208x1, .f32⟩
  | 34 => ⟨S4x8208x512, .f32⟩
  | 35 => ⟨S4x8208x512, .f32⟩
  | 36 => ⟨S4x8208x512, .f32⟩
  | 37 => ⟨S_, .f32⟩
  | 38 => ⟨S4x8208, .f32⟩
  | 39 => ⟨S4x8208x1, .f32⟩
  | 40 => ⟨S_, .f32⟩
  | 41 => ⟨S4x8208x1, .f32⟩
  | 42 => ⟨S4x8208x1, .f32⟩
  | 43 => ⟨S4x8208x512, .f32⟩
  | 44 => ⟨S4x8208x512, .f32⟩
  | 45 => ⟨S_, .f32⟩
  | 46 => ⟨S4x8208x1, .f32⟩
  | 47 => ⟨S4x8208x1, .f32⟩
  | 48 => ⟨S4x8208x1, .f32⟩
  | 49 => ⟨S4x8208x512, .f32⟩
  | 50 => ⟨S4x8208x512, .f32⟩
  | 51 => ⟨S1x512, .f32⟩
  | 52 => ⟨S512, .f32⟩
  | 53 => ⟨S1x1x512, .f32⟩
  | 54 => ⟨S4x8208x512, .f32⟩
  | 55 => ⟨S4x8208x512, .f32⟩
  | 56 => ⟨S1x512, .f32⟩
  | 57 => ⟨S512, .f32⟩
  | 58 => ⟨S1x1x512, .f32⟩
  | 59 => ⟨S4x8208x512, .f32⟩
  | 60 => ⟨S4x8208x512, .f32⟩
  | 61 => ⟨S4x8208x512, .f32⟩
  | 62 => ⟨S4x8208x512, .f32⟩
  | 63 => ⟨S_, .f32⟩
  | 64 => ⟨S4x8208x512, .f32⟩
  | 65 => ⟨S4x8208x512, .f32⟩
  | 66 => ⟨S_, .f32⟩
  | 67 => ⟨S4x8208x512, .f32⟩
  | 68 => ⟨S4x8208x512, .f32⟩
  | 69 => ⟨S4x8208x512, .f32⟩
  | 70 => ⟨S1x512x1024, .f32⟩
  | 71 => ⟨S512x1024, .f32⟩
  | 72 => ⟨S4x8208x1024, .f32⟩
  | 73 => ⟨S33280x512, .f32⟩
  | 74 => ⟨S4x8320x512, .f32⟩
  | 75 => ⟨S4x8208x512, .f32⟩
  | 76 => ⟨S1x512x1024, .f32⟩
  | 77 => ⟨S512x1024, .f32⟩
  | 78 => ⟨S4x8208x1024, .f32⟩
  | 79 => ⟨S4x8208x1024, .f32⟩
  | 80 => ⟨S4x8208x1024, .f32⟩
  | 81 => ⟨S_, .f32⟩
  | 82 => ⟨S4x8208x1024, .f32⟩
  | 83 => ⟨S4x8208x1024, .f32⟩
  | 84 => ⟨S_, .f32⟩
  | 85 => ⟨S4x8208x1024, .f32⟩
  | 86 => ⟨S4x8208x1024, .f32⟩
  | 87 => ⟨S4x8208x1024, .f32⟩
  | 88 => ⟨S4x8208x1024, .f32⟩
  | 89 => ⟨S4x8208x1024, .f32⟩
  | 90 => ⟨S_, .f32⟩
  | 91 => ⟨S4x8208x1024, .f32⟩
  | 92 => ⟨S4x8208x1024, .f32⟩
  | 93 => ⟨S_, .f32⟩
  | 94 => ⟨S4x8208x1024, .f32⟩
  | 95 => ⟨S4x8208x1024, .f32⟩
  | 96 => ⟨S4x8208x1024, .f32⟩
  | 97 => ⟨S4x8208x1024, .f32⟩
  | 98 => ⟨S4x8320x1024, .f32⟩
  | 99 => ⟨S4x8208x1024, .f32⟩
  | 100 => ⟨S1x1024x1024, .f32⟩
  | 101 => ⟨S1024x1024, .f32⟩
  | 102 => ⟨S4x8208x1024, .f32⟩
  | 103 => ⟨S4x8208x1024, .f32⟩
  | 104 => ⟨S1x1024, .f32⟩
  | 105 => ⟨S1024, .f32⟩
  | 106 => ⟨S1x1024x2816, .f32⟩
  | 107 => ⟨S1024x2816, .f32⟩
  | 108 => ⟨S1x1024x2816, .f32⟩
  | 109 => ⟨S1024x2816, .f32⟩
  | 110 => ⟨S1x2816x1024, .f32⟩
  | 111 => ⟨S2816x1024, .f32⟩
  | 112 => ⟨S4x8208x1024, .f32⟩
  | 113 => ⟨S_, .f32⟩
  | 114 => ⟨S4x8208, .f32⟩
  | 115 => ⟨S4x8208x1, .f32⟩
  | 116 => ⟨S_, .f32⟩
  | 117 => ⟨S4x8208x1, .f32⟩
  | 118 => ⟨S4x8208x1, .f32⟩
  | 119 => ⟨S_, .f32⟩
  | 120 => ⟨S4x8208x1, .f32⟩
  | 121 => ⟨S4x8208x1, .f32⟩
  | 122 => ⟨S4x8208x1, .f32⟩
  | 123 => ⟨S4x8208x1024, .f32⟩
  | 124 => ⟨S4x8208x1024, .f32⟩
  | 125 => ⟨S1x1x1024, .f32⟩
  | 126 => ⟨S4x8208x1024, .f32⟩
  | 127 => ⟨S4x8208x1024, .f32⟩
  | _ => ⟨S33280x1024, .f32⟩

abbrev hbmTy0_3 (i : Nat) : BufTy := match i % 128 with
  | 0 => ⟨S4x8208x2816, .f32⟩
  | 1 => ⟨S4x8208x2816, .f32⟩
  | 2 => ⟨S4x8208x2816, .f32⟩
  | 3 => ⟨S_, .f32⟩
  | 4 => ⟨S4x8208x2816, .f32⟩
  | 5 => ⟨S4x8208x2816, .f32⟩
  | 6 => ⟨S_, .f32⟩
  | 7 => ⟨S4x8208x2816, .f32⟩
  | 8 => ⟨S4x8208x2816, .f32⟩
  | 9 => ⟨S4x8208x2816, .f32⟩
  | 10 => ⟨S4x8208x2816, .f32⟩
  | 11 => ⟨S4x8208x2816, .f32⟩
  | 12 => ⟨S4x8208x1024, .f32⟩
  | 13 => ⟨S_, .f32⟩
  | 14 => ⟨S4x8208x1024, .f32⟩
  | 15 => ⟨S4x8208x1024, .f32⟩
  | 16 => ⟨S4x8208x1024, .f32⟩
  | 17 => ⟨S33280x512, .bf16⟩
  | 18 => ⟨S33280x512, .bf16⟩
  | 19 => ⟨S33280x512, .bf16⟩
  | _ => ⟨S33280x1024, .f32⟩

abbrev hbmTy (i : Nat) : BufTy := match i / 128 with
  | 0 => hbmTy0_0 i
  | 1 => hbmTy0_1 i
  | 2 => hbmTy0_2 i
  | 3 => hbmTy0_3 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c : Ref sig .tc := ⟨.hbm, 57, rfl⟩
abbrev main_call0_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_cst_6 : Ref sig .tc := ⟨.hbm, 284, rfl⟩
abbrev main_v260 : Ref sig .tc := ⟨.hbm, 285, rfl⟩
abbrev main_v261 : Ref sig .tc := ⟨.hbm, 286, rfl⟩
abbrev main_cst_7 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_cst_8 : Ref sig .tc := ⟨.hbm, 293, rfl⟩
abbrev main_v267 : Ref sig .tc := ⟨.hbm, 294, rfl⟩
abbrev main_v268 : Ref sig .tc := ⟨.hbm, 295, rfl⟩
abbrev main_cst_9 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_cst_10 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_call1_v0 : Ref sig .tc := ⟨.hbm, 317, rfl⟩
abbrev main_call1_v1 : Ref sig .tc := ⟨.hbm, 318, rfl⟩
abbrev main_call1_cst : Ref sig .tc := ⟨.hbm, 319, rfl⟩
abbrev main_call1_v2 : Ref sig .tc := ⟨.hbm, 320, rfl⟩
abbrev main_call1_v3 : Ref sig .tc := ⟨.hbm, 321, rfl⟩
abbrev main_call1_cst_0 : Ref sig .tc := ⟨.hbm, 322, rfl⟩
abbrev main_call1_v4 : Ref sig .tc := ⟨.hbm, 323, rfl⟩
abbrev main_call1_v5 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_cst_11 : Ref sig .tc := ⟨.hbm, 337, rfl⟩
abbrev main_v300 : Ref sig .tc := ⟨.hbm, 338, rfl⟩
abbrev main_v301 : Ref sig .tc := ⟨.hbm, 339, rfl⟩
abbrev main_cst_12 : Ref sig .tc := ⟨.hbm, 340, rfl⟩
abbrev main_v302 : Ref sig .tc := ⟨.hbm, 341, rfl⟩
abbrev main_v303 : Ref sig .tc := ⟨.hbm, 342, rfl⟩
abbrev main_v304 : Ref sig .tc := ⟨.hbm, 343, rfl⟩
abbrev main_v305 : Ref sig .tc := ⟨.hbm, 344, rfl⟩
abbrev main_v306 : Ref sig .tc := ⟨.hbm, 345, rfl⟩
abbrev main_cst_13 : Ref sig .tc := ⟨.hbm, 346, rfl⟩
abbrev main_v307 : Ref sig .tc := ⟨.hbm, 347, rfl⟩
abbrev main_v308 : Ref sig .tc := ⟨.hbm, 348, rfl⟩
abbrev main_cst_14 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_cst_15 : Ref sig .tc := ⟨.hbm, 369, rfl⟩
abbrev main_v328 : Ref sig .tc := ⟨.hbm, 370, rfl⟩
abbrev main_v329 : Ref sig .tc := ⟨.hbm, 371, rfl⟩
abbrev main_cst_16 : Ref sig .tc := ⟨.hbm, 372, rfl⟩
abbrev main_v330 : Ref sig .tc := ⟨.hbm, 373, rfl⟩
abbrev main_v331 : Ref sig .tc := ⟨.hbm, 374, rfl⟩
abbrev main_cst_17 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_call2_v0 : Ref sig .tc := ⟨.hbm, 385, rfl⟩
abbrev main_call2_v1 : Ref sig .tc := ⟨.hbm, 386, rfl⟩
abbrev main_call2_cst : Ref sig .tc := ⟨.hbm, 387, rfl⟩
abbrev main_call2_v2 : Ref sig .tc := ⟨.hbm, 388, rfl⟩
abbrev main_call2_v3 : Ref sig .tc := ⟨.hbm, 389, rfl⟩
abbrev main_call2_cst_0 : Ref sig .tc := ⟨.hbm, 390, rfl⟩
abbrev main_call2_v4 : Ref sig .tc := ⟨.hbm, 391, rfl⟩
abbrev main_call2_v5 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_cst_18 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩

abbrev nD : Nat := 1
abbrev τ : Topo := Topo.v7x

variable {F : FTy → Type} [FloatOps F]
-- ==== Proof.Layer.lean ====
/-
  The arithmetic of the layer over the extended reals, on rows: the root-mean-square normalisation, the gated hidden
  row of the feed-forward block, and the feed-forward block with its residual. The matrices are functions of a row and
  a column. Nothing here mentions a program: the kernels' blocks and the references are both shown to be these functions.
-/
module

public import Idealize.ShloMosaic.PureOps.Ideal.Laws
public import Idealize.ShloMosaic.Lib.Pointwise

@[expose] public section

noncomputable section

namespace Cert.Layer

open Idealize.ShloMosaic

/-- The number of features of a row, 1024, as the programs' literal reads. -/
abbrev width : EReal := Ideal.ofBits .f32 0x44800000#32

/-- The normalisation's epsilon, 1e-6 rounded to a float. -/
abbrev eps : EReal := Ideal.ofBits .f32 0x358637BD#32

/-- The feed-forward residual's factor, one half. -/
abbrev half : EReal := Ideal.ofBits .f32 0x3F000000#32

/-- The queries' factor `-1/8`. -/
abbrev negEighth : EReal := Ideal.ofBits .f32 0xBE000000#32

/-- A row divided by the root of its mean square, times the gains `g`. -/
def rms (x g : Fin 1024 → EReal) : Fin 1024 → EReal := fun j =>
  x j * Ideal.rsqrt (Ideal.div (∑ k, x k * x k) width + eps) * g j

/-- `a · σ(a)` with the logistic `σ(a) = 1 / (1 + e^{-a})`. -/
def silu (a : EReal) : EReal := a * Ideal.div 1 (1 + Ideal.exp (-a))

/-- The gated hidden row: column `f` is `silu` of the gate's product times the up product. -/
def hidden (x : Fin 1024 → EReal) (wg wu : Fin 1024 → Fin 2816 → EReal) : Fin 2816 → EReal := fun f =>
  silu (∑ k, x k * wg k f) * ∑ k, x k * wu k f

/-- The feed-forward block on a row: the row plus half of the down product of its normalised row's hidden row. -/
def ffn (x g : Fin 1024 → EReal) (wg wu : Fin 1024 → Fin 2816 → EReal) (wd : Fin 2816 → Fin 1024 → EReal) :
    Fin 1024 → EReal := fun j =>
  x j + half * ∑ f, hidden (rms x g) wg wu f * wd f j

/-- The number of channels of the convolution, 512, as the programs' literal reads. -/
abbrev channels : EReal := Ideal.ofBits .f32 0x44000000#32

/-- The layer normalisation's epsilon, 1e-5 rounded to a float. -/
abbrev lnEps : EReal := Ideal.ofBits .f32 0x3727C5AC#32

/-- The first `K` taps of the causal convolution at row `n`: the bias, then tap `k` times row `n + k` of the window `u`. -/
def taps (bias : Fin 512 → EReal) (w u : ℕ → Fin 512 → EReal) (n : ℕ) : ℕ → Fin 512 → EReal
  | 0, ch => bias ch
  | k + 1, ch => taps bias w u n k ch + w k ch * u (n + k) ch

/-- A row less its mean. -/
def centred (y : Fin 512 → EReal) : Fin 512 → EReal := fun ch => y ch - Ideal.div (∑ k, y k) channels

/-- The layer normalisation of a row with gains `g` and offsets `b`. -/
def layerNorm (y g b : Fin 512 → EReal) : Fin 512 → EReal := fun ch =>
  centred y ch * Ideal.rsqrt (Ideal.div (∑ k, centred y k * centred y k) channels + lnEps) * g ch + b ch

/-- The convolution branch's row: `silu` of the normalised row. -/
def convRow (y g b : Fin 512 → EReal) : Fin 512 → EReal := fun ch => silu (layerNorm y g b ch)

/-- The logistic `1 / (1 + e^{-a})`. -/
def sigm (a : EReal) : EReal := Ideal.div 1 (1 + Ideal.exp (-a))

/-- The two branches' rows `a` and `v`, projected, gated by the logistic of the gates' products with the row, and added. -/
def gated (x : Fin 1024 → EReal) (wg wv : Fin 1024 → Fin 1024 → EReal) (a v : Fin 512 → EReal)
    (wa wc : Fin 512 → Fin 1024 → EReal) : Fin 1024 → EReal := fun k =>
  sigm (∑ i, x i * wg i k) * (∑ i, a i * wa i k) + sigm (∑ i, x i * wv i k) * ∑ i, v i * wc i k

/-- The mixer on a row: the row plus the output projection of its gated branches. -/
def mixed (x g : Fin 1024 → EReal) (wg wv : Fin 1024 → Fin 1024 → EReal) (a v : Fin 512 → EReal)
    (wa wc : Fin 512 → Fin 1024 → EReal) (wo : Fin 1024 → Fin 1024 → EReal) : Fin 1024 → EReal := fun j =>
  x j + ∑ k, gated (rms x g) wg wv a v wa wc k * wo k j

/-- The rows of the padded array: 4 batches of 8320 rows, 112 of padding, 16 of meta and 8192 of frames. -/
abbrev Rows : Type := Vec Ideal ⟨2, ![33280, 1024]⟩ .f32

/-- The feed-forward block on every row. -/
def ffnRows (x : Rows) (g : Fin 1024 → EReal) (wg wu : Fin 1024 → Fin 2816 → EReal) (wd : Fin 2816 → Fin 1024 → EReal) : Rows :=
  fun i => ffn (fun k => x (ix2 (i 0) k)) g wg wu wd (i 1)

/-- The normalised row `r` times the matrix `w`. -/
def proj (x : Rows) (g : Fin 1024 → EReal) (w : Fin 1024 → Fin 512 → EReal) (r : Fin 33280) (n : Fin 512) : EReal :=
  ∑ k, rms (fun k => x (ix2 r k)) g k * w k n

/-- Keys and values: the projection of every row. -/
def keys (x : Rows) (g : Fin 1024 → EReal) (w : Fin 1024 → Fin 512 → EReal) : Vec Ideal ⟨2, ![33280, 512]⟩ .bf16 :=
  fun i => proj x g w (i 0) (i 1)

/-- The queries: the projection of every row times `-1/8`. -/
def queries (x : Rows) (g : Fin 1024 → EReal) (w : Fin 1024 → Fin 512 → EReal) : Vec Ideal ⟨2, ![33280, 512]⟩ .bf16 :=
  fun i => proj x g w (i 0) (i 1) * negEighth

/-- The convolution's input: one projection times the logistic of another, and zero on the padding rows. -/
def convIn (x : Rows) (g : Fin 1024 → EReal) (wa wb : Fin 1024 → Fin 512 → EReal) : Vec Ideal ⟨2, ![33280, 512]⟩ .f32 :=
  fun i => if 112 ≤ (i 0).val % 8320 then proj x g wa (i 0) (i 1) * sigm (proj x g wb (i 0) (i 1)) else 0

/-- Row `n` of the convolution's input, zero past its end. -/
def rowOf (u : Vec Ideal ⟨2, ![33280, 512]⟩ .f32) (n : ℕ) : Fin 512 → EReal := fun ch =>
  if h : n < 33280 then u (ix2 ⟨n, h⟩ ch) else 0

/-- The row that tap `k` of row `r` reads, as a function of `n = r + k`: row `n - 30`; for the array's first rows, which are
    padding, the kernel's halo starts over at the array's beginning. -/
def source (n : ℕ) : ℕ := if n < 30 then n + 2 else n - 30

/-- The mixer on every row: the convolution runs over `u`, the attention's rows are `a`. -/
def mixRows (x : Rows) (a : Vec Ideal ⟨2, ![33280, 512]⟩ .bf16) (u : Vec Ideal ⟨2, ![33280, 512]⟩ .f32) (g : Fin 1024 → EReal)
    (wg wv : Fin 1024 → Fin 1024 → EReal) (w : ℕ → Fin 512 → EReal) (bias gain offset : Fin 512 → EReal)
    (wa wc : Fin 512 → Fin 1024 → EReal) (wo : Fin 1024 → Fin 1024 → EReal) : Rows :=
  fun i => mixed (fun k => x (ix2 (i 0) k)) g wg wv (fun k => a (ix2 (i 0) k))
    (convRow (taps bias w (fun n => rowOf u (source n)) (i 0).val 31) gain offset) wa wc wo (i 1)

/-- The row of the padded array that holds frame `n`. -/
abbrev frameRow (n : Fin 32768) : Fin 33280 := ⟨n / 8192 * 8320 + 128 + n % 8192, by omega⟩

/-- The last feed-forward block followed by the final normalisation, on the frames' rows. -/
def final (x : Rows) (g : Fin 1024 → EReal) (wg wu : Fin 1024 → Fin 2816 → EReal) (wd : Fin 2816 → Fin 1024 → EReal)
    (gain : Fin 1024 → EReal) : Vec Ideal ⟨2, ![32768, 1024]⟩ .f32 :=
  fun i => rms (ffn (fun k => x (ix2 (frameRow (i 0)) k)) g wg wu wd) gain (i 1)

/-- Layer `l`'s matrix of a stack of two. -/
def mat {a b : ℕ} (l : Fin 2) (w : Vec Ideal ⟨3, ![2, a, b]⟩ .f32) : Fin a → Fin b → EReal := fun i j => w (ix3 l i j)

/-- Layer `l`'s vector of a stack of two. -/
def vect {a : ℕ} (l : Fin 2) (v : Vec Ideal ⟨2, ![2, a]⟩ .f32) : Fin a → EReal := fun k => v (ix2 l k)

/-- The `n` columns of a matrix from column `j` on. -/
def cut {a b : ℕ} (w : Fin a → Fin b → EReal) (j n : ℕ) (h : j + n ≤ b) : Fin a → Fin n → EReal := fun i k => w i ⟨j + k.val, by omega⟩

/-- The convolution's 31 taps, continued by zeros. -/
def tapRow (w : Fin 31 → Fin 512 → EReal) : ℕ → Fin 512 → EReal := fun k ch => if h : k < 31 then w ⟨k, h⟩ ch else 0

section Whole

variable (l : Fin 2) (h : Rows) (att : Vec Ideal ⟨2, ![33280, 512]⟩ .bf16) (norm : Vec Ideal ⟨2, ![2, 1024]⟩ .f32)
  (wg wu : Vec Ideal ⟨3, ![2, 1024, 2816]⟩ .f32) (wd : Vec Ideal ⟨3, ![2, 2816, 1024]⟩ .f32)
  (win : Vec Ideal ⟨3, ![2, 1024, 4608]⟩ .f32) (wa wc : Vec Ideal ⟨3, ![2, 512, 1024]⟩ .f32)
  (cw : Vec Ideal ⟨3, ![2, 31, 512]⟩ .f32) (cb lg lb : Vec Ideal ⟨2, ![2, 512]⟩ .f32)
  (wo : Vec Ideal ⟨3, ![2, 1024, 1024]⟩ .f32) (gain : Vec Ideal ⟨1, ![1024]⟩ .f32)

/-- A feed-forward block with layer `l`'s weights. -/
def ffn1 : Rows := ffnRows h (vect l norm) (mat l wg) (mat l wu) (mat l wd)

/-- Layer `l`'s queries. -/
def layerQ : Vec Ideal ⟨2, ![33280, 512]⟩ .bf16 := queries h (vect l norm) (cut (mat l win) 0 512 (by decide))

/-- Layer `l`'s keys. -/
def layerK : Vec Ideal ⟨2, ![33280, 512]⟩ .bf16 := keys h (vect l norm) (cut (mat l win) 512 512 (by decide))

/-- Layer `l`'s values. -/
def layerV : Vec Ideal ⟨2, ![33280, 512]⟩ .bf16 := keys h (vect l norm) (cut (mat l win) 1024 512 (by decide))

/-- Layer `l`'s convolution input. -/
def layerU : Vec Ideal ⟨2, ![33280, 512]⟩ .f32 :=
  convIn h (vect l norm) (cut (mat l win) 1536 512 (by decide)) (cut (mat l win) 2048 512 (by decide))

/-- Layer `l`'s mixer. -/
def mixer : Rows := mixRows h att (layerU l h norm win) (vect l norm) (cut (mat l win) 2560 1024 (by decide))
  (cut (mat l win) 3584 1024 (by decide)) (tapRow (mat l cw)) (vect l cb) (vect l lg) (vect l lb) (mat l wa) (mat l wc) (mat l wo)

/-- A feed-forward block with layer `l`'s weights and the final normalisation. -/
def last : Vec Ideal ⟨2, ![32768, 1024]⟩ .f32 :=
  final h (vect l norm) (mat l wg) (mat l wu) (mat l wd) (fun k => gain (ix1 k))

/-- The rows that are no padding, batch by batch. -/
def unpadded (x : Rows) : Vec Ideal ⟨3, ![4, 8208, 1024]⟩ .f32 := fun i =>
  x (ix2 ⟨(i 0).val * 8320 + 112 + (i 1).val, by
    have h0 : (i 0).val < 4 := (i 0).isLt
    have h1 : (i 1).val < 8208 := (i 1).isLt
    omega⟩ (i 2))

end Whole

/-- Two windows that agree on the rows the taps read give the same convolution. -/
theorem taps_congr (bias : Fin 512 → EReal) (w u u' : ℕ → Fin 512 → EReal) (n n' : ℕ) :
    ∀ K, (∀ k < K, u (n + k) = u' (n' + k)) → taps bias w u n K = taps bias w u' n' K
  | 0, _ => rfl
  | K + 1, h => by
    funext ch
    rw [taps, taps, taps_congr bias w u u' n n' K fun k hk => h k (by omega), h K (by omega)]

/-- The bias may be added last. -/
theorem taps_bias (bias : Fin 512 → EReal) (w u : ℕ → Fin 512 → EReal) (n : ℕ) (ch : Fin 512) :
    ∀ K, taps bias w u n K ch = taps (fun _ => 0) w u n K ch + bias ch
  | 0 => (zero_add _).symm
  | K + 1 => by rw [taps, taps, taps_bias bias w u n ch K, add_right_comm]

end Cert.Layer
-- ==== Proof.FfnBlock.lean ====
/-
  A feed-forward call: its block of a point, row by row.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Layer

@[expose] public section

set_option maxRecDepth 16384

noncomputable section

namespace Cert.KernelIdeal.Block

open Idealize.ShloMosaic Idealize.ShloMosaic.TcCoe Idealize.SL.Sem
open Cert.KernelIdeal Cert.KernelIdeal.Gen Cert.Layer

/-- The hidden block of 1040 rows: row `r` is the hidden row of the normalised row `r`. -/
def act0 (x0 : Vec Ideal S1040x1024 .f32) (x1 : Vec Ideal S1x1024 .f32) (x2 x3 : Vec Ideal S1x1024x2816 .bf16) :
    Vec Ideal S1040x2816 .bf16 := fun y =>
  hidden (rms (fun k => x0 (ix2 (y 0) k)) (fun k => x1 (ix2 0 k))) (fun k f => x2 (ix3 0 k f)) (fun k f => x3 (ix3 0 k f)) (y 1)

/-- `act0` at an index whose coordinates are known as numbers. -/
theorem act0_at (x0 : Vec Ideal S1040x1024 .f32) (x1 : Vec Ideal S1x1024 .f32) (x2 x3 : Vec Ideal S1x1024x2816 .bf16)
    (y : S1040x2816.Idx) (r : Fin 1040) (n : ℕ) (h0 : (y 0).val = r.val) (h1 : (y 1).val = n) :
    act0 x0 x1 x2 x3 y = hidden (rms (fun k => x0 (ix2 r k)) (fun k => x1 (ix2 0 k))) (fun k f => x2 (ix3 0 k f))
      (fun k f => x3 (ix3 0 k f)) ⟨n, h1 ▸ (y 1).isLt⟩ := by
  obtain rfl : y 0 = r := Fin.ext h0
  subst h1
  rfl

/-- What a point of the feed-forward call leaves in its block, as a function of the point's input blocks. -/
theorem outs0_apply (V : (c : Dev nD) → (b : Ref sig .tc) → Buf (Elt Ideal) ((c : Thread nD τ).loc b)) (c : Dev nD)
    (t : Fin cfg0.N) (x0 : Vec Ideal S1040x1024 .f32) (x1 : Vec Ideal S1x1024 .f32) (x2 x3 : Vec Ideal S1x1024x2816 .bf16)
    (x4 : Vec Ideal S1x2816x1024 .bf16) (h0 : iblk0 V c 0 t = x0) (h1 : iblk0 V c 1 t = x1)
    (h2 : iblk0 V c 2 t = x2) (h3 : iblk0 V c 3 t = x3) (h4 : iblk0 V c 4 t = x4) (y : S1040x1024.Idx) :
    outsAt0 V c t y = ffn (fun k => x0 (ix2 (y 0) k)) (fun k => x1 (ix2 0 k)) (fun k f => x2 (ix3 0 k f))
      (fun k f => x3 (ix3 0 k f)) (fun f k => x4 (ix3 0 f k)) (y 1) := by
  unfold outsAt0
  rw [h0, h1, h2, h3, h4]
  frame_out
  refine (congrArg (fun a => k0_pay2 x0 a x4 y) (?_ : _ = act0 x0 x1 x2 x3)).trans ?_
  · rw [View.readCov_eq_canon']
    funext y
    rw [show (Rect.unit (s := S1040x2816) ![0, 0] ![1040, 2816] inb_S1040x2816_S1040x2816_0_0).idx y = y from
      funext fun a => Fin.ext (by rw [Rect.idx_unit_val]; fin_cases a <;> exact Nat.zero_add _)]
    canon_tiles x h
    all_goals
      refine Eq.trans ?_ (act0_at x0 x1 x2 x3 y (x 0) _ h0 h1).symm
      pointwise [k0_pay1, k0_pay3, k0_pay4, k0_pay5, k0_pay6, k0_pay7, k0_pay8, k0_pay9, k0_pay10, k0_pay11,
        k0_pay12, k0_pay13, k0_pay14, k0_pay15, k0_pay16, k0_pay17, k0_pay18, k0_pay19, k0_pay20, k0_pay21,
        k0_pay22, k0_pay23]
      simp only [zero_sub]
      rfl
  · pointwise [k0_pay2]
    rw [show x0 y = x0 (ix2 (y 0) (y 1)) from congrArg x0 (eq_ix2 y)]
    rfl

end Cert.KernelIdeal.Block
-- ==== Proof.FfnArray.lean ====
/-
  The array the plain feed-forward call leaves: every tile of 1040 rows is the feed-forward block on its rows.
-/
module

public import proofs.«01_k».proof.Proof.FfnBlock
public import Idealize.ShloMosaic.Lib.Claim

@[expose] public section

set_option maxRecDepth 16384

noncomputable section

namespace Cert.KernelIdeal.FfnArray

open Idealize.ShloMosaic Idealize.ShloMosaic.TcCoe Idealize.SL.Sem
open Cert.KernelIdeal Cert.KernelIdeal.Gen Cert.Layer

variable (V : (c : Dev nD) → (b : Ref sig .tc) → Buf (Elt Ideal) ((c : Thread nD τ).loc b))

theorem idx0 : ∀ t : Fin cfg0.N, win0_0.index t = ![t.val, 0] :=
  (by decide +kernel : ∀ t : Fin grid0.N, win0_0.index t = ![t.val, 0])
theorem idx5 : ∀ t : Fin cfg0.N, win0_5.index t = ![t.val, 0] :=
  (by decide +kernel : ∀ t : Fin grid0.N, win0_5.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![1, 0, 0] :=
  (by decide +kernel : ∀ t : Fin grid0.N, win0_2.index t = ![1, 0, 0])
theorem idx3 : ∀ t : Fin cfg0.N, win0_3.index t = ![1, 0, 0] :=
  (by decide +kernel : ∀ t : Fin grid0.N, win0_3.index t = ![1, 0, 0])
theorem idx4 : ∀ t : Fin cfg0.N, win0_4.index t = ![1, 0, 0] :=
  (by decide +kernel : ∀ t : Fin grid0.N, win0_4.index t = ![1, 0, 0])

/-- Row `r` of tile `t` is row `1040 t + r` of the array. -/
theorem blk0 (c : Dev nD) (t : Fin cfg0.N) (r : Fin 1040) (k : Fin 1024) (i : S33280x1024.Idx)
    (h0 : (i 0).val = t.val * 1040 + r.val) (h1 : (i 1).val = k.val) : iblk0 V c 0 t (ix2 r k) = V c main_arg0 i := by
  blk_simp [iblk0, idx0]
  blk_ext [idx0, h0, h1]

theorem blk1 (c : Dev nD) (t : Fin cfg0.N) (k : Fin 1024) :
    iblk0 V c 1 t (ix2 0 k) = V c main_v15 (ix2 0 k) := by
  blk_simp [iblk0, idx1]
  blk_ext [idx1]

theorem blk2 (c : Dev nD) (t : Fin cfg0.N) (k : Fin 1024) (f : Fin 2816) :
    iblk0 V c 2 t (ix3 0 k f) = V c main_v0 (ix3 1 k f) := by
  blk_simp [iblk0, idx2]
  blk_ext [idx2]

theorem blk3 (c : Dev nD) (t : Fin cfg0.N) (k : Fin 1024) (f : Fin 2816) :
    iblk0 V c 3 t (ix3 0 k f) = V c main_v1 (ix3 1 k f) := by
  blk_simp [iblk0, idx3]
  blk_ext [idx3]

theorem blk4 (c : Dev nD) (t : Fin cfg0.N) (f : Fin 2816) (k : Fin 1024) :
    iblk0 V c 4 t (ix3 0 f k) = V c main_v2 (ix3 1 f k) := by
  blk_simp [iblk0, idx4]
  blk_ext [idx4]

/-- The array after the call is the feed-forward block on every row, with the second block of each weight. -/
theorem arr (c : Dev nD) : (dat0 V c).arrAt 5 cfg0.N = ffnRows (V c main_arg0) (fun k => V c main_v15 (ix2 0 k))
    (fun k f => V c main_v0 (ix3 1 k f)) (fun k f => V c main_v1 (ix3 1 k f)) (fun f k => V c main_v2 (ix3 1 f k)) := by
  refine (dat0 V c).arrAt_eq_of_covers 5 _ (by decide +kernel) fun t hf y => ?_
  blk_simp
  rw [after0_5, Block.outs0_apply V c t _ _ _ _ _ rfl rfl rfl rfl rfl]
  have e0 : (((win0_5.blk t).view.emb y) 0).val = t.val * 1040 + (y 0).val := by blk_simp [idx5]
  have e1 : ((win0_5.blk t).view.emb y) 1 = y 1 := Fin.ext (by blk_simp [idx5])
  have hx : ∀ k, iblk0 V c 0 t (ix2 (y 0) k) = V c main_arg0 (ix2 (((win0_5.blk t).view.emb y) 0) k) :=
    fun k => blk0 V c t (y 0) k _ e0 rfl
  unfold ffnRows
  simp only [hx, blk1, blk2, blk3, blk4, e1]

end Cert.KernelIdeal.FfnArray
-- ==== Proof.ProjBlock.lean ====
/-
  The projection's call: its four blocks of a point, row by row.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WordCmp
public import proofs.«01_k».proof.Proof.Layer

@[expose] public section

set_option maxRecDepth 16384

noncomputable section

namespace Cert.KernelIdeal.Block

open Idealize.ShloMosaic Idealize.ShloMosaic.TcCoe Idealize.SL.Sem
open Cert.KernelIdeal Cert.KernelIdeal.Gen Cert.Layer

/-- Column `j` of the projection of row `r` of a block of rows, after its normalisation. -/
def col (x0 : Vec Ideal S1040x1024 .f32) (x1 : Vec Ideal S1x1024 .f32) (x2 : Vec Ideal S1x1024x2560 .bf16) (r : Fin 1040)
    (j : Fin 2560) : EReal :=
  ∑ k, rms (fun k => x0 (ix2 r k)) (fun k => x1 (ix2 0 k)) k * x2 (ix3 0 k j)

variable (i : grid1.Coords) (x0 : Vec Ideal S1040x1024 .f32) (x1 : Vec Ideal S1x1024 .f32) (x2 : Vec Ideal S1x1024x2560 .bf16)
  (y : S1040x512.Idx)

/-- The queries' block: the first 512 columns, times `-1/8`. -/
theorem q_apply : out1_3 i x0 x1 x2 y = col x0 x1 x2 (y 0) ⟨(y 1).val, by have := (y 1).isLt; change _ < 512 at this; omega⟩ * negEighth := by
  frame_out
  pointwise [k1_pay4, k1_pay3]
  rfl

/-- The keys' block: the next 512 columns. -/
theorem k_apply : out1_4 i x0 x1 x2 y = col x0 x1 x2 (y 0) ⟨512 + (y 1).val, by have := (y 1).isLt; change _ < 512 at this; omega⟩ := by
  frame_out
  pointwise [k1_pay5, k1_pay3]
  rfl

/-- The values' block: the next 512 columns. -/
theorem v_apply : out1_5 i x0 x1 x2 y = col x0 x1 x2 (y 0) ⟨1024 + (y 1).val, by have := (y 1).isLt; change _ < 512 at this; omega⟩ := by
  frame_out
  pointwise [k1_pay1, k1_pay6, k1_pay3]
  rfl

/-- The gated block: columns 1536 to 2047 times the logistic of columns 2048 to 2559, and zero on the rows of the batch before
    row 112. -/
theorem u_apply : out1_6 i x0 x1 x2 y = if 112 ≤ (i 1).val * 1040 + (y 0).val then
    col x0 x1 x2 (y 0) ⟨1536 + (y 1).val, by have := (y 1).isLt; change _ < 512 at this; omega⟩
      * Ideal.div 1 (1 + Ideal.exp (-(col x0 x1 x2 (y 0) ⟨2048 + (y 1).val, by have := (y 1).isLt; change _ < 512 at this; omega⟩)))
    else 0 := by
  frame_out
  pointwise [k1_pay2, k1_pay3]
  have h1 : (i 1).val < 8 := (i 1).isLt
  have h0 : (y 0).val < 1040 := (y 0).isLt
  rw [show IntOp.cmpi .sge (IntOp.addi (Scalar.muli (BitVec.ofNat 32 (i 1).val) 1040#32) (BitVec.ofNat 32 (y 0).val)) 112#32
      = if 112 ≤ (i 1).val * 1040 + (y 0).val then 1#1 else 0#1 from
    WordCmp.cmpi_sge_mul_add_ofNat (w := 32) _ _ _ _ (by omega) (by omega)]
  split
  · simp only [zero_sub]
    rfl
  · rfl

end Cert.KernelIdeal.Block
-- ==== Proof.ProjArray.lean ====
/-
  The four arrays the projection call leaves: queries, keys, values, and the convolution's input.
-/
module

public import proofs.«01_k».proof.Proof.ProjBlock
public import Idealize.ShloMosaic.Lib.Claim

@[expose] public section

set_option maxRecDepth 16384

noncomputable section

namespace Cert.KernelIdeal.ProjArray

open Idealize.ShloMosaic Idealize.ShloMosaic.TcCoe Idealize.SL.Sem
open Cert.KernelIdeal Cert.KernelIdeal.Gen Cert.Layer

variable (V : (c : Dev nD) → (b : Ref sig .tc) → Buf (Elt Ideal) ((c : Thread nD τ).loc b))

theorem idx0 : ∀ t : Fin cfg1.N, win1_0.index t = ![t.val, 0] :=
  (by decide +kernel : ∀ t : Fin grid1.N, win1_0.index t = ![t.val, 0])
theorem idx1 : ∀ t : Fin cfg1.N, win1_1.index t = ![0, 0] :=
  (by decide +kernel : ∀ t : Fin grid1.N, win1_1.index t = ![0, 0])
theorem idx2 : ∀ t : Fin cfg1.N, win1_2.index t = ![1, 0, 0] :=
  (by decide +kernel : ∀ t : Fin grid1.N, win1_2.index t = ![1, 0, 0])
theorem idx3 : ∀ t : Fin cfg1.N, win1_3.index t = ![t.val, 0] :=
  (by decide +kernel : ∀ t : Fin grid1.N, win1_3.index t = ![t.val, 0])
theorem idx4 : ∀ t : Fin cfg1.N, win1_4.index t = ![t.val, 0] :=
  (by decide +kernel : ∀ t : Fin grid1.N, win1_4.index t = ![t.val, 0])
theorem idx5 : ∀ t : Fin cfg1.N, win1_5.index t = ![t.val, 0] :=
  (by decide +kernel : ∀ t : Fin grid1.N, win1_5.index t = ![t.val, 0])
theorem idx6 : ∀ t : Fin cfg1.N, win1_6.index t = ![t.val, 0] :=
  (by decide +kernel : ∀ t : Fin grid1.N, win1_6.index t = ![t.val, 0])

/-- The second grid coordinate of point `t` is the tile's number within its batch. -/
theorem coord : ∀ t : Fin cfg1.N, ((grid1.coords t) 1).val = t.val % 8 :=
  (by decide +kernel : ∀ t : Fin grid1.N, ((grid1.coords t) 1).val = t.val % 8)

/-- Row `r` of tile `t` is row `1040 t + r` of the array. -/
theorem blk0 (c : Dev nD) (t : Fin cfg1.N) (r : Fin 1040) (k : Fin 1024) (i : S33280x1024.Idx)
    (h0 : (i 0).val = t.val * 1040 + r.val) (h1 : (i 1).val = k.val) : iblk1 V c 0 t (ix2 r k) = V c main_v16 i := by
  blk_simp [iblk1, idx0]
  blk_ext [idx0, h0, h1]

theorem blk1 (c : Dev nD) (t : Fin cfg1.N) (k : Fin 1024) :
    iblk1 V c 1 t (ix2 0 k) = V c main_v19 (ix2 0 k) := by
  blk_simp [iblk1, idx1]
  blk_ext [idx1]

theorem blk2 (c : Dev nD) (t : Fin cfg1.N) (k : Fin 1024) (n : Fin 2560) :
    iblk1 V c 2 t (ix3 0 k n) = V c main_v7 (ix3 1 k n) := by
  blk_simp [iblk1, idx2]
  blk_ext [idx2]

/-- The 512 columns of the projection's matrix from column `j` on. -/
def cols (c : Dev nD) (j : ℕ) (h : j + 512 ≤ 2560) : Fin 1024 → Fin 512 → EReal := fun k n => V c main_v7 (ix3 1 k ⟨j + n.val, by omega⟩)

/-- A column of a tile's projection is the column of the array's projection at the row the tile's row is. -/
theorem col_eq (c : Dev nD) (t : Fin cfg1.N) (r : Fin 1040) (i : Fin 33280) (n : Fin 512) (j : ℕ) (h : j + 512 ≤ 2560)
    (h0 : i.val = t.val * 1040 + r.val) :
    Block.col (iblk1 V c 0 t) (iblk1 V c 1 t) (iblk1 V c 2 t) r ⟨j + n.val, by omega⟩
      = proj (V c main_v16) (fun k => V c main_v19 (ix2 0 k)) (cols V c j h) i n := by
  have hx : ∀ k, iblk1 V c 0 t (ix2 r k) = V c main_v16 (ix2 i k) := fun k => blk0 V c t r k _ h0 rfl
  unfold Block.col proj cols
  simp only [hx, blk1, blk2]

/-- The queries' array. -/
theorem arr3 (c : Dev nD) : (dat1 V c).arrAt 3 cfg1.N
    = queries (V c main_v16) (fun k => V c main_v19 (ix2 0 k)) (cols V c 0 (by decide)) := by
  refine (dat1 V c).arrAt_eq_of_covers 3 _ (by decide +kernel) fun t hf y => ?_
  blk_simp
  rw [after1_3, Block.q_apply]
  have e0 : (((win1_3.blk t).view.emb y) 0).val = t.val * 1040 + (y 0).val := by blk_simp [idx3]
  have e1 : ((win1_3.blk t).view.emb y) 1 = y 1 := Fin.ext (by blk_simp [idx3])
  unfold queries
  rw [e1, ← col_eq V c t (y 0) _ (y 1) 0 (by decide) e0]
  simp only [Nat.zero_add]

/-- The keys' array. -/
theorem arr4 (c : Dev nD) : (dat1 V c).arrAt 4 cfg1.N
    = keys (V c main_v16) (fun k => V c main_v19 (ix2 0 k)) (cols V c 512 (by decide)) := by
  refine (dat1 V c).arrAt_eq_of_covers 4 _ (by decide +kernel) fun t hf y => ?_
  blk_simp
  rw [after1_4, Block.k_apply]
  have e0 : (((win1_4.blk t).view.emb y) 0).val = t.val * 1040 + (y 0).val := by blk_simp [idx4]
  have e1 : ((win1_4.blk t).view.emb y) 1 = y 1 := Fin.ext (by blk_simp [idx4])
  unfold keys
  rw [e1, ← col_eq V c t (y 0) _ (y 1) 512 (by decide) e0]

/-- The values' array. -/
theorem arr5 (c : Dev nD) : (dat1 V c).arrAt 5 cfg1.N
    = keys (V c main_v16) (fun k => V c main_v19 (ix2 0 k)) (cols V c 1024 (by decide)) := by
  refine (dat1 V c).arrAt_eq_of_covers 5 _ (by decide +kernel) fun t hf y => ?_
  blk_simp
  rw [after1_5, Block.v_apply]
  have e0 : (((win1_5.blk t).view.emb y) 0).val = t.val * 1040 + (y 0).val := by blk_simp [idx5]
  have e1 : ((win1_5.blk t).view.emb y) 1 = y 1 := Fin.ext (by blk_simp [idx5])
  unfold keys
  rw [e1, ← col_eq V c t (y 0) _ (y 1) 1024 (by decide) e0]

/-- The convolution's input. -/
theorem arr6 (c : Dev nD) : (dat1 V c).arrAt 6 cfg1.N = convIn (V c main_v16) (fun k => V c main_v19 (ix2 0 k))
    (cols V c 1536 (by decide)) (cols V c 2048 (by decide)) := by
  refine (dat1 V c).arrAt_eq_of_covers 6 _ (by decide +kernel) fun t hf y => ?_
  blk_simp
  rw [after1_6, Block.u_apply, coord]
  have hy : (y 0).val < 1040 := (y 0).isLt
  have e0 : (((win1_6.blk t).view.emb y) 0).val = t.val * 1040 + (y 0).val := by blk_simp [idx6]
  have e1 : ((win1_6.blk t).view.emb y) 1 = y 1 := Fin.ext (by blk_simp [idx6])
  unfold convIn
  rw [e1, ← col_eq V c t (y 0) _ (y 1) 1536 (by decide) e0, ← col_eq V c t (y 0) _ (y 1) 2048 (by decide) e0, e0,
    show (t.val * 1040 + (y 0).val) % 8320 = t.val % 8 * 1040 + (y 0).val by omega]
  rfl

end Cert.KernelIdeal.ProjArray
-- ==== Proof.MixBlock.lean ====
/-
  The mixer's call: its block of a point, row by row.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Layer

@[expose] public section

set_option maxRecDepth 16384

noncomputable section

namespace Cert.KernelIdeal.Block

open Idealize.ShloMosaic Idealize.ShloMosaic.TcCoe Idealize.SL.Sem
open Cert.KernelIdeal Cert.KernelIdeal.Gen Cert.Layer

/-- Row `n` of the tile's window of the gated rows: 32 rows kept from the tile before, then the tile's 640. -/
def win (x4 : Vec Ideal S640x512 .f32) (x5 : Vec Ideal S32x512 .f32) (n : ℕ) (ch : Fin 512) : EReal :=
  if h : n < 32 then x5 (ix2 ⟨n, h⟩ ch) else if h : n - 32 < 640 then x4 (ix2 ⟨n - 32, h⟩ ch) else 0

theorem win_congr {x4 : Vec Ideal S640x512 .f32} {x5 : Vec Ideal S32x512 .f32} {n n' : ℕ} {ch ch' : Fin 512} (h : n = n')
    (h' : ch.val = ch'.val) : win x4 x5 n ch = win x4 x5 n' ch' := by
  rw [h, Fin.ext h']

theorem win_old (x4 : Vec Ideal S640x512 .f32) (x5 : Vec Ideal S32x512 .f32) {n : ℕ} (h : n < 32) (ch : Fin 512) :
    win x4 x5 n ch = x5 (ix2 ⟨n, h⟩ ch) := dif_pos h

theorem win_new (x4 : Vec Ideal S640x512 .f32) (x5 : Vec Ideal S32x512 .f32) {n : ℕ} (h : n < 640) (ch : Fin 512) :
    win x4 x5 (32 + n) ch = x4 (ix2 ⟨n, h⟩ ch) := by
  have e : 32 + n - 32 = n := by omega
  rw [win, dif_neg (by omega), dif_pos (by omega)]
  exact congrArg (fun r => x4 (ix2 r ch)) (Fin.ext e)

/-- The window, as the array that the first scratch holds. -/
def winArr (x4 : Vec Ideal S640x512 .f32) (x5 : Vec Ideal S32x512 .f32) : Vec Ideal S672x512 .f32 := fun y =>
  win x4 x5 (y 0).val (y 1)

/-- The eight shifted copies of the window that the second scratch holds, in groups of eight rows. -/
def shiftArr (x4 : Vec Ideal S640x512 .f32) (x5 : Vec Ideal S32x512 .f32) : Vec Ideal S8x83x8x512 .f32 := fun y =>
  win x4 x5 (2 + (y 0).val + (8 * (y 1).val + (y 2).val)) (y 3)

/-- The normalised convolution rows of the tile, as the array that the third scratch holds. -/
def convArr (x4 : Vec Ideal S640x512 .f32) (x5 : Vec Ideal S32x512 .f32) (w : ℕ → Fin 512 → EReal)
    (x7 x8 x9 : Vec Ideal S1x512 .f32) : Vec Ideal S640x512 .bf16 := fun y =>
  convRow (taps (fun ch => x7 (ix2 0 ch)) w (fun n => win x4 x5 (n + 2)) (y 0).val 31) (fun ch => x8 (ix2 0 ch))
    (fun ch => x9 (ix2 0 ch)) (y 1)

/-- The same array on the 32 rows of a store at row `c`. -/
theorem convArr_emb (x4 : Vec Ideal S640x512 .f32) (x5 : Vec Ideal S32x512 .f32) (w : ℕ → Fin 512 → EReal)
    (x7 x8 x9 : Vec Ideal S1x512 .f32) (c : ℕ) (inb) (a : Fin 32) (b : Fin 512) :
    convArr x4 x5 w x7 x8 x9 ((Rect.unit (s := S640x512) ![c, 0] S32x512.size inb).emb (ix2 a b))
      = convRow (taps (fun ch => x7 (ix2 0 ch)) w (fun n => win x4 x5 (n + 2)) (a.val + c) 31) (fun ch => x8 (ix2 0 ch))
        (fun ch => x9 (ix2 0 ch)) b := by
  have e : ((Rect.unit (s := S640x512) ![c, 0] S32x512.size inb).emb (ix2 a b) 0).val = a.val + c :=
    (Rect.idx_unit_val _ _ _ _ _).trans (Nat.add_comm _ _)
  have e' : (Rect.unit (s := S640x512) ![c, 0] S32x512.size inb).emb (ix2 a b) 1 = b :=
    Fin.ext ((Rect.idx_unit_val _ _ _ _ _).trans (Nat.zero_add _))
  rw [convArr, e, e']

/-- The same array on the 320 rows of a load at row `c`. -/
theorem convArr_ld (x4 : Vec Ideal S640x512 .f32) (x5 : Vec Ideal S32x512 .f32) (w : ℕ → Fin 512 → EReal)
    (x7 x8 x9 : Vec Ideal S1x512 .f32) (c : ℕ) (inb) (a : Fin 320) (b : Fin 512) :
    convArr x4 x5 w x7 x8 x9 ((Rect.unit (s := S640x512) ![c, 0] ![320, 512] inb).toLoadRect.idx (ix2 a b))
      = convRow (taps (fun ch => x7 (ix2 0 ch)) w (fun n => win x4 x5 (n + 2)) (c + a.val) 31) (fun ch => x8 (ix2 0 ch))
        (fun ch => x9 (ix2 0 ch)) b := by
  have e : ((Rect.unit (s := S640x512) ![c, 0] ![320, 512] inb).toLoadRect.idx (ix2 a b) 0).val = c + a.val := by
    show c + 1 * a.val = c + a.val
    omega
  have e' : (Rect.unit (s := S640x512) ![c, 0] ![320, 512] inb).toLoadRect.idx (ix2 a b) 1 = b :=
    Fin.ext (by show 0 + 1 * b.val = b.val; omega)
  rw [convArr, e, e']

/-- The mixer's block: row `r` is the mixer on row `r`, with row `r` of the attention's block and row `r` of `conv`. -/
def mixArr (x0 : Vec Ideal S640x1024 .f32) (x1 : Vec Ideal S1x1024 .f32) (x2 : Vec Ideal S1x1024x2048 .bf16)
    (x3 : Vec Ideal S640x512 .bf16) (conv : ℕ → Fin 512 → EReal) (x10 x11 : Vec Ideal S1x512x1024 .bf16)
    (x12 : Vec Ideal S1x1024x1024 .bf16) : Vec Ideal S640x1024 .f32 := fun y =>
  mixed (fun k => x0 (ix2 (y 0) k)) (fun k => x1 (ix2 0 k)) (fun i k => x2 (ix3 0 i ⟨k.val, by omega⟩))
    (fun i k => x2 (ix3 0 i ⟨1024 + k.val, by omega⟩)) (fun i => x3 (ix2 (y 0) i)) (conv (y 0).val)
    (fun i k => x10 (ix3 0 i k)) (fun i k => x11 (ix3 0 i k)) (fun i k => x12 (ix3 0 i k)) (y 1)

/-- `mixArr` at an index whose coordinates are known as numbers. -/
theorem mixArr_at (x0 : Vec Ideal S640x1024 .f32) (x1 : Vec Ideal S1x1024 .f32) (x2 : Vec Ideal S1x1024x2048 .bf16)
    (x3 : Vec Ideal S640x512 .bf16) (conv : ℕ → Fin 512 → EReal) (x10 x11 : Vec Ideal S1x512x1024 .bf16)
    (x12 : Vec Ideal S1x1024x1024 .bf16) (y : S640x1024.Idx) (r n : ℕ) (h0 : (y 0).val = r) (h1 : (y 1).val = n) :
    mixArr x0 x1 x2 x3 conv x10 x11 x12 y = mixed (fun k => x0 (ix2 ⟨r, h0 ▸ (y 0).isLt⟩ k)) (fun k => x1 (ix2 0 k))
      (fun i k => x2 (ix3 0 i ⟨k.val, by omega⟩)) (fun i k => x2 (ix3 0 i ⟨1024 + k.val, by omega⟩))
      (fun i => x3 (ix2 ⟨r, h0 ▸ (y 0).isLt⟩ i)) (conv r) (fun i k => x10 (ix3 0 i k)) (fun i k => x11 (ix3 0 i k))
      (fun i k => x12 (ix3 0 i k)) ⟨n, h1 ▸ (y 1).isLt⟩ := by
  subst h0 h1
  rfl

/-- Two loads of one scratch, after a list of stores and after its first half, read the array whose blocks the stores wrote. -/
theorem reads {rs : RefSig} {κ : Kind} {sp : Space} {v : View rs κ sp S640x512 .bf16}
    {L L' : List (View.Piece (Elt Ideal) S640x512 .bf16)} {cv cw : (B : LoadRect S640x512) → B.shape.Idx → EReal}
    (hc : View.readCov (Val := Elt Ideal) v L = cv) (hd : View.readCov (Val := Elt Ideal) v L' = cw)
    (G : Vec Ideal S640x512 .bf16) (h' : View.PiecesOf G L') (h : View.PiecesOf G L' → View.PiecesOf G L)
    (cover : ∀ y : S640x512.Idx, ∃ p ∈ L, y ∈ p.1.set) (cover' : ∀ y : S640x512.Idx, (y 0).val < 320 → ∃ p ∈ L', y ∈ p.1.set) :
    (∀ B j, cv B j = G (B.idx j)) ∧ ∀ B j, (B.idx j 0).val < 320 → cw B j = G (B.idx j) := by
  subst hc hd
  constructor
  · intro B j
    rw [View.readCov_eq_canon']
    exact View.canon_apply_of_pieces G _ (View.PiecesOf.mem (h h')) _ (cover _)
  · intro B j hj
    rw [View.readCov_eq_canon']
    exact View.canon_apply_of_pieces G _ (View.PiecesOf.mem h') _ (cover' _ hj)

set_option maxHeartbeats 8000000 in
/-- What a point of the mixer's call leaves in its block, as a function of the point's input blocks. -/
theorem outs2_apply (V : (c : Dev nD) → (b : Ref sig .tc) → Buf (Elt Ideal) ((c : Thread nD τ).loc b)) (c : Dev nD)
    (t : Fin cfg2.N) (x0 : Vec Ideal S640x1024 .f32) (x1 : Vec Ideal S1x1024 .f32) (x2 : Vec Ideal S1x1024x2048 .bf16)
    (x3 : Vec Ideal S640x512 .bf16) (x4 : Vec Ideal S640x512 .f32) (x5 : Vec Ideal S32x512 .f32) (x6 : Vec Ideal S31x8x512 .f32)
    (x7 x8 x9 : Vec Ideal S1x512 .f32) (x10 x11 : Vec Ideal S1x512x1024 .bf16) (x12 : Vec Ideal S1x1024x1024 .bf16)
    (w : ℕ → Fin 512 → EReal) (hw6 : ∀ k s ch, x6 (ix3 k s ch) = w k.val ch)
    (h0 : iblk2 V c 0 t = x0) (h1 : iblk2 V c 1 t = x1)
    (h2 : iblk2 V c 2 t = x2) (h3 : iblk2 V c 3 t = x3) (h4 : iblk2 V c 4 t = x4) (h5 : iblk2 V c 5 t = x5)
    (h6 : iblk2 V c 6 t = x6) (h7 : iblk2 V c 7 t = x7) (h8 : iblk2 V c 8 t = x8) (h9 : iblk2 V c 9 t = x9)
    (h10 : iblk2 V c 10 t = x10) (h11 : iblk2 V c 11 t = x11) (h12 : iblk2 V c 12 t = x12) (y : S640x1024.Idx) :
    outsAt2 V c t y = mixArr x0 x1 x2 x3 (fun n => convRow (taps (fun ch => x7 (ix2 0 ch)) w (fun n => win x4 x5 (n + 2)) n 31)
      (fun ch => x8 (ix2 0 ch)) (fun ch => x9 (ix2 0 ch))) x10 x11 x12 y := by
  unfold outsAt2
  rw [h0, h1, h2, h3, h4, h5, h6, h7, h8, h9, h10, h11, h12]
  frame_open
  rw [View.read_writes_junk_eq_canon]
  generalize hs : View.readCov (Val := Elt Ideal) scM2_1.view _ = sh
  have hw : ∀ (B : LoadRect S8x83x8x512) (j : B.shape.Idx), (B.idx j 0).val < 7 ∨ (B.idx j 1).val < 82 →
      sh B j = shiftArr x4 x5 (B.idx j) := by
    intro B j hj
    rw [← hs]
    clear hs
    generalize hu : View.readCov (Val := Elt Ideal) scM2_0.view _ = u
    have hv : ∀ (B : LoadRect S672x512) (j : B.shape.Idx), u B j = winArr x4 x5 (B.idx j) := by
      intro B j
      rw [← hu, View.readCov_eq_canon']
      refine View.canon_apply_of_pieces (winArr x4 x5) _ (View.PiecesOf.mem ?_) _ ?_
      · refine ⟨fun x => ?_, fun x => ?_, trivial⟩
        all_goals simp (disch := decide) only [View.readAt_eq_ld, View.ld_unit_lit', Memref.IsWhole.read_unread]
        all_goals pointwise [k2_pay3, k2_pay2]
        · refine Eq.trans ?_ (win_congr (n := 32 + (x 0).val) (ch := x 1) ?_ ?_)
          · exact (congrArg x4 (eq_ix2 x)).trans (win_new x4 x5 (x 0).isLt (x 1)).symm
          · blk_simp
          · blk_simp
        · refine Eq.trans ?_ (win_congr (n := (x 0).val) (ch := x 1) ?_ ?_)
          · exact (congrArg x5 (eq_ix2 x)).trans (win_old x4 x5 (x 0).isLt (x 1)).symm
          · blk_simp
          · blk_simp
      · have h0 : (B.idx j 0).val < 672 := (B.idx j 0).isLt
        have h1 : (B.idx j 1).val < 512 := (B.idx j 1).isLt
        simp only [List.exists_mem_cons_iff, Rect.mem_set_unit]
        generalize B.idx j = z at *
        simp [Fin.forall_fin_succ]
        omega
    clear hu
    rw [View.readCov_eq_canon']
    refine View.canon_apply_of_pieces (shiftArr x4 x5) _ (View.PiecesOf.mem ?_) _ ?_
    · refine ⟨fun x => ?_, fun x => ?_, fun x => ?_, fun x => ?_,
        fun x => ?_, fun x => ?_, fun x => ?_, fun x => ?_, trivial⟩
      all_goals
        have hx : (x 0).val < 1 := (x 0).isLt
        pointwise [k2_pay4, k2_pay5, k2_pay6, k2_pay7, k2_pay8, k2_pay9, k2_pay10, k2_pay11]
        refine (hv _ _).trans (win_congr ?_ ?_)
        · refine (Rect.idx_unit_val _ _ _ _ _).trans ?_
          blk_simp
          dsimp only
          omega
        · refine (Rect.idx_unit_val _ _ _ _ _).trans ?_
          blk_simp
    have h0 : (B.idx j 0).val < 8 := (B.idx j 0).isLt
    have h1 : (B.idx j 1).val < 83 := (B.idx j 1).isLt
    have h2 : (B.idx j 2).val < 8 := (B.idx j 2).isLt
    have h3 : (B.idx j 3).val < 512 := (B.idx j 3).isLt
    simp only [List.exists_mem_cons_iff, Rect.mem_set_unit]
    generalize B.idx j = z at *
    simp [Fin.forall_fin_succ]
    omega
  clear hs
  have hsh : ∀ (r g : ℕ) (inb) (n : ℕ) (hn : n / 8 < 4) (hn' : n % 8 < 8) (ch : Fin 512), r < 7 ∨ g < 79 →
      sh (Rect.unit (s := S8x83x8x512) ![r, g, 0, 0] ![1, 4, 8, 512] inb).toLoadRect (ix4 0 ⟨n / 8, hn⟩ ⟨n % 8, hn'⟩ ch)
        = win x4 x5 (n + (8 * g + r) + 2) ch := by
    intro r g inb n hn hn' ch h
    refine (hw _ _ ?_).trans (win_congr ?_ ?_)
    · show r + 1 * 0 < 7 ∨ g + 1 * (n / 8) < 82
      omega
    · show 2 + (r + 1 * 0) + (8 * (g + 1 * (n / 8)) + (0 + 1 * (n % 8))) = _
      omega
    · show 0 + 1 * ch.val = ch.val
      omega
  simp (disch := decide) only [View.readAt_eq_ld, View.ld_unit_lit', Memref.IsWhole.read_unread]
  generalize hc : View.readCov (Val := Elt Ideal) scM2_2.view _ = cv
  generalize hd : View.readCov (Val := Elt Ideal) scM2_2.view _ = cw
  obtain ⟨hcv, hcw⟩ : (∀ B j, cv B j = convArr x4 x5 w x7 x8 x9 (B.idx j)) ∧
      ∀ B j, (B.idx j 0).val < 320 → cw B j = convArr x4 x5 w x7 x8 x9 (B.idx j) := by
    refine reads hc hd _ ?_ (fun hq => ?_) ?_ ?_
    on_goal 4 =>
      intro y hy
      have h1 : (y 1).val < 512 := (y 1).isLt
      simp only [List.exists_mem_cons_iff, Rect.mem_set_unit]
      simp [Fin.forall_fin_succ]
      omega
    on_goal 3 =>
      intro y
      have h0 : (y 0).val < 640 := (y 0).isLt
      have h1 : (y 1).val < 512 := (y 1).isLt
      simp only [List.exists_mem_cons_iff, Rect.mem_set_unit]
      simp [Fin.forall_fin_succ]
      omega
    on_goal 2 => refine ⟨fun x => ?_, fun x => ?_, fun x => ?_, fun x => ?_, fun x => ?_, fun x => ?_, fun x => ?_, fun x => ?_,
      fun x => ?_, fun x => ?_, hq⟩
    on_goal 1 => refine ⟨fun x => ?_, fun x => ?_, fun x => ?_, fun x => ?_, fun x => ?_, fun x => ?_, fun x => ?_, fun x => ?_,
      fun x => ?_, fun x => ?_, trivial⟩
    all_goals
      clear hc hd
      obtain ⟨a, b, rfl⟩ : ∃ (a : Fin 32) (b : Fin 512), x = ix2 a b := ⟨x 0, x 1, eq_ix2 x⟩
      pointwise [
        k2_pay12, k2_pay13, k2_pay14, k2_pay15, k2_pay16, k2_pay17, k2_pay18, k2_pay19, k2_pay20, k2_pay21,
        k2_pay22, k2_pay23, k2_pay24, k2_pay25, k2_pay26, k2_pay27, k2_pay28, k2_pay29, k2_pay30, k2_pay31,
        k2_pay32, k2_pay33, k2_pay34, k2_pay35, k2_pay36, k2_pay37, k2_pay38, k2_pay39, k2_pay40, k2_pay41,
        k2_pay42, k2_pay43, k2_pay44, k2_pay45, k2_pay46, k2_pay47, k2_pay48, k2_pay49, k2_pay50, k2_pay51,
        k2_pay52, k2_pay53, k2_pay54, k2_pay55, k2_pay56, k2_pay57, k2_pay58, k2_pay59, k2_pay60, k2_pay61,
        k2_pay62, k2_pay63, k2_pay64, k2_pay65, k2_pay66, k2_pay67, k2_pay68, k2_pay69, k2_pay70, k2_pay71,
        k2_pay72, k2_pay73, k2_pay74, k2_pay75, k2_pay76, k2_pay77, k2_pay78, k2_pay79, k2_pay80, k2_pay81,
        k2_pay82, k2_pay83, k2_pay84, k2_pay85, k2_pay86, k2_pay87, k2_pay88, k2_pay89, k2_pay90, k2_pay91,
        k2_pay92, k2_pay93, k2_pay94, k2_pay95, k2_pay96, k2_pay97, k2_pay98, k2_pay99, k2_pay100, k2_pay101,
        k2_pay102, k2_pay103, k2_pay104, k2_pay105, k2_pay106, k2_pay107, k2_pay108, k2_pay109, k2_pay110,
        k2_pay111, k2_pay112, k2_pay113, k2_pay114, k2_pay115, k2_pay116, k2_pay117, k2_pay118, k2_pay119,
        k2_pay120, k2_pay121, k2_pay122, k2_pay123, k2_pay124, k2_pay125, k2_pay126, k2_pay127, k2_pay128,
        k2_pay129, k2_pay130, k2_pay131, k2_pay132, k2_pay133, k2_pay134, k2_pay135, k2_pay136, k2_pay137,
        k2_pay138, k2_pay139, k2_pay140, k2_pay141, k2_pay142, k2_pay143, k2_pay144, k2_pay145, k2_pay146,
        k2_pay147, k2_pay148, k2_pay149, k2_pay150, k2_pay151, k2_pay152, k2_pay153, k2_pay154, k2_pay155,
        k2_pay156, k2_pay157, k2_pay158, k2_pay159, k2_pay160, k2_pay161, k2_pay162, k2_pay163, k2_pay164,
        k2_pay165, k2_pay166, k2_pay167, k2_pay168, k2_pay169, k2_pay170, k2_pay171, k2_pay172, k2_pay173,
        k2_pay174, k2_pay175, k2_pay176, k2_pay177, k2_pay178, k2_pay179, k2_pay180, k2_pay181, k2_pay182,
        k2_pay183, k2_pay184, k2_pay185, k2_pay186, k2_pay187, k2_pay188, k2_pay194, k2_pay195, k2_pay196,
        k2_pay197, k2_pay198, k2_pay199, k2_pay200, k2_pay201, k2_pay202, k2_pay203, k2_pay204, k2_pay205,
        k2_pay206, k2_pay207, k2_pay208, k2_pay209, k2_pay210, k2_pay211, k2_pay212, k2_pay213, k2_pay214,
        k2_pay215, k2_pay216, k2_pay217, k2_pay218, k2_pay219, k2_pay220, k2_pay221, k2_pay222, k2_pay223,
        k2_pay224, k2_pay225, k2_pay226, k2_pay227, k2_pay228, k2_pay229, k2_pay230, k2_pay231, k2_pay232,
        k2_pay233, k2_pay234, k2_pay235, k2_pay236, k2_pay237, k2_pay238, k2_pay239, k2_pay240, k2_pay241,
        k2_pay242, k2_pay243, k2_pay244, k2_pay245, k2_pay246, k2_pay247, k2_pay248, k2_pay249, k2_pay250,
        k2_pay251, k2_pay252, k2_pay253, k2_pay254, k2_pay255, k2_pay256, k2_pay257, k2_pay258, k2_pay259,
        k2_pay260, k2_pay261, k2_pay262, k2_pay263, k2_pay264, k2_pay265, k2_pay266, k2_pay267, k2_pay268,
        k2_pay269, k2_pay270, k2_pay271, k2_pay272, k2_pay273, k2_pay274, k2_pay275, k2_pay276, k2_pay277,
        k2_pay278, k2_pay279, k2_pay280, k2_pay281, k2_pay282, k2_pay283, k2_pay284, k2_pay285, k2_pay286,
        k2_pay287, k2_pay288, k2_pay289, k2_pay290, k2_pay291, k2_pay292, k2_pay293, k2_pay294, k2_pay295,
        k2_pay296, k2_pay297, k2_pay298, k2_pay299, k2_pay300, k2_pay301, k2_pay302, k2_pay303, k2_pay304,
        k2_pay305, k2_pay306, k2_pay307, k2_pay308, k2_pay309, k2_pay310, k2_pay311, k2_pay312, k2_pay313,
        k2_pay314, k2_pay315, k2_pay316, k2_pay317, k2_pay318, k2_pay319, k2_pay320, k2_pay321, k2_pay322,
        k2_pay323, k2_pay324, k2_pay325, k2_pay326, k2_pay327, k2_pay328, k2_pay329, k2_pay330, k2_pay331,
        k2_pay332, k2_pay333, k2_pay334, k2_pay335, k2_pay336, k2_pay337, k2_pay338, k2_pay339, k2_pay340,
        k2_pay341, k2_pay342, k2_pay343, k2_pay344, k2_pay345, k2_pay346, k2_pay347, k2_pay348, k2_pay349,
        k2_pay350, k2_pay351, k2_pay352, k2_pay353, k2_pay354, k2_pay355, k2_pay356, k2_pay357]
      refine Eq.trans ?_ (convArr_emb ..).symm
      simp (disch := decide) only [hsh, hw6, zero_sub, convRow, silu, layerNorm, centred, taps, Nat.add_assoc, Nat.reduceMul,
        Nat.reduceAdd]
      rfl
  clear hc hd
  have hcv' (a : Fin 320) (b : Fin 512) :
      cv (Rect.unit (s := S640x512) ![320, 0] ![320, 512] inb_S640x512_S320x512_320_0).toLoadRect (ix2 a b)
        = convRow (taps (fun ch => x7 (ix2 0 ch)) w (fun n => win x4 x5 (n + 2)) (320 + a.val) 31) (fun ch => x8 (ix2 0 ch))
          (fun ch => x9 (ix2 0 ch)) b := (hcv _ _).trans (convArr_ld ..)
  have hcw' (a : Fin 320) (b : Fin 512) :
      cw (Rect.unit (s := S640x512) ![0, 0] ![320, 512] inb_S640x512_S320x512_0_0).toLoadRect (ix2 a b)
        = convRow (taps (fun ch => x7 (ix2 0 ch)) w (fun n => win x4 x5 (n + 2)) a.val 31) (fun ch => x8 (ix2 0 ch))
          (fun ch => x9 (ix2 0 ch)) b := by
    refine (hcw _ _ ?_).trans ((convArr_ld ..).trans (by rw [Nat.zero_add]))
    show 0 + 1 * a.val < 320
    omega
  canon_tiles x h
  all_goals
    obtain ⟨a, b, rfl⟩ : ∃ (a : Fin 320) (b : Fin 1024), x = ix2 a b := ⟨x 0, x 1, eq_ix2 x⟩
    refine Eq.trans ?_ (mixArr_at _ _ _ _ _ _ _ _ y _ _ h0 h1).symm
    pointwise [k2_pay1, k2_pay189, k2_pay190, k2_pay191, k2_pay192, k2_pay193, k2_pay358, k2_pay359, k2_pay360, k2_pay361,
      k2_pay362, k2_pay363, k2_pay364]
  · simp only [hcv', zero_sub]
    rfl
  · simp only [hcw', zero_sub]
    rfl

end Cert.KernelIdeal.Block
-- ==== Proof.MixArray.lean ====
/-
  The array the mixer's call leaves: tile `t` holds rows `640 t` on; its convolution reads 30 rows back, which lie in the
  32 rows before the tile, or, for the first tile, in the array's first rows.
-/
module

public import proofs.«01_k».proof.Proof.MixBlock
public import Idealize.ShloMosaic.Lib.Claim

@[expose] public section

set_option maxRecDepth 16384

noncomputable section

namespace Cert.KernelIdeal.MixArray

open Idealize.ShloMosaic Idealize.ShloMosaic.TcCoe Idealize.SL.Sem
open Cert.KernelIdeal Cert.KernelIdeal.Gen Cert.Layer

variable (V : (c : Dev nD) → (b : Ref sig .tc) → Buf (Elt Ideal) ((c : Thread nD τ).loc b))

theorem idx0 : ∀ t : Fin cfg2.N, win2_0.index t = ![t.val, 0] :=
  (by decide +kernel : ∀ t : Fin grid2.N, win2_0.index t = ![t.val, 0])
theorem idx1 : ∀ t : Fin cfg2.N, win2_1.index t = ![0, 0] :=
  (by decide +kernel : ∀ t : Fin grid2.N, win2_1.index t = ![0, 0])
theorem idx2 : ∀ t : Fin cfg2.N, win2_2.index t = ![1, 0, 0] :=
  (by decide +kernel : ∀ t : Fin grid2.N, win2_2.index t = ![1, 0, 0])
theorem idx3 : ∀ t : Fin cfg2.N, win2_3.index t = ![t.val, 0] :=
  (by decide +kernel : ∀ t : Fin grid2.N, win2_3.index t = ![t.val, 0])
theorem idx4 : ∀ t : Fin cfg2.N, win2_4.index t = ![t.val, 0] :=
  (by decide +kernel : ∀ t : Fin grid2.N, win2_4.index t = ![t.val, 0])
theorem idx5 : ∀ t : Fin cfg2.N, win2_5.index t = ![t.val * 20 - 1, 0] :=
  (by decide +kernel : ∀ t : Fin grid2.N, win2_5.index t = ![t.val * 20 - 1, 0])
theorem idx6 : ∀ t : Fin cfg2.N, win2_6.index t = ![0, 0, 0] :=
  (by decide +kernel : ∀ t : Fin grid2.N, win2_6.index t = ![0, 0, 0])
theorem idx7 : ∀ t : Fin cfg2.N, win2_7.index t = ![0, 0] :=
  (by decide +kernel : ∀ t : Fin grid2.N, win2_7.index t = ![0, 0])
theorem idx8 : ∀ t : Fin cfg2.N, win2_8.index t = ![0, 0] :=
  (by decide +kernel : ∀ t : Fin grid2.N, win2_8.index t = ![0, 0])
theorem idx9 : ∀ t : Fin cfg2.N, win2_9.index t = ![0, 0] :=
  (by decide +kernel : ∀ t : Fin grid2.N, win2_9.index t = ![0, 0])
theorem idx10 : ∀ t : Fin cfg2.N, win2_10.index t = ![1, 0, 0] :=
  (by decide +kernel : ∀ t : Fin grid2.N, win2_10.index t = ![1, 0, 0])
theorem idx11 : ∀ t : Fin cfg2.N, win2_11.index t = ![1, 0, 0] :=
  (by decide +kernel : ∀ t : Fin grid2.N, win2_11.index t = ![1, 0, 0])
theorem idx12 : ∀ t : Fin cfg2.N, win2_12.index t = ![1, 0, 0] :=
  (by decide +kernel : ∀ t : Fin grid2.N, win2_12.index t = ![1, 0, 0])
theorem idx13 : ∀ t : Fin cfg2.N, win2_13.index t = ![t.val, 0] :=
  (by decide +kernel : ∀ t : Fin grid2.N, win2_13.index t = ![t.val, 0])

theorem blk0 (c : Dev nD) (t : Fin cfg2.N) (r : Fin 640) (k : Fin 1024) (i : S33280x1024.Idx)
    (h0 : (i 0).val = t.val * 640 + r.val) (h1 : (i 1).val = k.val) : iblk2 V c 0 t (ix2 r k) = V c main_v16 i := by
  blk_simp [iblk2, idx0]
  blk_ext [idx0, h0, h1]

theorem blk3 (c : Dev nD) (t : Fin cfg2.N) (r : Fin 640) (k : Fin 512) (i : S33280x512.Idx)
    (h0 : (i 0).val = t.val * 640 + r.val) (h1 : (i 1).val = k.val) : iblk2 V c 3 t (ix2 r k) = V c main_arg1 i := by
  blk_simp [iblk2, idx3]
  blk_ext [idx3, h0, h1]

theorem blk4 (c : Dev nD) (t : Fin cfg2.N) (r : Fin 640) (k : Fin 512) (i : S33280x512.Idx)
    (h0 : (i 0).val = t.val * 640 + r.val) (h1 : (i 1).val = k.val) : iblk2 V c 4 t (ix2 r k) = V c main_v20_3 i := by
  blk_simp [iblk2, idx4]
  blk_ext [idx4, h0, h1]

/-- The 32 rows before the tile; before the first tile the array's first 32 rows. -/
theorem blk5 (c : Dev nD) (t : Fin cfg2.N) (r : Fin 32) (k : Fin 512) (i : S33280x512.Idx)
    (h0 : (i 0).val = (t.val * 20 - 1) * 32 + r.val) (h1 : (i 1).val = k.val) : iblk2 V c 5 t (ix2 r k) = V c main_v20_3 i := by
  blk_simp [iblk2, idx5]
  blk_ext [idx5, h0, h1]

theorem blk1 (c : Dev nD) (t : Fin cfg2.N) (k : Fin 1024) :
    iblk2 V c 1 t (ix2 0 k) = V c main_v23 (ix2 0 k) := by
  blk_simp [iblk2, idx1]
  blk_ext [idx1]

theorem blk2 (c : Dev nD) (t : Fin cfg2.N) (k : Fin 1024) (n : Fin 2048) :
    iblk2 V c 2 t (ix3 0 k n) = V c main_v9 (ix3 1 k n) := by
  blk_simp [iblk2, idx2]
  blk_ext [idx2]

theorem blk6 (c : Dev nD) (t : Fin cfg2.N) (k : Fin 31) (s : Fin 8) (ch : Fin 512) :
    iblk2 V c 6 t (ix3 k s ch) = V c main_v27 (ix3 k s ch) := by
  blk_simp [iblk2, idx6]
  blk_ext [idx6]

theorem blk7 (c : Dev nD) (t : Fin cfg2.N) (ch : Fin 512) :
    iblk2 V c 7 t (ix2 0 ch) = V c main_v30 (ix2 0 ch) := by
  blk_simp [iblk2, idx7]
  blk_ext [idx7]

theorem blk8 (c : Dev nD) (t : Fin cfg2.N) (ch : Fin 512) :
    iblk2 V c 8 t (ix2 0 ch) = V c main_v33 (ix2 0 ch) := by
  blk_simp [iblk2, idx8]
  blk_ext [idx8]

theorem blk9 (c : Dev nD) (t : Fin cfg2.N) (ch : Fin 512) :
    iblk2 V c 9 t (ix2 0 ch) = V c main_v36 (ix2 0 ch) := by
  blk_simp [iblk2, idx9]
  blk_ext [idx9]

theorem blk10 (c : Dev nD) (t : Fin cfg2.N) (i : Fin 512) (k : Fin 1024) :
    iblk2 V c 10 t (ix3 0 i k) = V c main_v10 (ix3 1 i k) := by
  blk_simp [iblk2, idx10]
  blk_ext [idx10]

theorem blk11 (c : Dev nD) (t : Fin cfg2.N) (i : Fin 512) (k : Fin 1024) :
    iblk2 V c 11 t (ix3 0 i k) = V c main_v11 (ix3 1 i k) := by
  blk_simp [iblk2, idx11]
  blk_ext [idx11]

theorem blk12 (c : Dev nD) (t : Fin cfg2.N) (i : Fin 1024) (k : Fin 1024) :
    iblk2 V c 12 t (ix3 0 i k) = V c main_v12 (ix3 1 i k) := by
  blk_simp [iblk2, idx12]
  blk_ext [idx12]

/-- The tile's window at row `r` and tap `k` is the array's row that tap reads. -/
theorem window (c : Dev nD) (t : Fin cfg2.N) (r : Fin 640) (k : ℕ) (hk : k < 31) :
    Block.win (iblk2 V c 4 t) (iblk2 V c 5 t) (r.val + k + 2) = rowOf (V c main_v20_3) (source (t.val * 640 + r.val + k)) := by
  have ht : t.val < 52 := t.isLt
  have hr : r.val < 640 := r.isLt
  funext ch
  unfold rowOf source
  by_cases h : r.val + k + 2 < 32
  · rw [Block.win_old _ _ h]
    split <;> rw [dif_pos (by omega)] <;> refine blk5 V c t _ ch _ ?_ rfl
    · show t.val * 640 + r.val + k + 2 = (t.val * 20 - 1) * 32 + (r.val + k + 2)
      omega
    · show t.val * 640 + r.val + k - 30 = (t.val * 20 - 1) * 32 + (r.val + k + 2)
      omega
  · obtain ⟨n, hn⟩ : ∃ n, r.val + k + 2 = 32 + n := ⟨r.val + k - 30, by omega⟩
    rw [hn, Block.win_new _ _ (by omega), if_neg (by omega), dif_pos (by omega)]
    refine blk4 V c t _ ch _ ?_ rfl
    show t.val * 640 + r.val + k - 30 = t.val * 640 + n
    omega

set_option maxHeartbeats 2000000 in
/-- The array after the call is the mixer on every row. -/
theorem arr (c : Dev nD) (w : ℕ → Fin 512 → EReal) (hw : ∀ k s ch, V c main_v27 (ix3 k s ch) = w k.val ch) :
    (dat2 V c).arrAt 13 cfg2.N = mixRows (V c main_v16) (V c main_arg1) (V c main_v20_3) (fun k => V c main_v23 (ix2 0 k))
      (fun i k => V c main_v9 (ix3 1 i ⟨k.val, by omega⟩)) (fun i k => V c main_v9 (ix3 1 i ⟨1024 + k.val, by omega⟩)) w
      (fun ch => V c main_v30 (ix2 0 ch)) (fun ch => V c main_v33 (ix2 0 ch)) (fun ch => V c main_v36 (ix2 0 ch))
      (fun i k => V c main_v10 (ix3 1 i k)) (fun i k => V c main_v11 (ix3 1 i k)) (fun i k => V c main_v12 (ix3 1 i k)) := by
  refine (dat2 V c).arrAt_eq_of_covers 13 _ (by decide +kernel) fun t hf y => ?_
  blk_simp
  rw [after2_13, Block.outs2_apply V c t _ _ _ _ _ _ _ _ _ _ _ _ _ w (fun k s ch => (blk6 V c t k s ch).trans (hw k s ch))
    rfl rfl rfl rfl rfl rfl rfl rfl rfl rfl rfl rfl rfl]
  have e0 : (((win2_13.blk t).view.emb y) 0).val = t.val * 640 + (y 0).val := by blk_simp [idx13]
  have e1 : ((win2_13.blk t).view.emb y) 1 = y 1 := Fin.ext (by blk_simp [idx13])
  have hx : ∀ k, iblk2 V c 0 t (ix2 (y 0) k) = V c main_v16 (ix2 (((win2_13.blk t).view.emb y) 0) k) :=
    fun k => blk0 V c t (y 0) k _ e0 rfl
  have ha : ∀ k, iblk2 V c 3 t (ix2 (y 0) k) = V c main_arg1 (ix2 (((win2_13.blk t).view.emb y) 0) k) :=
    fun k => blk3 V c t (y 0) k _ e0 rfl
  unfold Block.mixArr mixRows
  simp only [hx, ha, blk1, blk2, blk7, blk8, blk9, blk10, blk11, blk12, e1]
  rw [taps_congr _ w _ (fun n => rowOf (V c main_v20_3) (source n)) (y 0).val (((win2_13.blk t).view.emb y) 0).val 31
    fun k hk => by rw [e0]; exact window V c t (y 0) k hk]

end Cert.KernelIdeal.MixArray
-- ==== Proof.FinalBlock.lean ====
/-
  The last feed-forward call, with its `pl.Element` window: its block of a point, row by row.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Layer

@[expose] public section

set_option maxRecDepth 16384

noncomputable section

namespace Cert.KernelIdeal.Block

open Idealize.ShloMosaic Idealize.ShloMosaic.TcCoe Idealize.SL.Sem
open Cert.KernelIdeal Cert.KernelIdeal.Gen Cert.Layer

/-- The hidden block of 1024 rows: row `r` is the hidden row of the normalised row `r`. -/
def act3 (x0 : Vec Ideal S1024x1024 .f32) (x1 : Vec Ideal S1x1024 .f32) (x2 x3 : Vec Ideal S1x1024x2816 .bf16) :
    Vec Ideal S1024x2816 .bf16 := fun y =>
  hidden (rms (fun k => x0 (ix2 (y 0) k)) (fun k => x1 (ix2 0 k))) (fun k f => x2 (ix3 0 k f)) (fun k f => x3 (ix3 0 k f)) (y 1)

/-- `act3` at an index whose coordinates are known as numbers. -/
theorem act3_at (x0 : Vec Ideal S1024x1024 .f32) (x1 : Vec Ideal S1x1024 .f32) (x2 x3 : Vec Ideal S1x1024x2816 .bf16)
    (y : S1024x2816.Idx) (r : Fin 1024) (n : ℕ) (h0 : (y 0).val = r.val) (h1 : (y 1).val = n) :
    act3 x0 x1 x2 x3 y = hidden (rms (fun k => x0 (ix2 r k)) (fun k => x1 (ix2 0 k))) (fun k f => x2 (ix3 0 k f))
      (fun k f => x3 (ix3 0 k f)) ⟨n, h1 ▸ (y 1).isLt⟩ := by
  obtain rfl : y 0 = r := Fin.ext h0
  subst h1
  rfl

/-- What a point of the last feed-forward call leaves in its block, as a function of the point's input blocks. -/
theorem outs3_apply (V : (c : Dev nD) → (b : Ref sig .tc) → Buf (Elt Ideal) ((c : Thread nD τ).loc b)) (c : Dev nD)
    (t : Fin cfg3.N) (x0 : Vec Ideal S1024x1024 .f32) (x1 : Vec Ideal S1x1024 .f32) (x2 x3 : Vec Ideal S1x1024x2816 .bf16)
    (x4 : Vec Ideal S1x2816x1024 .bf16) (x5 : Vec Ideal S1x1024 .f32) (h0 : iblk3 V c 0 t = x0) (h1 : iblk3 V c 1 t = x1)
    (h2 : iblk3 V c 2 t = x2) (h3 : iblk3 V c 3 t = x3) (h4 : iblk3 V c 4 t = x4) (h5 : iblk3 V c 5 t = x5) (y : S1024x1024.Idx) :
    outsAt3 V c t y = rms (ffn (fun k => x0 (ix2 (y 0) k)) (fun k => x1 (ix2 0 k)) (fun k f => x2 (ix3 0 k f))
      (fun k f => x3 (ix3 0 k f)) (fun f k => x4 (ix3 0 f k))) (fun k => x5 (ix2 0 k)) (y 1) := by
  unfold outsAt3
  rw [h0, h1, h2, h3, h4, h5]
  frame_out
  refine (congrArg (fun a => k3_pay1 (k3_pay25 (k3_pay2 x0) a x4) (k3_pay26 x5) y) (?_ : _ = act3 x0 x1 x2 x3)).trans ?_
  · rw [View.readCov_eq_canon']
    funext y
    rw [show (Rect.unit (s := S1024x2816) ![0, 0] ![1024, 2816] inb_S1024x2816_S1024x2816_0_0).idx y = y from
      funext fun a => Fin.ext (by rw [Rect.idx_unit_val]; fin_cases a <;> exact Nat.zero_add _)]
    canon_tiles x h
    all_goals
      refine Eq.trans ?_ (act3_at x0 x1 x2 x3 y (x 0) _ h0 h1).symm
      pointwise [k3_pay2, k3_pay3, k3_pay4, k3_pay5, k3_pay6, k3_pay7, k3_pay8, k3_pay9, k3_pay10, k3_pay11,
        k3_pay12, k3_pay13, k3_pay14, k3_pay15, k3_pay16, k3_pay17, k3_pay18, k3_pay19, k3_pay20, k3_pay21,
        k3_pay22, k3_pay23, k3_pay24]
      simp only [zero_sub]
      rfl
  · pointwise [k3_pay1, k3_pay2, k3_pay25, k3_pay26]
    rw [show x0 y = x0 (ix2 (y 0) (y 1)) from congrArg x0 (eq_ix2 y)]
    rfl

end Cert.KernelIdeal.Block
-- ==== Proof.FinalArray.lean ====
/-
  The array the last feed-forward call leaves: tile `t` reads 1024 rows of the padded array from the frame on that the
  tile begins with, a row that is no multiple of the tile's height.
-/
module

public import proofs.«01_k».proof.Proof.FinalBlock
public import Idealize.ShloMosaic.Lib.Claim

@[expose] public section

set_option maxRecDepth 16384

noncomputable section

namespace Cert.KernelIdeal.FinalArray

open Idealize.ShloMosaic Idealize.ShloMosaic.TcCoe Idealize.SL.Sem
open Cert.KernelIdeal Cert.KernelIdeal.Gen Cert.Layer

variable (V : (c : Dev nD) → (b : Ref sig .tc) → Buf (Elt Ideal) ((c : Thread nD τ).loc b))

theorem idx0 : ∀ t : Fin cfg3.N, win3_0.index t = ![t.val / 8 * 8320 + 128 + t.val % 8 * 1024, 0] :=
  (by decide +kernel : ∀ t : Fin grid3.N, win3_0.index t = ![t.val / 8 * 8320 + 128 + t.val % 8 * 1024, 0])
theorem idx6 : ∀ t : Fin cfg3.N, win3_6.index t = ![t.val, 0] :=
  (by decide +kernel : ∀ t : Fin grid3.N, win3_6.index t = ![t.val, 0])
theorem idx1 : ∀ t : Fin cfg3.N, win3_1.index t = ![0, 0] :=
  (by decide +kernel : ∀ t : Fin grid3.N, win3_1.index t = ![0, 0])
theorem idx5 : ∀ t : Fin cfg3.N, win3_5.index t = ![0, 0] :=
  (by decide +kernel : ∀ t : Fin grid3.N, win3_5.index t = ![0, 0])
theorem idx2 : ∀ t : Fin cfg3.N, win3_2.index t = ![1, 0, 0] :=
  (by decide +kernel : ∀ t : Fin grid3.N, win3_2.index t = ![1, 0, 0])
theorem idx3 : ∀ t : Fin cfg3.N, win3_3.index t = ![1, 0, 0] :=
  (by decide +kernel : ∀ t : Fin grid3.N, win3_3.index t = ![1, 0, 0])
theorem idx4 : ∀ t : Fin cfg3.N, win3_4.index t = ![1, 0, 0] :=
  (by decide +kernel : ∀ t : Fin grid3.N, win3_4.index t = ![1, 0, 0])

/-- Row `r` of the tile's window, which begins at any row of the array. -/
theorem blk0 (c : Dev nD) (t : Fin cfg3.N) (r : Fin 1024) (k : Fin 1024) (i : S33280x1024.Idx)
    (h0 : (i 0).val = t.val / 8 * 8320 + 128 + t.val % 8 * 1024 + r.val) (h1 : (i 1).val = k.val) :
    iblk3 V c 0 t (ix2 r k) = V c main_v37 i := by
  show V c main_v37 ((win3_0.rect t).emb (ix2 r k)) = _
  refine congrArg _ (funext fun a => Fin.ext ?_)
  rw [Pipeline.Window.rect_emb_val_off]
  fin_cases a
  · show win3_0.index t 0 + r.val = _
    rw [idx0]; exact h0.symm
  · show win3_0.index t 1 + k.val = _
    rw [idx0]; exact (Nat.zero_add _).trans h1.symm

theorem blk1 (c : Dev nD) (t : Fin cfg3.N) (k : Fin 1024) :
    iblk3 V c 1 t (ix2 0 k) = V c main_v40 (ix2 0 k) := by
  blk_simp [iblk3, idx1]
  blk_ext [idx1]

theorem blk2 (c : Dev nD) (t : Fin cfg3.N) (k : Fin 1024) (f : Fin 2816) :
    iblk3 V c 2 t (ix3 0 k f) = V c main_v3 (ix3 1 k f) := by
  blk_simp [iblk3, idx2]
  blk_ext [idx2]

theorem blk3 (c : Dev nD) (t : Fin cfg3.N) (k : Fin 1024) (f : Fin 2816) :
    iblk3 V c 3 t (ix3 0 k f) = V c main_v4 (ix3 1 k f) := by
  blk_simp [iblk3, idx3]
  blk_ext [idx3]

theorem blk4 (c : Dev nD) (t : Fin cfg3.N) (f : Fin 2816) (k : Fin 1024) :
    iblk3 V c 4 t (ix3 0 f k) = V c main_v5 (ix3 1 f k) := by
  blk_simp [iblk3, idx4]
  blk_ext [idx4]

theorem blk5 (c : Dev nD) (t : Fin cfg3.N) (k : Fin 1024) :
    iblk3 V c 5 t (ix2 0 k) = V c main_v41 (ix2 0 k) := by
  blk_simp [iblk3, idx5]
  blk_ext [idx5]

/-- The result array: the block and the final normalisation on the frames' rows. -/
theorem arr (c : Dev nD) : (dat3 V c).arrAt 6 cfg3.N = final (V c main_v37) (fun k => V c main_v40 (ix2 0 k))
    (fun k f => V c main_v3 (ix3 1 k f)) (fun k f => V c main_v4 (ix3 1 k f)) (fun f k => V c main_v5 (ix3 1 f k))
    (fun k => V c main_v41 (ix2 0 k)) := by
  refine (dat3 V c).arrAt_eq_of_covers 6 _ (by decide +kernel) fun t hf y => ?_
  blk_simp
  rw [after3_6, Block.outs3_apply V c t _ _ _ _ _ _ rfl rfl rfl rfl rfl rfl]
  have ht : t.val < 32 := t.isLt
  have hy0 : (y 0).val < 1024 := (y 0).isLt
  have e0 : (((win3_6.blk t).view.emb y) 0).val = t.val * 1024 + (y 0).val := by blk_simp [idx6]
  have e1 : ((win3_6.blk t).view.emb y) 1 = y 1 := Fin.ext (by blk_simp [idx6])
  have hx : ∀ k, iblk3 V c 0 t (ix2 (y 0) k) = V c main_v37 (ix2 (frameRow (((win3_6.blk t).view.emb y) 0)) k) :=
    fun k => blk0 V c t (y 0) k _ (by show _ / 8192 * 8320 + 128 + _ % 8192 = _; rw [e0]; omega) rfl
  unfold final
  simp only [hx, blk1, blk2, blk3, blk4, blk5, e1]

end Cert.KernelIdeal.FinalArray
-- ==== Proof.Results.lean ====
/-
  The buffers at each call's entry as functions of the argument arrays, and the four results.
-/
module

public import proofs.«01_k».proof.Proof.FfnArray
public import proofs.«01_k».proof.Proof.ProjArray
public import proofs.«01_k».proof.Proof.MixArray
public import proofs.«01_k».proof.Proof.FinalArray
public import Idealize.ShloMosaic.Lib.StableHlo.ReadAt

@[expose] public section

set_option maxRecDepth 16384

noncomputable section

namespace Cert.KernelIdeal.Results

open Idealize.ShloMosaic Idealize.ShloMosaic.TcCoe Idealize.SL.Sem
open Cert.KernelIdeal Cert.KernelIdeal.Gen Cert.Layer

variable (m : (ℓ : Loc nD τ sig) → Buf (Elt Ideal) ℓ) (ρ : Dev nD → PrngReg)

/-- An argument array at launch. -/
abbrev arg (c : Dev nD) (b : Ref sig .tc) := m ((c : Thread nD τ).loc b)

/-- A buffer that neither the first call nor the operations after it write is, at the second call, what it was at the first. -/
theorem keep3 (c : Dev nD) (r : Ref sig .tc) (h : ∀ w : Fin cfg0.W, Pipeline.arrRef spec0 w = r → (cfg0.win w).isOut = false)
    (h' : r ∉ hostOps1_W) : V3 m ρ c r = V1 m ρ c r :=
  (W3_of m ρ c r h').trans (W2_of m ρ c r h)

/-- The same from the second call to the third. -/
theorem keep5 (c : Dev nD) (r : Ref sig .tc) (h : ∀ w : Fin cfg1.W, Pipeline.arrRef spec1 w = r → (cfg1.win w).isOut = false)
    (h' : r ∉ hostOps2_W) : V5 m ρ c r = V3 m ρ c r :=
  (W5_of m ρ c r h').trans (W4_of m ρ c r h)

/-- The same from the third call to the fourth. -/
theorem keep7 (c : Dev nD) (r : Ref sig .tc) (h : ∀ w : Fin cfg2.W, Pipeline.arrRef spec2 w = r → (cfg2.win w).isOut = false)
    (h' : r ∉ hostOps3_W) : V7 m ρ c r = V5 m ρ c r :=
  (W7_of m ρ c r h').trans (W6_of m ρ c r h)

theorem v0 (c : Dev nD) (i) : V1 m ρ c main_v0 i = arg m c main_arg3 i := by
  show StableHlo.after hostOps0 _ _ i = _
  after_reads_at

theorem v1 (c : Dev nD) (i) : V1 m ρ c main_v1 i = arg m c main_arg4 i := by
  show StableHlo.after hostOps0 _ _ i = _
  after_reads_at

theorem v2 (c : Dev nD) (i) : V1 m ρ c main_v2 i = arg m c main_arg5 i := by
  show StableHlo.after hostOps0 _ _ i = _
  after_reads_at

theorem v3 (c : Dev nD) (i) : V1 m ρ c main_v3 i = arg m c main_arg16 i := by
  show StableHlo.after hostOps0 _ _ i = _
  after_reads_at

theorem v4 (c : Dev nD) (i) : V1 m ρ c main_v4 i = arg m c main_arg17 i := by
  show StableHlo.after hostOps0 _ _ i = _
  after_reads_at

theorem v5 (c : Dev nD) (i) : V1 m ρ c main_v5 i = arg m c main_arg18 i := by
  show StableHlo.after hostOps0 _ _ i = _
  after_reads_at

theorem v10 (c : Dev nD) (i) : V1 m ρ c main_v10 i = arg m c main_arg8 i := by
  show StableHlo.after hostOps0 _ _ i = _
  after_reads_at

theorem v11 (c : Dev nD) (i) : V1 m ρ c main_v11 i = arg m c main_arg13 i := by
  show StableHlo.after hostOps0 _ _ i = _
  after_reads_at

theorem v12 (c : Dev nD) (i) : V1 m ρ c main_v12 i = arg m c main_arg14 i := by
  show StableHlo.after hostOps0 _ _ i = _
  after_reads_at

theorem v7 (c : Dev nD) (l : Fin 2) (k : Fin 1024) (n : Fin 2560) :
    V1 m ρ c main_v7 (ix3 l k n) = arg m c main_arg7 (ix3 l k ⟨n.val, by omega⟩) := by
  show StableHlo.after hostOps0 _ _ _ = _
  after_reads_at

theorem v9 (c : Dev nD) (l : Fin 2) (k : Fin 1024) (n : Fin 2048) :
    V1 m ρ c main_v9 (ix3 l k n) = arg m c main_arg7 (ix3 l k ⟨2560 + n.val, by omega⟩) := by
  show StableHlo.after hostOps0 _ _ _ = _
  after_reads_at

theorem v15 (c : Dev nD) (k : Fin 1024) : V1 m ρ c main_v15 (ix2 0 k) = arg m c main_arg2 (ix2 1 k) := by
  show StableHlo.after hostOps0 _ _ _ = _
  after_reads_at

theorem v19 (c : Dev nD) (k : Fin 1024) : V3 m ρ c main_v19 (ix2 0 k) = arg m c main_arg6 (ix2 1 k) := by
  show StableHlo.after hostOps1 _ _ _ = _
  after_reads_at
  exact congrFun (W2_args m ρ c main_arg6 (by decide)) _

theorem v23 (c : Dev nD) (k : Fin 1024) : V5 m ρ c main_v23 (ix2 0 k) = arg m c main_arg6 (ix2 1 k) := by
  show StableHlo.after hostOps2 _ _ _ = _
  after_reads_at
  exact congrFun (W4_args m ρ c main_arg6 (by decide)) _

theorem v30 (c : Dev nD) (k : Fin 512) : V5 m ρ c main_v30 (ix2 0 k) = arg m c main_arg10 (ix2 1 k) := by
  show StableHlo.after hostOps2 _ _ _ = _
  after_reads_at
  exact congrFun (W4_args m ρ c main_arg10 (by decide)) _

theorem v33 (c : Dev nD) (k : Fin 512) : V5 m ρ c main_v33 (ix2 0 k) = arg m c main_arg11 (ix2 1 k) := by
  show StableHlo.after hostOps2 _ _ _ = _
  after_reads_at
  exact congrFun (W4_args m ρ c main_arg11 (by decide)) _

theorem v36 (c : Dev nD) (k : Fin 512) : V5 m ρ c main_v36 (ix2 0 k) = arg m c main_arg12 (ix2 1 k) := by
  show StableHlo.after hostOps2 _ _ _ = _
  after_reads_at
  exact congrFun (W4_args m ρ c main_arg12 (by decide)) _

theorem v40 (c : Dev nD) (k : Fin 1024) : V7 m ρ c main_v40 (ix2 0 k) = arg m c main_arg15 (ix2 1 k) := by
  show StableHlo.after hostOps3 _ _ _ = _
  after_reads_at
  exact congrFun (W6_args m ρ c main_arg15 (by decide)) _

theorem v41 (c : Dev nD) (k : Fin 1024) : V7 m ρ c main_v41 (ix2 0 k) = arg m c main_arg19 (ix1 k) := by
  show StableHlo.after hostOps3 _ _ _ = _
  after_reads_at
  exact congrFun (W6_args m ρ c main_arg19 (by decide)) _

theorem v27 (c : Dev nD) (k : Fin 31) (s : Fin 8) (ch : Fin 512) :
    V5 m ρ c main_v27 (ix3 k s ch) = arg m c main_arg9 (ix3 1 k ch) := by
  show StableHlo.after hostOps2 _ _ _ = _
  after_reads_at
  exact congrFun (W4_args m ρ c main_arg9 (by decide)) _

/-- After the first call: the first feed-forward block. -/
def x1 (c : Dev nD) : Rows :=
  ffn1 1 (arg m c main_arg0) (arg m c main_arg2) (arg m c main_arg3) (arg m c main_arg4) (arg m c main_arg5)

/-- After the mixer's call. -/
def x2 (c : Dev nD) : Rows :=
  mixer 1 (x1 m c) (arg m c main_arg1) (arg m c main_arg6) (arg m c main_arg7) (arg m c main_arg8) (arg m c main_arg13)
    (arg m c main_arg9) (arg m c main_arg10) (arg m c main_arg11) (arg m c main_arg12) (arg m c main_arg14)

theorem entry3 (c : Dev nD) : V3 m ρ c main_v16 = x1 m c := by
  refine (W3_of m ρ c main_v16 (by decide)).trans ((W2_arr m ρ c 5).trans ((FfnArray.arr (V1 m ρ) c).trans ?_))
  rw [show V1 m ρ c main_arg0 = arg m c main_arg0 from W1_args m ρ c main_arg0 (by decide)]
  rw [show (fun k => V1 m ρ c main_v15 (ix2 0 k)) = vect 1 (arg m c main_arg2) from funext fun k => v15 m ρ c k,
    show (fun k f => V1 m ρ c main_v0 (ix3 1 k f)) = mat 1 (arg m c main_arg3) from funext fun k => funext fun f => v0 m ρ c _,
    show (fun k f => V1 m ρ c main_v1 (ix3 1 k f)) = mat 1 (arg m c main_arg4) from funext fun k => funext fun f => v1 m ρ c _,
    show (fun f k => V1 m ρ c main_v2 (ix3 1 f k)) = mat 1 (arg m c main_arg5) from funext fun k => funext fun f => v2 m ρ c _]
  rfl

theorem cols_eq (c : Dev nD) (j : ℕ) (h : j + 512 ≤ 2560) :
    ProjArray.cols (V3 m ρ) c j h = cut (mat 1 (arg m c main_arg7)) j 512 (by omega) := by
  funext k n
  show V3 m ρ c main_v7 _ = _
  rw [keep3 m ρ c main_v7 (by decide) (by decide), v7]
  rfl

theorem gains3 (c : Dev nD) : (fun k => V3 m ρ c main_v19 (ix2 0 k)) = vect 1 (arg m c main_arg6) :=
  funext fun k => v19 m ρ c k

theorem entry5_q (c : Dev nD) : W4 m ρ c main_v20_0 = layerQ 1 (x1 m c) (arg m c main_arg6) (arg m c main_arg7) := by
  refine (W4_arr m ρ c 3).trans ((ProjArray.arr3 (V3 m ρ) c).trans ?_)
  rw [entry3, cols_eq, gains3]
  rfl

theorem entry5_k (c : Dev nD) : W4 m ρ c main_v20_1 = layerK 1 (x1 m c) (arg m c main_arg6) (arg m c main_arg7) := by
  refine (W4_arr m ρ c 4).trans ((ProjArray.arr4 (V3 m ρ) c).trans ?_)
  rw [entry3, cols_eq, gains3]
  rfl

theorem entry5_v (c : Dev nD) : W4 m ρ c main_v20_2 = layerV 1 (x1 m c) (arg m c main_arg6) (arg m c main_arg7) := by
  refine (W4_arr m ρ c 5).trans ((ProjArray.arr5 (V3 m ρ) c).trans ?_)
  rw [entry3, cols_eq, gains3]
  rfl

theorem entry5_u (c : Dev nD) : W4 m ρ c main_v20_3 = layerU 1 (x1 m c) (arg m c main_arg6) (arg m c main_arg7) := by
  refine (W4_arr m ρ c 6).trans ((ProjArray.arr6 (V3 m ρ) c).trans ?_)
  rw [entry3, cols_eq, cols_eq, gains3]
  rfl

/-- A cast weight at the third call is as it was at the first. -/
theorem keep51 (c : Dev nD) (r : Ref sig .tc) (h : ∀ w : Fin cfg0.W, Pipeline.arrRef spec0 w = r → (cfg0.win w).isOut = false)
    (h' : r ∉ hostOps1_W) (h1 : ∀ w : Fin cfg1.W, Pipeline.arrRef spec1 w = r → (cfg1.win w).isOut = false)
    (h1' : r ∉ hostOps2_W) : V5 m ρ c r = V1 m ρ c r :=
  (keep5 m ρ c r h1 h1').trans (keep3 m ρ c r h h')

theorem entry7 (c : Dev nD) : V7 m ρ c main_v37 = x2 m c := by
  refine (W7_of m ρ c main_v37 (by decide)).trans ((W6_arr m ρ c 13).trans
    ((MixArray.arr (V5 m ρ) c (tapRow (mat 1 (arg m c main_arg9))) fun k s ch => ?_).trans ?_))
  · rw [v27, tapRow, dif_pos k.isLt]
    rfl
  · have e16 : V5 m ρ c main_v16 = x1 m c := (keep5 m ρ c main_v16 (by decide) (by decide)).trans (entry3 m ρ c)
    have eu : V5 m ρ c main_v20_3 = layerU 1 (x1 m c) (arg m c main_arg6) (arg m c main_arg7) :=
      (W5_of m ρ c main_v20_3 (by decide)).trans (entry5_u m ρ c)
    rw [e16, eu, show V5 m ρ c main_arg1 = arg m c main_arg1 from W5_args m ρ c main_arg1 (by decide),
      keep51 m ρ c main_v9 (by decide) (by decide) (by decide) (by decide),
      keep51 m ρ c main_v10 (by decide) (by decide) (by decide) (by decide),
      keep51 m ρ c main_v11 (by decide) (by decide) (by decide) (by decide),
      keep51 m ρ c main_v12 (by decide) (by decide) (by decide) (by decide)]
    rw [show (fun k => V5 m ρ c main_v23 (ix2 0 k)) = vect 1 (arg m c main_arg6) from funext fun k => v23 m ρ c k,
      show (fun k => V5 m ρ c main_v30 (ix2 0 k)) = vect 1 (arg m c main_arg10) from funext fun k => v30 m ρ c k,
      show (fun k => V5 m ρ c main_v33 (ix2 0 k)) = vect 1 (arg m c main_arg11) from funext fun k => v33 m ρ c k,
      show (fun k => V5 m ρ c main_v36 (ix2 0 k)) = vect 1 (arg m c main_arg12) from funext fun k => v36 m ρ c k,
      show (fun i k => V1 m ρ c main_v10 (ix3 1 i k)) = mat 1 (arg m c main_arg8) from funext fun i => funext fun k => v10 m ρ c _,
      show (fun i k => V1 m ρ c main_v11 (ix3 1 i k)) = mat 1 (arg m c main_arg13) from funext fun i => funext fun k => v11 m ρ c _,
      show (fun i k => V1 m ρ c main_v12 (ix3 1 i k)) = mat 1 (arg m c main_arg14) from funext fun i => funext fun k => v12 m ρ c _,
      show (fun (i k : Fin 1024) => V1 m ρ c main_v9 (ix3 1 i ⟨k.val, by omega⟩)) = cut (mat 1 (arg m c main_arg7)) 2560 1024 (by decide)
        from funext fun i => funext fun k => v9 m ρ c 1 i _,
      show (fun (i k : Fin 1024) => V1 m ρ c main_v9 (ix3 1 i ⟨1024 + k.val, by omega⟩))
          = cut (mat 1 (arg m c main_arg7)) 3584 1024 (by decide) from funext fun i => funext fun k => by
        refine (v9 m ρ c 1 i _).trans (congrArg (fun n => arg m c main_arg7 (ix3 1 i n)) (Fin.ext ?_))
        show 2560 + (1024 + k.val) = 3584 + k.val
        omega]
    rfl

/-- The kernel's result. -/
theorem result (c : Dev nD) : W8 m ρ c main_v42 = last 1 (x2 m c) (arg m c main_arg15) (arg m c main_arg16) (arg m c main_arg17)
    (arg m c main_arg18) (arg m c main_arg19) := by
  refine (W8_arr m ρ c 6).trans ((FinalArray.arr (V7 m ρ) c).trans ?_)
  have e (r : Ref sig .tc) (h : ∀ w : Fin cfg0.W, Pipeline.arrRef spec0 w = r → (cfg0.win w).isOut = false)
      (h' : r ∉ hostOps1_W) (h1 : ∀ w : Fin cfg1.W, Pipeline.arrRef spec1 w = r → (cfg1.win w).isOut = false)
      (h1' : r ∉ hostOps2_W) (h2 : ∀ w : Fin cfg2.W, Pipeline.arrRef spec2 w = r → (cfg2.win w).isOut = false)
      (h2' : r ∉ hostOps3_W) : V7 m ρ c r = V1 m ρ c r :=
    (keep7 m ρ c r h2 h2').trans (keep51 m ρ c r h h' h1 h1')
  rw [entry7, e main_v3 (by decide) (by decide) (by decide) (by decide) (by decide) (by decide),
    e main_v4 (by decide) (by decide) (by decide) (by decide) (by decide) (by decide),
    e main_v5 (by decide) (by decide) (by decide) (by decide) (by decide) (by decide)]
  rw [show (fun k => V7 m ρ c main_v40 (ix2 0 k)) = vect 1 (arg m c main_arg15) from funext fun k => v40 m ρ c k,
    show (fun k => V7 m ρ c main_v41 (ix2 0 k)) = fun k => arg m c main_arg19 (ix1 k) from funext fun k => v41 m ρ c k,
    show (fun k f => V1 m ρ c main_v3 (ix3 1 k f)) = mat 1 (arg m c main_arg16) from funext fun k => funext fun f => v3 m ρ c _,
    show (fun k f => V1 m ρ c main_v4 (ix3 1 k f)) = mat 1 (arg m c main_arg17) from funext fun k => funext fun f => v4 m ρ c _,
    show (fun f k => V1 m ρ c main_v5 (ix3 1 f k)) = mat 1 (arg m c main_arg18) from funext fun k => funext fun f => v5 m ρ c _]
  rfl

/-- A buffer that neither of the last two calls nor the operations before them write ends as the second call left it. -/
theorem keep84 (c : Dev nD) (r : Ref sig .tc) (h : r ∉ hostOps2_W)
    (h2 : ∀ w : Fin cfg2.W, Pipeline.arrRef spec2 w = r → (cfg2.win w).isOut = false) (h' : r ∉ hostOps3_W)
    (h3 : ∀ w : Fin cfg3.W, Pipeline.arrRef spec3 w = r → (cfg3.win w).isOut = false) : W8 m ρ c r = W4 m ρ c r :=
  (W8_of m ρ c r h3).trans ((W7_of m ρ c r h').trans ((W6_of m ρ c r h2).trans (W5_of m ρ c r h)))

/-- The queries, as the second call leaves them. -/
theorem result_q (c : Dev nD) : W8 m ρ c main_v20_0 = layerQ 1 (x1 m c) (arg m c main_arg6) (arg m c main_arg7) :=
  (keep84 m ρ c main_v20_0 (by decide) (by decide) (by decide) (by decide)).trans (entry5_q m ρ c)

/-- The keys. -/
theorem result_k (c : Dev nD) : W8 m ρ c main_v20_1 = layerK 1 (x1 m c) (arg m c main_arg6) (arg m c main_arg7) :=
  (keep84 m ρ c main_v20_1 (by decide) (by decide) (by decide) (by decide)).trans (entry5_k m ρ c)

/-- The values. -/
theorem result_v (c : Dev nD) : W8 m ρ c main_v20_2 = layerV 1 (x1 m c) (arg m c main_arg6) (arg m c main_arg7) :=
  (keep84 m ρ c main_v20_2 (by decide) (by decide) (by decide) (by decide)).trans (entry5_v m ρ c)

end Cert.KernelIdeal.Results
-- ==== Proof.Run.lean ====
/-
  The run of the kernel's four calls to its end, with every buffer outside the calls' scratch at the last boundary's contents.
-/
module

public import proofs.«01_k».proof.Proof.Gen.KernelIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] (m : (ℓ : Loc nD τ sig) → Buf (Elt F) ℓ) (ρ : Dev nD → PrngReg)

set_option backward.isDefEq.respectTransparency.types false in
/-- Every run ends, and ends with each buffer that lives outside the calls at `W8`. -/
theorem run : θ_run defs (onTc (τ := τ) (main (F := F))) ⟨m, fun _ => 0, ρ⟩ (fun r => ∀ c : Dev nD, ∀ b : Ref sig .tc,
    ¬ (Proc.devRef .tc b : DevRef τ sig).isScoped → r.2.mem ((c : Thread nD τ).loc b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c b hb => h c _ (mem_uc b hb))

end Cert.KernelIdeal.Results
-- ==== Proof.RefRows.lean ====
/-
  The plain layer's operations, row by row: feed-forward block, projections, convolution input.
-/
module

public import proofs.«01_k».proof.Proof.Layer
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.ReferenceIdeal.Rows

open Idealize.ShloMosaic Idealize.ShloMosaic.TcCoe Idealize.SL.Sem
open Cert.ReferenceIdeal Cert.ReferenceIdeal.Read Cert.Layer

variable (x0 : Vec Ideal S33280x1024 .f32) (x1 : Vec Ideal S33280x512 .bf16) (x2 : Vec Ideal S2x1024 .f32)
  (x3 x4 : Vec Ideal S2x1024x2816 .f32) (x5 : Vec Ideal S2x2816x1024 .f32) (x6 : Vec Ideal S2x1024 .f32)
  (x7 : Vec Ideal S2x1024x4608 .f32)

/-- The row normalised before the first feed-forward block. -/
theorem norm1 (r : Fin 33280) (k : Fin 1024) : val_main_v20 (F := Ideal) x0 x2 (ix2 r k) = rms (fun k => x0 (ix2 r k)) (vect 1 x2) k := by
  pointwise [val_main_v20, val_main_v19, val_main_v18, val_main_v17, val_main_v16, val_main_v15, val_main_v14, val_main_v13,
    val_main_v12, val_main_v11, val_main_v10, val_main_v9, val_main_v8, val_main_v0, val_main_v1, val_main_cst,
    val_main_cst_0, val_main_cst_1]
  rfl

/-- The first block's gated hidden row. -/
theorem hidden1 (r : Fin 33280) (f : Fin 2816) : val_main_v24 (F := Ideal) x0 x2 x3 x4 (ix2 r f)
    = hidden (fun k => val_main_v20 (F := Ideal) x0 x2 (ix2 r k)) (mat 1 x3) (mat 1 x4) f := by
  pointwise [val_main_v24, val_main_v23, val_main_v22, val_main_v21, val_main_v5, val_main_v4, val_main_v3, val_main_v2,
    val_main_call0_v0, val_main_call0_v1, val_main_call0_v2, val_main_call0_v3, val_main_call0_v4, val_main_call0_v5,
    val_main_call0_cst, val_main_call0_cst_0]
  rfl

/-- The first feed-forward block. -/
theorem ffn1_eq : val_main_v28 (F := Ideal) x0 x2 x3 x4 x5 = ffn1 1 x0 x2 x3 x4 x5 := by
  funext i
  obtain ⟨r, k, rfl⟩ : ∃ r k, i = ix2 r k := ⟨_, _, eq_ix2 i⟩
  pointwise [val_main_v28, val_main_v27, val_main_v26, val_main_v25, val_main_v7, val_main_v6, val_main_cst_2]
  simp only [hidden1, norm1]
  rfl

/-- The row normalised before the mixer. -/
theorem norm2 (r : Fin 33280) (k : Fin 1024) : val_main_v43 (F := Ideal) x0 x2 x3 x4 x5 x6 (ix2 r k)
    = rms (fun k => ffn1 1 x0 x2 x3 x4 x5 (ix2 r k)) (vect 1 x6) k := by
  rw [← ffn1_eq]
  pointwise [val_main_v43, val_main_v42, val_main_v41, val_main_v40, val_main_v39, val_main_v38, val_main_v37, val_main_v36,
    val_main_v35, val_main_v34, val_main_v33, val_main_v32, val_main_v31, val_main_v30, val_main_v29, val_main_cst_3,
    val_main_cst_4, val_main_cst_5]
  rfl

/-- Column `n` of the projection. -/
theorem proj_apply (r : Fin 33280) (n : Fin 4608) : val_main_v46 (F := Ideal) x0 x2 x3 x4 x5 x6 x7 (ix2 r n)
    = ∑ k, rms (fun k => ffn1 1 x0 x2 x3 x4 x5 (ix2 r k)) (vect 1 x6) k * mat 1 x7 k n := by
  pointwise [val_main_v46, val_main_v45, val_main_v44]
  simp only [norm2]
  rfl

/-- The queries. -/
theorem layerQ_eq : val_main_v392 (F := Ideal) x0 x2 x3 x4 x5 x6 x7 = layerQ 1 (ffn1 1 x0 x2 x3 x4 x5) x6 x7 := by
  funext i
  obtain ⟨r, n, rfl⟩ : ∃ r n, i = ix2 r n := ⟨_, _, eq_ix2 i⟩
  pointwise [val_main_v392, val_main_v47, val_main_v48, val_main_v49, val_main_cst_6]
  simp only [proj_apply]
  simp only [layerQ, queries, proj, cut, Nat.zero_add]
  rfl

/-- The keys. -/
theorem layerK_eq : val_main_v393 (F := Ideal) x0 x2 x3 x4 x5 x6 x7 = layerK 1 (ffn1 1 x0 x2 x3 x4 x5) x6 x7 := by
  funext i
  obtain ⟨r, n, rfl⟩ : ∃ r n, i = ix2 r n := ⟨_, _, eq_ix2 i⟩
  pointwise [val_main_v393, val_main_v50]
  simp only [proj_apply]

  rfl

/-- The values. -/
theorem layerV_eq : val_main_v394 (F := Ideal) x0 x2 x3 x4 x5 x6 x7 = layerV 1 (ffn1 1 x0 x2 x3 x4 x5) x6 x7 := by
  funext i
  obtain ⟨r, n, rfl⟩ : ∃ r n, i = ix2 r n := ⟨_, _, eq_ix2 i⟩
  pointwise [val_main_v394, val_main_v51]
  simp only [proj_apply]

  rfl

/-- Row `s` of batch `b` after the padding is cut is row `b * 8320 + 112 + s`. -/
theorem cut_apply (b : Fin 4) (s : Fin 8208) (n : Fin 4608) (r : Fin 33280) (h : r.val = b.val * 8320 + 112 + s.val) :
    val_main_v53 (F := Ideal) x0 x2 x3 x4 x5 x6 x7 (ix3 b s n) = val_main_v46 (F := Ideal) x0 x2 x3 x4 x5 x6 x7 (ix2 r n) := by
  rw [val_main_v53_apply, val_main_v52_apply]
  refine congrArg _ (funext fun a => Fin.ext ?_)
  fin_cases a
  · show ((b.val * 8320 + (112 + s.val)) * 4608 + n.val) / 4608 = r.val
    omega
  · show ((b.val * 8320 + (112 + s.val)) * 4608 + n.val) % 4608 = n.val
    omega

/-- The convolution's input on the rows that are no padding. -/
theorem u_apply (b : Fin 4) (s : Fin 8208) (ch : Fin 512) (r : Fin 33280) (h : r.val = b.val * 8320 + 112 + s.val) :
    val_main_v64 (F := Ideal) x0 x2 x3 x4 x5 x6 x7 (ix3 b s ch) = layerU 1 (ffn1 1 x0 x2 x3 x4 x5) x6 x7 (ix2 r ch) := by
  pointwise [val_main_v55, val_main_v54, val_main_v64, val_main_v63, val_main_v62, val_main_v61, val_main_v60, val_main_v59,
    val_main_v58, val_main_cst_7, val_main_cst_8]
  simp only [cut_apply _ _ _ _ _ _ _ b s _ r h, proj_apply]
  unfold layerU convIn
  rw [if_pos (by show 112 ≤ r.val % 8320; omega)]
  rfl

/-- The convolution's input with 30 zero rows before each batch. -/
theorem pad_apply (b : Fin 4) (n : Fin 8238) (ch : Fin 512) : val_main_v65 (F := Ideal) x0 x2 x3 x4 x5 x6 x7 (ix3 b n ch)
    = if h : 30 ≤ n.val then val_main_v64 (F := Ideal) x0 x2 x3 x4 x5 x6 x7 (ix3 b ⟨n.val - 30, by omega⟩ ch) else 0 := by
  pointwise [val_main_v65, val_main_call1_v0, val_main_c]
  by_cases h : 30 ≤ n.val
  · rw [dif_pos h, dif_pos ⟨h, by omega⟩]
  · rw [dif_neg h, dif_neg fun h' => h h'.1]
    show ((((0#32 : BitVec 32).toInt : ℤ) : ℝ) : EReal) = 0
    simp

end Cert.ReferenceIdeal.Rows
-- ==== Proof.RefConv.lean ====
/-
  The plain layer's convolution branch, row by row.
-/
module

public import proofs.«01_k».proof.Proof.RefRows
public import Idealize.ShloMosaic.Lib.Pipeline.ValueKit
public import Idealize.ShloMosaic.Lib.Pointwise

@[expose] public section

set_option maxRecDepth 16384
set_option maxHeartbeats 2000000

noncomputable section

namespace Cert.ReferenceIdeal.Rows

open Idealize.ShloMosaic Idealize.ShloMosaic.TcCoe Idealize.SL.Sem
open Cert.ReferenceIdeal Cert.ReferenceIdeal.Read Cert.Layer

variable (x0 : Vec Ideal S33280x1024 .f32) (x1 : Vec Ideal S33280x512 .bf16) (x2 : Vec Ideal S2x1024 .f32)
  (x3 x4 : Vec Ideal S2x1024x2816 .f32) (x5 : Vec Ideal S2x2816x1024 .f32) (x6 : Vec Ideal S2x1024 .f32)
  (x7 : Vec Ideal S2x1024x4608 .f32) (x8 : Vec Ideal S2x512x1024 .f32) (x9 : Vec Ideal S2x31x512 .f32)
  (x10 x11 x12 : Vec Ideal S2x512 .f32) (x13 : Vec Ideal S2x512x1024 .f32) (x14 : Vec Ideal S2x1024x1024 .f32)

/-- Row `q = s + k` of the padded input is the row that tap `k` reads: in the batch's first rows it is padding, which is zero. -/
theorem halo_apply (b : Fin 4) (s : Fin 8208) (k : ℕ) (hk : k < 31) (q : Fin 8238) (hq : q.val = s.val + k) (ch : Fin 512)
    (r : Fin 33280) (h : r.val = b.val * 8320 + 112 + s.val) : val_main_v65 (F := Ideal) x0 x2 x3 x4 x5 x6 x7 (ix3 b q ch)
    = rowOf (layerU 1 (ffn1 1 x0 x2 x3 x4 x5) x6 x7) (source (r.val + k)) ch := by
  have e : source (r.val + k) = r.val + k - 30 := if_neg (by omega)
  have lt : source (r.val + k) < 33280 := by omega
  rw [pad_apply, rowOf, dif_pos lt]
  by_cases hs : 30 ≤ q.val
  · rw [dif_pos hs]
    exact u_apply _ _ _ _ _ _ _ b ⟨q.val - 30, by omega⟩ ch ⟨source (r.val + k), lt⟩ (by
      show source (r.val + k) = b.val * 8320 + 112 + (q.val - 30)
      omega)
  · rw [dif_neg hs]
    refine (if_neg ?_).symm
    show ¬ 112 ≤ source (r.val + k) % 8320
    omega

/-- One tap's product. -/
theorem tap_apply (b : Fin 4) (s : Fin 8208) (k : ℕ) (hk : k < 31) (q : Fin 8238) (hq : q.val = s.val + k) (ch : Fin 512)
    (r : Fin 33280) (h : r.val = b.val * 8320 + 112 + s.val) : val_main_v65 (F := Ideal) x0 x2 x3 x4 x5 x6 x7 (ix3 b q ch) * x9 (ix3 1 ⟨k, hk⟩ ch)
    = tapRow (mat 1 x9) k ch * rowOf (layerU 1 (ffn1 1 x0 x2 x3 x4 x5) x6 x7) (source (r.val + k)) ch := by
  rw [halo_apply _ _ _ _ _ _ _ b s k hk q hq ch r h, mul_comm, tapRow, dif_pos hk]
  rfl

/-- The convolution: the sum of the 31 taps, then the bias. -/
theorem conv_apply (b : Fin 4) (s : Fin 8208) (ch : Fin 512) (r : Fin 33280) (h : r.val = b.val * 8320 + 112 + s.val) :
    val_main_v288 (F := Ideal) x0 x2 x3 x4 x5 x6 x7 x9 x10 (ix3 b s ch)
    = taps (vect 1 x10) (tapRow (mat 1 x9)) (fun n => rowOf (layerU 1 (ffn1 1 x0 x2 x3 x4 x5) x6 x7) (source n)) r.val 31 ch := by
  rw [taps_bias]
  pointwise [val_main_v288, val_main_v287, val_main_v286, val_main_v285, val_main_v284, val_main_v283, val_main_v282,
    val_main_v281, val_main_v280, val_main_v279, val_main_v278, val_main_v277, val_main_v276, val_main_v275, val_main_v274,
    val_main_v273, val_main_v272, val_main_v271, val_main_v270, val_main_v269, val_main_v268, val_main_v267, val_main_v266,
    val_main_v265, val_main_v264, val_main_v263, val_main_v262, val_main_v261, val_main_v260, val_main_v259, val_main_v258,
    val_main_v257, val_main_v256, val_main_v255, val_main_v254, val_main_v253, val_main_v252, val_main_v251, val_main_v250,
    val_main_v249, val_main_v248, val_main_v247, val_main_v246, val_main_v245, val_main_v244, val_main_v243, val_main_v242,
    val_main_v241, val_main_v240, val_main_v239, val_main_v238, val_main_v237, val_main_v236, val_main_v235, val_main_v234,
    val_main_v233, val_main_v232, val_main_v231, val_main_v230, val_main_v229, val_main_v228, val_main_v227, val_main_v226,
    val_main_v225, val_main_v224, val_main_v223, val_main_v222, val_main_v221, val_main_v220, val_main_v219, val_main_v218,
    val_main_v217, val_main_v216, val_main_v215, val_main_v214, val_main_v213, val_main_v212, val_main_v211, val_main_v210,
    val_main_v209, val_main_v208, val_main_v207, val_main_v206, val_main_v205, val_main_v204, val_main_v203, val_main_v202,
    val_main_v201, val_main_v200, val_main_v199, val_main_v198, val_main_v197, val_main_v196, val_main_v195, val_main_v194,
    val_main_v193, val_main_v192, val_main_v191, val_main_v190, val_main_v189, val_main_v188, val_main_v187, val_main_v186,
    val_main_v185, val_main_v184, val_main_v183, val_main_v182, val_main_v181, val_main_v180, val_main_v179, val_main_v178,
    val_main_v177, val_main_v176, val_main_v175, val_main_v174, val_main_v173, val_main_v172, val_main_v171, val_main_v170,
    val_main_v169, val_main_v168, val_main_v167, val_main_v166, val_main_v165, val_main_v164, val_main_v163, val_main_v162,
    val_main_v161, val_main_v160, val_main_v159, val_main_v158, val_main_v157, val_main_v156, val_main_v155, val_main_v154,
    val_main_v153, val_main_v152, val_main_v151, val_main_v150, val_main_v149, val_main_v148, val_main_v147, val_main_v146,
    val_main_v145, val_main_v144, val_main_v143, val_main_v142, val_main_v141, val_main_v140, val_main_v139, val_main_v138,
    val_main_v137, val_main_v136, val_main_v135, val_main_v134, val_main_v133, val_main_v132, val_main_v131, val_main_v130,
    val_main_v129, val_main_v128, val_main_v127, val_main_v126, val_main_v125, val_main_v124, val_main_v123, val_main_v122,
    val_main_v121, val_main_v120, val_main_v119, val_main_v118, val_main_v117, val_main_v116, val_main_v115, val_main_v114,
    val_main_v113, val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_v89, val_main_v88, val_main_v87, val_main_v86, val_main_v85, val_main_v84, val_main_v83, val_main_v82,
    val_main_v81, val_main_v80, val_main_v79, val_main_v78, val_main_v77, val_main_v76, val_main_v75, val_main_v74,
    val_main_v73, val_main_v72, val_main_v71, val_main_v70, val_main_v69, val_main_v68, val_main_v67, val_main_v66,
    val_main_cst_9]
  simp only [taps, zero_add]
  refine congrArg₂ (· + ·) ?_ rfl
  iterate 30 refine congrArg₂ (· + ·) ?_ (tap_apply _ _ _ _ _ _ _ _ b s _ ?_ _ ?_ ch r h)
  refine tap_apply _ _ _ _ _ _ _ _ b s _ ?_ _ ?_ ch r h
  all_goals first | decide | (dsimp only; omega)

/-- The convolution branch's row: the layer normalisation and the gate. -/
theorem convRow_apply (b : Fin 4) (s : Fin 8208) (ch : Fin 512) : val_main_v317 (F := Ideal) x0 x2 x3 x4 x5 x6 x7 x9 x10 x11 x12 (ix3 b s ch)
    = convRow (fun ch => val_main_v288 (F := Ideal) x0 x2 x3 x4 x5 x6 x7 x9 x10 (ix3 b s ch)) (vect 1 x11) (vect 1 x12) ch := by
  pointwise [val_main_v317, val_main_v316, val_main_v315, val_main_v314, val_main_v313, val_main_v312, val_main_v311,
    val_main_v310, val_main_v309, val_main_v308, val_main_v307, val_main_v306, val_main_v305, val_main_v304, val_main_v303,
    val_main_v302, val_main_v301, val_main_v300, val_main_v299, val_main_v298, val_main_v297, val_main_v296, val_main_v295,
    val_main_v294, val_main_v293, val_main_v292, val_main_v291, val_main_v290, val_main_v289, val_main_cst_10,
    val_main_cst_11, val_main_cst_12, val_main_cst_13, val_main_cst_14, val_main_call2_v0, val_main_call2_v1,
    val_main_call2_v2, val_main_call2_v3, val_main_call2_v4, val_main_call2_v5, val_main_call2_cst, val_main_call2_cst_0]
  rfl

end Cert.ReferenceIdeal.Rows
-- ==== Proof.RefLast.lean ====
/-
  The plain layer's mixer and what follows it, row by row.
-/
module

public import proofs.«01_k».proof.Proof.RefConv
public import Idealize.ShloMosaic.Lib.Pipeline.ValueKit
public import Idealize.ShloMosaic.Lib.Pointwise

@[expose] public section

set_option maxRecDepth 16384

noncomputable section

namespace Cert.ReferenceIdeal.Rows

open Idealize.ShloMosaic Idealize.ShloMosaic.TcCoe Idealize.SL.Sem
open Cert.ReferenceIdeal Cert.ReferenceIdeal.Read Cert.Layer

variable (x0 : Vec Ideal S33280x1024 .f32) (x1 : Vec Ideal S33280x512 .bf16) (x2 : Vec Ideal S2x1024 .f32)
  (x3 x4 : Vec Ideal S2x1024x2816 .f32) (x5 : Vec Ideal S2x2816x1024 .f32) (x6 : Vec Ideal S2x1024 .f32)
  (x7 : Vec Ideal S2x1024x4608 .f32) (x8 : Vec Ideal S2x512x1024 .f32) (x9 : Vec Ideal S2x31x512 .f32)
  (x10 x11 x12 : Vec Ideal S2x512 .f32) (x13 : Vec Ideal S2x512x1024 .f32) (x14 : Vec Ideal S2x1024x1024 .f32)
  (x15 : Vec Ideal S2x1024 .f32) (x16 x17 : Vec Ideal S2x1024x2816 .f32) (x18 : Vec Ideal S2x2816x1024 .f32)
  (x19 : Vec Ideal S1024 .f32)

/-- The attention's row `s` of batch `b` after the padding is cut. -/
theorem cutAtt_apply (b : Fin 4) (s : Fin 8208) (n : Fin 512) (r : Fin 33280) (h : r.val = b.val * 8320 + 112 + s.val) :
    val_main_v323 (F := Ideal) x1 (ix3 b s n) = x1 (ix2 r n) := by
  rw [val_main_v323_apply, val_main_v322_apply]
  refine congrArg x1 (funext fun a => Fin.ext ?_)
  fin_cases a
  · show ((b.val * 8320 + (112 + s.val)) * 512 + n.val) / 512 = r.val
    omega
  · show ((b.val * 8320 + (112 + s.val)) * 512 + n.val) % 512 = n.val
    omega

/-- The first block's row `s` of batch `b` after the padding is cut. -/
theorem cutRow_apply (b : Fin 4) (s : Fin 8208) (n : Fin 1024) (r : Fin 33280) (h : r.val = b.val * 8320 + 112 + s.val) :
    val_main_v343 (F := Ideal) x0 x2 x3 x4 x5 (ix3 b s n) = ffn1 1 x0 x2 x3 x4 x5 (ix2 r n) := by
  rw [val_main_v343_apply, val_main_v342_apply, ffn1_eq]
  refine congrArg _ (funext fun a => Fin.ext ?_)
  fin_cases a
  · show ((b.val * 8320 + (112 + s.val)) * 1024 + n.val) / 1024 = r.val
    omega
  · show ((b.val * 8320 + (112 + s.val)) * 1024 + n.val) % 1024 = n.val
    omega

/-- The two gated branches. -/
theorem gated_apply (b : Fin 4) (s : Fin 8208) (k : Fin 1024) (r : Fin 33280) (h : r.val = b.val * 8320 + 112 + s.val) :
    val_main_v341 (F := Ideal) x0 x1 x2 x3 x4 x5 x6 x7 x8 x9 x10 x11 x12 x13 (ix3 b s k)
    = gated (rms (fun k => ffn1 1 x0 x2 x3 x4 x5 (ix2 r k)) (vect 1 x6)) (cut (mat 1 x7) 2560 1024 (by decide))
        (cut (mat 1 x7) 3584 1024 (by decide)) (fun j => x1 (ix2 r j))
        (convRow (taps (vect 1 x10) (tapRow (mat 1 x9)) (fun n => rowOf (layerU 1 (ffn1 1 x0 x2 x3 x4 x5) x6 x7) (source n)) r.val 31)
          (vect 1 x11) (vect 1 x12)) (mat 1 x8) (mat 1 x13) k := by
  pointwise [val_main_v341, val_main_v340, val_main_v339, val_main_v338, val_main_v337, val_main_v336, val_main_v335,
    val_main_v334, val_main_v333, val_main_v332, val_main_v331, val_main_v330, val_main_v329, val_main_v328, val_main_v327,
    val_main_v326, val_main_v325, val_main_v324, val_main_v320, val_main_v319, val_main_v318, val_main_v57, val_main_v56,
    val_main_cst_15, val_main_cst_16, val_main_cst_17, val_main_cst_18]
  simp only [cut_apply _ _ _ _ _ _ _ b s _ r h, proj_apply, cutAtt_apply _ b s _ r h, convRow_apply,
    conv_apply _ _ _ _ _ _ _ _ _ b s _ r h]
  rfl

/-- The mixer. -/
theorem mixer_apply (b : Fin 4) (s : Fin 8208) (k : Fin 1024) (r : Fin 33280) (h : r.val = b.val * 8320 + 112 + s.val) :
    val_main_v347 (F := Ideal) x0 x1 x2 x3 x4 x5 x6 x7 x8 x9 x10 x11 x12 x13 x14 (ix3 b s k)
    = mixer 1 (ffn1 1 x0 x2 x3 x4 x5) x1 x6 x7 x8 x13 x9 x10 x11 x12 x14 (ix2 r k) := by
  pointwise [val_main_v347, val_main_v346, val_main_v345, val_main_v344]
  simp only [cutRow_apply _ _ _ _ _ b s _ r h, gated_apply _ _ _ _ _ _ _ _ _ _ _ _ _ _ b s _ r h]
  rfl

/-- The row normalised before the second feed-forward block. -/
theorem norm3 (b : Fin 4) (s : Fin 8208) (k : Fin 1024) : val_main_v368 (F := Ideal) x0 x1 x2 x3 x4 x5 x6 x7 x8 x9 x10 x11 x12 x13 x14 x15 (ix3 b s k)
    = rms (fun k => val_main_v347 (F := Ideal) x0 x1 x2 x3 x4 x5 x6 x7 x8 x9 x10 x11 x12 x13 x14 (ix3 b s k)) (vect 1 x15) k := by
  pointwise [val_main_v368, val_main_v367, val_main_v366, val_main_v365, val_main_v364, val_main_v363, val_main_v362,
    val_main_v361, val_main_v360, val_main_v359, val_main_v358, val_main_v357, val_main_v356, val_main_cst_19,
    val_main_cst_20, val_main_cst_21, val_main_v349, val_main_v348]
  rfl

/-- The second block's gated hidden row. -/
theorem hidden3 (b : Fin 4) (s : Fin 8208) (f : Fin 2816) : val_main_v372 (F := Ideal) x0 x1 x2 x3 x4 x5 x6 x7 x8 x9 x10 x11 x12 x13 x14 x15 x16 x17 (ix3 b s f)
    = hidden (fun k => val_main_v368 (F := Ideal) x0 x1 x2 x3 x4 x5 x6 x7 x8 x9 x10 x11 x12 x13 x14 x15 (ix3 b s k)) (mat 1 x16) (mat 1 x17) f := by
  pointwise [val_main_v372, val_main_v371, val_main_v370, val_main_v369, val_main_call3_v0, val_main_call3_v1,
    val_main_call3_v2, val_main_call3_v3, val_main_call3_v4, val_main_call3_v5, val_main_call3_cst, val_main_call3_cst_0,
    val_main_v353, val_main_v352, val_main_v351, val_main_v350]
  rfl

/-- The second feed-forward block. -/
theorem ffn3_apply (b : Fin 4) (s : Fin 8208) (k : Fin 1024) : val_main_v376 (F := Ideal) x0 x1 x2 x3 x4 x5 x6 x7 x8 x9 x10 x11 x12 x13 x14 x15 x16 x17 x18 (ix3 b s k)
    = ffn (fun k => val_main_v347 (F := Ideal) x0 x1 x2 x3 x4 x5 x6 x7 x8 x9 x10 x11 x12 x13 x14 (ix3 b s k)) (vect 1 x15) (mat 1 x16) (mat 1 x17) (mat 1 x18) k := by
  pointwise [val_main_v376, val_main_v375, val_main_v374, val_main_v373, val_main_cst_22, val_main_v355, val_main_v354]
  simp only [hidden3, norm3]
  rfl

/-- The final normalisation. -/
theorem out_apply (b : Fin 4) (s : Fin 8208) (k : Fin 1024) : val_main_v389 (F := Ideal) x0 x1 x2 x3 x4 x5 x6 x7 x8 x9 x10 x11 x12 x13 x14 x15 x16 x17 x18 x19 (ix3 b s k)
    = rms (fun k => val_main_v376 (F := Ideal) x0 x1 x2 x3 x4 x5 x6 x7 x8 x9 x10 x11 x12 x13 x14 x15 x16 x17 x18 (ix3 b s k)) (fun k => x19 (ix1 k)) k := by
  pointwise [val_main_v389, val_main_v388, val_main_v387, val_main_v386, val_main_v385, val_main_v384, val_main_v383,
    val_main_v382, val_main_v381, val_main_v380, val_main_v379, val_main_v378, val_main_v377, val_main_cst_23,
    val_main_cst_24, val_main_cst_25]
  rfl

/-- The result: frame `n` is row `n % 8192 + 16` of batch `n / 8192` after the padding is cut. -/
theorem last_eq : val_main_v391 (F := Ideal) x0 x1 x2 x3 x4 x5 x6 x7 x8 x9 x10 x11 x12 x13 x14 x15 x16 x17 x18 x19
    = last 1 (mixer 1 (ffn1 1 x0 x2 x3 x4 x5) x1 x6 x7 x8 x13 x9 x10 x11 x12 x14) x15 x16 x17 x18 x19 := by
  funext i
  obtain ⟨n, k, rfl⟩ : ∃ n k, i = ix2 n k := ⟨_, _, eq_ix2 i⟩
  have e : idx_main_v390 (idx_main_v391 (ix2 n k)) = ix3 (⟨n / 8192, by omega⟩ : Fin 4) (⟨16 + n % 8192, by omega⟩ : Fin 8208) k := by
    refine funext fun a => Fin.ext ?_
    fin_cases a
    · show (n.val * 1024 + k.val) / 8388608 = n.val / 8192
      omega
    · show 16 + (n.val * 1024 + k.val) / 1024 % 8192 = 16 + n.val % 8192
      omega
    · show (n.val * 1024 + k.val) % 1024 = k.val
      omega
  rw [val_main_v391_apply, val_main_v390_apply, e, out_apply]
  simp only [ffn3_apply, mixer_apply _ _ _ _ _ _ _ _ _ _ _ _ _ _ _ (⟨n / 8192, by omega⟩ : Fin 4)
    (⟨16 + n % 8192, by omega⟩ : Fin 8208) _ (frameRow n) (by dsimp only [frameRow]; omega)]
  rfl

end Cert.ReferenceIdeal.Rows
-- ==== Proof.LayerClaim.lean ====
/-
  The layer's claims: the reference's frame, and the four result arrays equal to the reference's.
-/
module

public import proofs.«01_k».proof.Defs
public import proofs.«01_k».proof.Proof.Results
public import proofs.«01_k».proof.Proof.Run
public import proofs.«01_k».proof.Proof.RefLast
public import Idealize.ShloMosaic.Lib.Quiescent

@[expose] public section

noncomputable section

namespace Cert.Proof.Layer

open Idealize.ShloMosaic Idealize.ShloMosaic.TcCoe Idealize.SL.Sem
open Cert.KernelIdeal Cert.KernelIdeal.Gen Cert.KernelIdeal.Results

/-- The reference is host operations: it runs to its end, its arguments unchanged, and it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- Both programs end with the layer's four results: the kernel by its calls' arrays, the reference by its operations. -/
theorem algebraic : Cert.algebraic_KernelIdeal_ReferenceIdeal := by
  intro m ρ m' ρ' _ hagree
  refine ⟨fun c => W8 m ρ c main_v42, fun c => W8 m ρ c main_v20_0, fun c => W8 m ρ c main_v20_1,
    fun c => W8 m ρ c main_v20_2,
    (θ_run Cert.KernelIdeal.defs _ _).mono (fun r h c => ⟨h c main_v42 (by decide), h c main_v20_0 (by decide),
      h c main_v20_1 (by decide), h c main_v20_2 (by decide),
      (h c main_arg0 (by decide)).trans (W8_main_arg0 m ρ c), (h c main_arg1 (by decide)).trans (W8_main_arg1 m ρ c),
      (h c main_arg2 (by decide)).trans (W8_main_arg2 m ρ c), (h c main_arg3 (by decide)).trans (W8_main_arg3 m ρ c),
      (h c main_arg4 (by decide)).trans (W8_main_arg4 m ρ c), (h c main_arg5 (by decide)).trans (W8_main_arg5 m ρ c),
      (h c main_arg6 (by decide)).trans (W8_main_arg6 m ρ c), (h c main_arg7 (by decide)).trans (W8_main_arg7 m ρ c),
      (h c main_arg8 (by decide)).trans (W8_main_arg8 m ρ c), (h c main_arg9 (by decide)).trans (W8_main_arg9 m ρ c),
      (h c main_arg10 (by decide)).trans (W8_main_arg10 m ρ c), (h c main_arg11 (by decide)).trans (W8_main_arg11 m ρ c),
      (h c main_arg12 (by decide)).trans (W8_main_arg12 m ρ c), (h c main_arg13 (by decide)).trans (W8_main_arg13 m ρ c),
      (h c main_arg14 (by decide)).trans (W8_main_arg14 m ρ c), (h c main_arg15 (by decide)).trans (W8_main_arg15 m ρ c),
      (h c main_arg16 (by decide)).trans (W8_main_arg16 m ρ c), (h c main_arg17 (by decide)).trans (W8_main_arg17 m ρ c),
      (h c main_arg18 (by decide)).trans (W8_main_arg18 m ρ c), (h c main_arg19 (by decide)).trans (W8_main_arg19 m ρ c)⟩)
      (Results.run m ρ),
    (θ_run Cert.ReferenceIdeal.defs _ _).mono (fun r h c => ⟨(h c).1.trans ?_, (h c).2.1.trans ?_, (h c).2.2.1.trans ?_,
      (h c).2.2.2.1.trans ?_, (h c).2.2.2.2⟩) (Cert.ReferenceIdeal.Value.run (F := Ideal) m' ρ')⟩
  all_goals obtain ⟨a0, a1, a2, a3, a4, a5, a6, a7, a8, a9, a10, a11, a12, a13, a14, a15, a16, a17, a18, a19⟩ := hagree c
  · refine (Cert.ReferenceIdeal.Read.val_main_v391_eq (StableHlo.launchContents m' c)).trans ?_
    clear hagree
    dsimp only [StableHlo.launchContents]
    rw [a0, a1, a2, a3, a4, a5, a6, a7, a8, a9, a10, a11, a12, a13, a14, a15, a16, a17, a18, a19]
    exact (Cert.ReferenceIdeal.Rows.last_eq ..).trans (result m ρ c).symm
  · refine (Cert.ReferenceIdeal.Read.val_main_v392_eq (StableHlo.launchContents m' c)).trans ?_
    clear hagree
    dsimp only [StableHlo.launchContents]
    rw [a0, a2, a3, a4, a5, a6, a7]
    exact (Cert.ReferenceIdeal.Rows.layerQ_eq ..).trans (result_q m ρ c).symm
  · refine (Cert.ReferenceIdeal.Read.val_main_v393_eq (StableHlo.launchContents m' c)).trans ?_
    clear hagree
    dsimp only [StableHlo.launchContents]
    rw [a0, a2, a3, a4, a5, a6, a7]
    exact (Cert.ReferenceIdeal.Rows.layerK_eq ..).trans (result_k m ρ c).symm
  · refine (Cert.ReferenceIdeal.Read.val_main_v394_eq (StableHlo.launchContents m' c)).trans ?_
    clear hagree
    dsimp only [StableHlo.launchContents]
    rw [a0, a2, a3, a4, a5, a6, a7]
    exact (Cert.ReferenceIdeal.Rows.layerV_eq ..).trans (result_v m ρ c).symm

end Cert.Proof.Layer

end
-- ==== Proof.HeadBlock.lean ====
/-
  What one tile of the first layer's feed-forward call leaves in its block.
-/
module

public import proofs.«01_k».proof.Proof.FfnBlock
public import proofs.«01_k».proof.Proof.Gen.Kernel2Ideal.Frame

@[expose] public section

set_option maxRecDepth 16384

noncomputable section

namespace Cert.Kernel2Ideal.Block

open Idealize.ShloMosaic Idealize.ShloMosaic.TcCoe Idealize.SL.Sem
open Cert.Kernel2Ideal Cert.Kernel2Ideal.Gen Cert.Layer
open Cert.KernelIdeal.Block (act0 act0_at)

/-- The tile's input rows: a batch's first tile begins with the 128 head rows and goes on with the frames' first rows; every
    other tile is frames alone. -/
def stitched (t : ℕ) (x0 : Vec Ideal S1040x1024 .f32) (x5 : Vec Ideal S128x1024 .f32) : Vec Ideal S1040x1024 .f32 := fun y =>
  if t % 8 = 0 then
    if h : (y 0).val < 128 then x5 (ix2 ⟨(y 0).val, h⟩ (y 1))
    else x0 (ix2 ⟨(y 0).val - 128, by have := (y 0).isLt; change (y 0).val < 1040 at this; omega⟩ (y 1))
  else x0 y

/-- The kernel's selection by the tile's number is `stitched`. -/
theorem pay2_eq (i : grid0.Coords) (x0 : Vec Ideal S1040x1024 .f32) (x5 : Vec Ideal S128x1024 .f32) :
    k0_pay2 i x0 x5 = stitched (i 0).val x0 x5 := by
  funext y
  obtain ⟨r, k, rfl⟩ : ∃ (r : Fin 1040) (k : Fin 1024), y = ix2 r k := ⟨_, _, eq_ix2 y⟩
  have key : ∀ a : Fin 32, Scalar.cmpi .eq (Scalar.select (Scalar.andi (Scalar.xori
      (Scalar.cmpi .slt (Scalar.remsi (BitVec.ofNat 32 a.val) (Scalar.select (Scalar.cmpi .eq 8#32 0#32) 1#32 8#32)) 0#32)
      (Scalar.cmpi .slt (Scalar.select (Scalar.cmpi .eq 8#32 0#32) 1#32 8#32) 0#32))
      (Scalar.cmpi .ne (Scalar.remsi (BitVec.ofNat 32 a.val) (Scalar.select (Scalar.cmpi .eq 8#32 0#32) 1#32 8#32)) 0#32))
      (Scalar.addi (Scalar.remsi (BitVec.ofNat 32 a.val) (Scalar.select (Scalar.cmpi .eq 8#32 0#32) 1#32 8#32))
        (Scalar.select (Scalar.cmpi .eq 8#32 0#32) 1#32 8#32))
      (Scalar.remsi (BitVec.ofNat 32 a.val) (Scalar.select (Scalar.cmpi .eq 8#32 0#32) 1#32 8#32))) 0#32
      = if a.val % 8 = 0 then 1#1 else 0#1 := by decide +kernel
  unfold k0_pay2 stitched
  dsimp only
  rw [key (i 0)]
  by_cases h : (i 0).val % 8 = 0
  · rw [if_pos h, if_pos h]
    pointwise
  · rw [if_neg h, if_neg h]
    pointwise

/-- What a tile leaves in its block, as a function of its input blocks. -/
theorem out_apply (c : Dev nD) (i : grid0.Coords) (arg1 : Memref sig .tc .vmem S1040x1024 .f32) (harg1 : arg1.IsWhole) (arg2
    : Memref sig .tc .vmem S1x1024 .f32) (harg2 : arg2.IsWhole) (arg3 : Memref sig .tc .vmem S1x1024x2816 .bf16) (harg3 :
    arg3.IsWhole) (arg4 : Memref sig .tc .vmem S1x1024x2816 .bf16) (harg4 : arg4.IsWhole) (arg5 : Memref sig .tc .vmem
    S1x2816x1024 .bf16) (harg5 : arg5.IsWhole) (arg6 : Memref sig .tc .vmem S128x1024 .f32) (harg6 : arg6.IsWhole) (arg7 :
    Memref sig .tc .vmem S1040x1024 .f32) (harg7 : arg7.IsWhole) (arg8 : Memref sig .tc .vmem S1040x2816 .bf16) (harg8 :
    arg8.IsWhole) (x0 : Vec Ideal S1040x1024 .f32) (x1 : Vec Ideal S1x1024 .f32) (x2 : Vec Ideal S1x1024x2816 .bf16) (x3 :
    Vec Ideal S1x1024x2816 .bf16) (x4 : Vec Ideal S1x2816x1024 .bf16) (x5 : Vec Ideal S128x1024 .f32) (y : S1040x1024.Idx) :
    out0_A_6 c i arg1 harg1 arg2 harg2 arg3 harg3 arg4 harg4 arg5 harg5 arg6 harg6 arg7 harg7 arg8 harg8 x0 x1 x2 x3 x4 x5 y
    = ffn (fun k => stitched (i 0).val x0 x5 (ix2 (y 0) k)) (fun k => x1 (ix2 0 k)) (fun k f => x2 (ix3 0 k f))
      (fun k f => x3 (ix3 0 k f)) (fun f k => x4 (ix3 0 f k)) (y 1) := by
  rw [← pay2_eq]
  frame_out
  refine (congrArg (fun a => k0_pay1 (k0_pay2 i x0 x5) a x4 y) (?_ : _ = act0 (k0_pay2 i x0 x5) x1 x2 x3)).trans ?_
  · rw [View.readCov_eq_canon']
    funext y
    rw [show (Rect.unit (s := S1040x2816) ![0, 0] ![1040, 2816] inb_S1040x2816_S1040x2816_0_0).idx y = y from
      funext fun a => Fin.ext (by rw [Rect.idx_unit_val]; fin_cases a <;> exact Nat.zero_add _)]
    canon_tiles x h
    all_goals
      refine Eq.trans ?_ (act0_at (k0_pay2 i x0 x5) x1 x2 x3 y (x 0) _ h0 h1).symm
      pointwise [k0_pay3, k0_pay4, k0_pay5, k0_pay6, k0_pay7, k0_pay8, k0_pay9, k0_pay10, k0_pay11,
        k0_pay12, k0_pay13, k0_pay14, k0_pay15, k0_pay16, k0_pay17, k0_pay18, k0_pay19, k0_pay20, k0_pay21,
        k0_pay22, k0_pay23]
      simp only [zero_sub]
      rfl
  · pointwise [k0_pay1]
    rw [show k0_pay2 i x0 x5 y = k0_pay2 i x0 x5 (ix2 (y 0) (y 1)) from congrArg _ (eq_ix2 y)]
    rfl

end Cert.Kernel2Ideal.Block
-- ==== Proof.HeadArray.lean ====
/-
  The first layer's feed-forward call: its input rows read from the arguments, and the array it leaves.
-/
module

public import proofs.«01_k».proof.Proof.HeadBlock
public import Idealize.ShloMosaic.Lib.StableHlo.ReadAt

@[expose] public section

set_option maxRecDepth 16384

noncomputable section

namespace Cert.Layer

open Idealize.ShloMosaic

/-- Row `r` of the first layer's input: a batch is 112 zero rows, the 16 meta rows and its 8192 frames. -/
def joined (x : Vec Ideal ⟨3, ![4, 8192, 1024]⟩ .f32) (metas : Vec Ideal ⟨2, ![16, 1024]⟩ .f32) (r : Fin 33280) : Fin 1024 → EReal :=
  fun k =>
  if h : 112 ≤ r.val % 8320 then
    if h' : r.val % 8320 < 128 then metas (ix2 ⟨r.val % 8320 - 112, by omega⟩ k)
    else x (ix3 ⟨r.val / 8320, by omega⟩ ⟨r.val % 8320 - 128, by omega⟩ k)
  else 0

/-- The first layer's feed-forward block on every row. -/
def head (x : Vec Ideal ⟨3, ![4, 8192, 1024]⟩ .f32) (metas : Vec Ideal ⟨2, ![16, 1024]⟩ .f32) (norm : Vec Ideal ⟨2, ![2, 1024]⟩ .f32)
    (wg wu : Vec Ideal ⟨3, ![2, 1024, 2816]⟩ .f32) (wd : Vec Ideal ⟨3, ![2, 2816, 1024]⟩ .f32) : Rows := fun i =>
  ffn (joined x metas (i 0)) (fun k => norm (ix2 0 k)) (mat 0 wg) (mat 0 wu) (mat 0 wd) (i 1)

/-- The feed-forward block leaves a zero row zero. -/
theorem ffn_zero (g : Fin 1024 → EReal) (wg wu : Fin 1024 → Fin 2816 → EReal) (wd : Fin 2816 → Fin 1024 → EReal) (k : Fin 1024) :
    ffn (fun _ => 0) g wg wu wd k = 0 := by
  have e : rms (fun _ => 0) g = fun _ => 0 := funext fun k => by simp only [rms, zero_mul]
  have h : hidden (fun _ => 0) wg wu = fun _ => 0 := funext fun f => by
    simp only [hidden, zero_mul, Finset.sum_const_zero, mul_zero]
  simp only [ffn, e, h, zero_mul, Finset.sum_const_zero, mul_zero, add_zero]

end Cert.Layer

namespace Cert.Kernel2Ideal.Array

open Idealize.ShloMosaic Idealize.ShloMosaic.TcCoe Idealize.SL.Sem
open Cert.Kernel2Ideal Cert.Kernel2Ideal.Gen Cert.Layer

variable (m : (ℓ : Loc nD τ sig) → Buf (Elt Ideal) ℓ)

/-- Where each window's block lies at point `t`, in blocks, and for the frames in rows. -/
theorem idx0 : ∀ t : Fin cfg0.N, win0_0.index t = ![t.val / 8 * 8192 + (t.val % 8 * 1040 - 128), 0] :=
  (by decide +kernel : ∀ t : Fin grid0.N, win0_0.index t = ![t.val / 8 * 8192 + (t.val % 8 * 1040 - 128), 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![0, 0, 0] :=
  (by decide +kernel : ∀ t : Fin grid0.N, win0_3.index t = ![0, 0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])
/-- The grid's coordinate of point `t` is the tile's number. -/
theorem coord : ∀ t : Fin cfg0.N, ((grid0.coords t) 0).val = t.val :=
  (by decide +kernel : ∀ t : Fin grid0.N, ((grid0.coords t) 0).val = t.val)

/-- The frames as one array of rows. -/
theorem frames (c : Dev nD) (n : Fin 32768) (k : Fin 1024) : V m c main_v0 (ix2 n k)
    = m ((c : Thread nD τ).loc main_arg0) (ix3 (⟨n.val / 8192, by omega⟩ : Fin 4) (⟨n.val % 8192, by omega⟩ : Fin 8192) k) := by
  entry_read; pointwise

/-- Row `r` of tile `t`'s frames: the window begins at the tile's first row less the batch's 128 head rows, at the batch's first
    frame where that is before it. -/
theorem blk0 (c : Dev nD) (t : Fin cfg0.N) (r : Fin 1040) (k : Fin 1024) (b : Fin 4) (q : Fin 8192)
    (h : b.val * 8192 + q.val = t.val / 8 * 8192 + (t.val % 8 * 1040 - 128) + r.val) :
    iblk m c 0 t (ix2 r k) = m ((c : Thread nD τ).loc main_arg0) (ix3 b q k) := by
  have e : (win0_0.rect t).emb (ix2 r k) = ix2 (⟨b.val * 8192 + q.val, by omega⟩ : Fin 32768) k := by
    refine funext fun a => Fin.ext ?_
    rw [Pipeline.Window.rect_emb_val_off]
    fin_cases a
    · show win0_0.index t 0 + r.val = _
      rw [idx0]; exact h.symm
    · show win0_0.index t 1 + k.val = _
      rw [idx0]; exact Nat.zero_add _
  show V m c main_v0 ((win0_0.rect t).emb (ix2 r k)) = _
  rw [e, frames]
  refine congrArg _ (funext fun a => Fin.ext ?_)
  fin_cases a
  · show (b.val * 8192 + q.val) / 8192 = b.val
    omega
  · show (b.val * 8192 + q.val) % 8192 = q.val
    omega
  · rfl

/-- The other windows' blocks: the gains, the first of each weight stack's two matrices, and the head rows. -/
theorem blk1 (c : Dev nD) (t : Fin cfg0.N) (k : Fin 1024) :
    iblk m c 1 t (ix2 0 k) = m ((c : Thread nD τ).loc main_arg2) (ix2 0 k) := by
  blk_simp [iblk, idx1]; entry_read; pointwise
  blk_ext [idx1]

theorem blk2 (c : Dev nD) (t : Fin cfg0.N) (k : Fin 1024) (f : Fin 2816) :
    iblk m c 2 t (ix3 0 k f) = m ((c : Thread nD τ).loc main_arg3) (ix3 0 k f) := by
  blk_simp [iblk, idx2]; entry_read; pointwise
  blk_ext [idx2]

theorem blk3 (c : Dev nD) (t : Fin cfg0.N) (k : Fin 1024) (f : Fin 2816) :
    iblk m c 3 t (ix3 0 k f) = m ((c : Thread nD τ).loc main_arg4) (ix3 0 k f) := by
  blk_simp [iblk, idx3]; entry_read; pointwise
  blk_ext [idx3]

theorem blk4 (c : Dev nD) (t : Fin cfg0.N) (f : Fin 2816) (k : Fin 1024) :
    iblk m c 4 t (ix3 0 f k) = m ((c : Thread nD τ).loc main_arg5) (ix3 0 f k) := by
  blk_simp [iblk, idx4]; entry_read; pointwise
  blk_ext [idx4]

/-- The head rows: 112 zero rows, then the meta rows. -/
theorem headRows (c : Dev nD) (r : Fin 128) (k : Fin 1024) : V m c main_v2 (ix2 r k)
    = if h : 112 ≤ r.val then m ((c : Thread nD τ).loc main_arg1) (ix2 (⟨r.val - 112, by omega⟩ : Fin 16) k) else (0 : EReal) := by
  entry_read; pointwise
  by_cases h : 112 ≤ r.val
  · rw [dif_pos h, dif_neg (Nat.not_lt.mpr h)]
  · rw [dif_neg h, dif_pos (Nat.not_le.mp h)]

theorem blk5 (c : Dev nD) (t : Fin cfg0.N) (r : Fin 128) (k : Fin 1024) :
    iblk m c 5 t (ix2 r k) = V m c main_v2 (ix2 r k) := by
  blk_simp [iblk, idx5]
  blk_ext [idx5]

/-- Row `r` of tile `t`'s stitched input is the array's input row `1040 t + r`. -/
theorem stitched_apply (c : Dev nD) (t : Fin cfg0.N) (r : Fin 1040) (k : Fin 1024) (n : Fin 33280) (h : n.val = t.val * 1040 + r.val) :
    Block.stitched t.val (iblk m c 0 t) (iblk m c 5 t) (ix2 r k)
    = joined (m ((c : Thread nD τ).loc main_arg0)) (m ((c : Thread nD τ).loc main_arg1)) n k := by
  have ht : t.val < 32 := t.isLt
  have hr : r.val < 1040 := r.isLt
  unfold Block.stitched joined
  by_cases h8 : t.val % 8 = 0
  · rw [if_pos h8]
    by_cases h128 : r.val < 128
    · rw [dif_pos (show ((ix2 r k : S1040x1024.Idx) 0).val < 128 from h128)]
      refine (blk5 m c t ⟨r.val, h128⟩ k).trans ((headRows m c ⟨r.val, h128⟩ k).trans ?_)
      have e : n.val % 8320 = r.val := by omega
      simp only [e]
      by_cases h112 : 112 ≤ r.val
      · rw [dif_pos h112, dif_pos h112, dif_pos h128]
      · rw [dif_neg h112, dif_neg h112]
    · rw [dif_neg (show ¬ ((ix2 r k : S1040x1024.Idx) 0).val < 128 from h128)]
      have a1 : 112 ≤ n.val % 8320 := by omega
      have a2 : ¬ n.val % 8320 < 128 := by omega
      rw [dif_pos a1, dif_neg a2]
      exact blk0 m c t ⟨r.val - 128, by omega⟩ k _ _ (by dsimp only; omega)
  · rw [if_neg h8]
    have a1 : 112 ≤ n.val % 8320 := by omega
    have a2 : ¬ n.val % 8320 < 128 := by omega
    rw [dif_pos a1, dif_neg a2]
    exact blk0 m c t r k _ _ (by dsimp only; omega)

/-- The array after the call. -/
theorem arr_eq (c : Dev nD) : (dats m 0 c).arrAt 6 cfg0.N
    = head (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  rw [Block.out_apply, coord]
  have e0 : (((win0_6.blk t).view.emb y) 0).val = t.val * 1040 + (y 0).val := by blk_simp [idx6]
  have e1 : ((win0_6.blk t).view.emb y) 1 = y 1 := Fin.ext (by blk_simp [idx6])
  have hx : ∀ k, Block.stitched t.val (iblk m c 0 t) (iblk m c 5 t) (ix2 (y 0) k)
      = joined (m ((c : Thread nD τ).loc main_arg0)) (m ((c : Thread nD τ).loc main_arg1)) (((win0_6.blk t).view.emb y) 0) k :=
    fun k => stitched_apply m c t (y 0) k _ e0
  unfold head mat
  simp only [hx, blk1, blk2, blk3, blk4, e1]

end Cert.Kernel2Ideal.Array
-- ==== Proof.HeadRef.lean ====
/-
  The plain first layer's feed-forward block, row by row.
-/
module

public import proofs.«01_k».proof.Proof.HeadArray
public import proofs.«01_k».proof.Proof.Gen.Reference2Ideal.Read

@[expose] public section

set_option maxRecDepth 16384

noncomputable section

namespace Cert.Reference2Ideal.Rows

open Idealize.ShloMosaic Idealize.ShloMosaic.TcCoe Idealize.SL.Sem
open Cert.Reference2Ideal Cert.Reference2Ideal.Read Cert.Layer

variable (x0 : Vec Ideal S4x8192x1024 .f32) (x1 : Vec Ideal S16x1024 .f32) (x2 : Vec Ideal S2x1024 .f32)
  (x3 x4 : Vec Ideal S2x1024x2816 .f32) (x5 : Vec Ideal S2x2816x1024 .f32)

/-- Row `s` of batch `b`, meta rows first, is row `b * 8320 + 112 + s` of the padded input. -/
theorem joined_apply (b : Fin 4) (s : Fin 8208) (k : Fin 1024) (r : Fin 33280) (h : r.val = b.val * 8320 + 112 + s.val) :
    val_main_v1 (F := Ideal) x0 x1 (ix3 b s k) = joined x0 x1 r k := by
  pointwise [val_main_v1, val_main_v0]
  have e : r.val % 8320 = 112 + s.val := by omega
  have d : r.val / 8320 = b.val := by omega
  unfold joined
  rw [dif_pos (show 112 ≤ r.val % 8320 by omega)]
  by_cases hs : s.val < 16
  · rw [dif_pos hs, dif_pos (show r.val % 8320 < 128 by omega)]
    exact congrArg (fun i => x1 (ix2 i k)) (Fin.ext (by dsimp only; omega))
  · rw [dif_neg hs, dif_neg (show ¬ r.val % 8320 < 128 by omega)]
    exact congrArg₂ (fun i j => x0 (ix3 i j k)) (Fin.ext (by dsimp only; omega)) (Fin.ext (by dsimp only; omega))

/-- The normalised row. -/
theorem norm (b : Fin 4) (s : Fin 8208) (k : Fin 1024) : val_main_v22 (F := Ideal) x0 x1 x2 (ix3 b s k)
    = rms (fun k => val_main_v1 (F := Ideal) x0 x1 (ix3 b s k)) (fun k => x2 (ix2 0 k)) k := by
  pointwise [val_main_v22, val_main_v21, val_main_v20, val_main_v19, val_main_v18, val_main_v17, val_main_v16, val_main_v15,
    val_main_v14, val_main_v13, val_main_v12, val_main_v11, val_main_v10, val_main_v2, val_main_v3, val_main_cst,
    val_main_cst_0, val_main_cst_1]
  rfl

/-- The gated hidden row. -/
theorem hidden_apply (b : Fin 4) (s : Fin 8208) (f : Fin 2816) : val_main_v26 (F := Ideal) x0 x1 x2 x3 x4 (ix3 b s f)
    = hidden (fun k => val_main_v22 (F := Ideal) x0 x1 x2 (ix3 b s k)) (mat 0 x3) (mat 0 x4) f := by
  pointwise [val_main_v26, val_main_v25, val_main_v24, val_main_v23, val_main_v7, val_main_v6, val_main_v5, val_main_v4,
    val_main_call0_v0, val_main_call0_v1, val_main_call0_v2, val_main_call0_v3, val_main_call0_v4, val_main_call0_v5,
    val_main_call0_cst, val_main_call0_cst_0]
  rfl

/-- The feed-forward block on a row. -/
theorem ffn_apply (b : Fin 4) (s : Fin 8208) (k : Fin 1024) : val_main_v30 (F := Ideal) x0 x1 x2 x3 x4 x5 (ix3 b s k)
    = ffn (fun k => val_main_v1 (F := Ideal) x0 x1 (ix3 b s k)) (fun k => x2 (ix2 0 k)) (mat 0 x3) (mat 0 x4) (mat 0 x5) k := by
  pointwise [val_main_v30, val_main_v29, val_main_v28, val_main_v27, val_main_v9, val_main_v8, val_main_cst_2]
  simp only [hidden_apply, norm]
  rfl

/-- The block's rows with 112 zero rows before each batch. -/
theorem pad_apply (b : Fin 4) (n : Fin 8320) (k : Fin 1024) : val_main_v31 (F := Ideal) x0 x1 x2 x3 x4 x5 (ix3 b n k)
    = if h : 112 ≤ n.val then val_main_v30 (F := Ideal) x0 x1 x2 x3 x4 x5 (ix3 b ⟨n.val - 112, by omega⟩ k) else 0 := by
  pointwise [val_main_v31, val_main_call1_v0, val_main_c]
  by_cases h : 112 ≤ n.val
  · rw [dif_pos h, dif_pos ⟨h, by omega⟩]
  · rw [dif_neg h, dif_neg fun h' => h h'.1]
    show ((((0#32 : BitVec 32).toInt : ℤ) : ℝ) : EReal) = 0
    simp

/-- The result: on the padding's zero rows the block's formula gives zero. -/
theorem head_eq : val_main_v32 (F := Ideal) x0 x1 x2 x3 x4 x5 = head x0 x1 x2 x3 x4 x5 := by
  funext i
  obtain ⟨r, k, rfl⟩ : ∃ (r : Fin 33280) (k : Fin 1024), i = ix2 r k := ⟨_, _, eq_ix2 i⟩
  have e : idx_main_v32 (ix2 r k) = ix3 (⟨r.val / 8320, by omega⟩ : Fin 4) (⟨r.val % 8320, by omega⟩ : Fin 8320) k := by
    refine funext fun a => Fin.ext ?_
    fin_cases a
    · show (r.val * 1024 + k.val) / 8519680 = r.val / 8320
      omega
    · show (r.val * 1024 + k.val) / 1024 % 8320 = r.val % 8320
      omega
    · show (r.val * 1024 + k.val) % 1024 = k.val
      omega
  rw [val_main_v32_apply, e, pad_apply]
  show _ = ffn (joined x0 x1 r) _ _ _ _ k
  by_cases h : 112 ≤ r.val % 8320
  · rw [dif_pos h, ffn_apply]
    simp only [joined_apply x0 x1 (⟨r.val / 8320, by omega⟩ : Fin 4) (⟨r.val % 8320 - 112, by omega⟩ : Fin 8208) _ r
      (by dsimp only; omega)]
  · rw [dif_neg h, show joined x0 x1 r = fun _ => 0 from funext fun k => dif_neg h, ffn_zero]

end Cert.Reference2Ideal.Rows
-- ==== Proof.HeadClaim.lean ====
/-
  The first layer's feed-forward call's claims: the reference's frame, and the kernel's result array equal to the reference's.
-/
module

public import proofs.«01_k».proof.Defs
public import proofs.«01_k».proof.Proof.HeadRef
public import proofs.«01_k».proof.Proof.Gen.Kernel2Ideal.Value
public import Idealize.ShloMosaic.Lib.Quiescent

@[expose] public section

noncomputable section

namespace Cert.Proof.Head

open Idealize.ShloMosaic Idealize.ShloMosaic.TcCoe Idealize.SL.Sem

/-- The reference is host operations: it runs to its end, its arguments unchanged, and it declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs end with `head` of the arguments: the kernel by its blocks, the reference by its operations. -/
theorem algebraic : Cert.algebraic_Kernel2Ideal_Reference2Ideal := by
  intro m g m' g' _ hagree
  refine ⟨fun c => (Cert.Kernel2Ideal.Gen.dats m 0 c).arrAt 6 Cert.Kernel2Ideal.cfg0.N,
    Cert.Kernel2Ideal.Value.run_blocks (F := Ideal) m g,
    (θ_run Cert.Reference2Ideal.defs _ _).mono (fun r h c => ⟨(h c).1.trans ?_, (h c).2⟩)
      (Cert.Reference2Ideal.Value.run (F := Ideal) m' g')⟩
  obtain ⟨a0, a1, a2, a3, a4, a5⟩ := hagree c
  rw [Cert.Reference2Ideal.Read.val_main_v32_eq, a0, a1, a2, a3, a4, a5]
  exact (Cert.Reference2Ideal.Rows.head_eq ..).trans (Cert.Kernel2Ideal.Array.arr_eq m c).symm

end Cert.Proof.Head

end
-- ==== Proof.CastArray.lean ====
/-
  The arrays the weights' cast calls leave: over the reals each is the weight itself, or its columns.
-/
module

public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Kernel3Ideal.Cast

open Idealize.ShloMosaic Idealize.ShloMosaic.TcCoe Idealize.SL.Sem
open Cert.Kernel3Ideal Cert.Kernel3Ideal.Gen

variable (V : (c : Dev nD) → (b : Ref sig .tc) → Buf (Elt Ideal) ((c : Thread nD τ).loc b))

/-- The columns 0 to 2559 of a block of the input projection's stack, cast. -/
theorem out_proj (x : Vec Ideal S1x512x4608 .f32) (y : S1x512x2560.Idx) :
    out0_1 x y = x (ix3 0 (y 1) ⟨(y 2).val, (y 2).isLt.trans (by decide)⟩) := by
  frame_out
  pointwise [k0_pay1]

/-- The columns 2560 to 4607 of a block of the input projection's stack, cast. -/
theorem out_gates (x : Vec Ideal S1x512x4608 .f32) (y : S1x512x2048.Idx) :
    out0_2 x y = x (ix3 0 (y 1) ⟨2560 + (y 2).val, Nat.add_lt_add_left (y 2).isLt 2560⟩) := by
  frame_out
  pointwise [k0_pay2]

/-- A block of the gate's stack, cast. -/
theorem out_gate (x : Vec Ideal S1x512x2816 .f32) (y : S1x512x2816.Idx) : out1_1 x y = x y := by
  frame_out
  pointwise [k1_pay1]

/-- A block of the down projection's stack, cast. -/
theorem out_down (x : Vec Ideal S1x1408x1024 .f32) (y : S1x1408x1024.Idx) : out2_1 x y = x y := by
  frame_out
  pointwise [k2_pay1]

/-- A block of the attention's output projection's stack, cast. -/
theorem out_attn (x : Vec Ideal S1x256x1024 .f32) (y : S1x256x1024.Idx) : out3_1 x y = x y := by
  frame_out
  pointwise [k3_pay1]

/-- A block of the mixer's output projection's stack, cast. -/
theorem out_mix (x : Vec Ideal S1x512x1024 .f32) (y : S1x512x1024.Idx) : out4_1 x y = x y := by
  frame_out
  pointwise [k4_pay1]

/-- The projection's blocks: point `t` casts half a matrix, all its columns. -/
theorem idx0 : ∀ t : Fin cfg0.N, win0_0.index t = ![t.val / 2, t.val % 2, 0] :=
  (by decide +kernel : ∀ t : Fin grid0.N, win0_0.index t = ![t.val / 2, t.val % 2, 0])

/-- A cast call's blocks lie in its result as they lie in the weight. -/
theorem same0_1 (t : Fin cfg0.N) : win0_1.index t = win0_0.index t := rfl
theorem same0_2 (t : Fin cfg0.N) : win0_2.index t = win0_0.index t := rfl
theorem same1 (t : Fin cfg1.N) : win1_1.index t = win1_0.index t := rfl
theorem same2 (t : Fin cfg2.N) : win2_1.index t = win2_0.index t := rfl
theorem same3 (t : Fin cfg3.N) : win3_1.index t = win3_0.index t := rfl
theorem same4 (t : Fin cfg4.N) : win4_1.index t = win4_0.index t := rfl

/-- The projection's columns for queries, keys, values and the convolution's input, cast. -/
theorem arr_proj (c : Dev nD) : (dat0 V c).arrAt 1 cfg0.N
    = fun i : S2x1024x2560.Idx => V c main_arg2 (ix3 (i 0) (i 1) ⟨(i 2).val, (i 2).isLt.trans (by decide)⟩) := by
  refine (dat0 V c).arrAt_eq_of_covers 1 _ (by decide +kernel) fun t hf y => ?_
  blk_simp
  rw [after0_1, out_proj]
  blk_simp [iblk0]
  blk_ext [same0_1, idx0]

/-- The projection's columns for the gates, cast. -/
theorem arr_gates (c : Dev nD) : (dat0 V c).arrAt 2 cfg0.N
    = fun i : S2x1024x2048.Idx => V c main_arg2 (ix3 (i 0) (i 1) ⟨2560 + (i 2).val, Nat.add_lt_add_left (i 2).isLt 2560⟩) := by
  refine (dat0 V c).arrAt_eq_of_covers 2 _ (by decide +kernel) fun t hf y => ?_
  blk_simp
  rw [after0_2, out_gates]
  blk_simp [iblk0]
  blk_ext [same0_2, idx0]

/-- The gate's stack, cast. -/
theorem arr_gate (c : Dev nD) : (dat1 V c).arrAt 1 cfg1.N = fun i => V c main_arg0 i := by
  refine (dat1 V c).arrAt_eq_of_covers 1 _ (by decide +kernel) fun t hf y => ?_
  blk_simp
  rw [after1_1, out_gate]
  blk_simp [iblk1]
  blk_ext [same1]

/-- The down projection's stack, cast. -/
theorem arr_down (c : Dev nD) : (dat2 V c).arrAt 1 cfg2.N = fun i => V c main_arg1 i := by
  refine (dat2 V c).arrAt_eq_of_covers 1 _ (by decide +kernel) fun t hf y => ?_
  blk_simp
  rw [after2_1, out_down]
  blk_simp [iblk2]
  blk_ext [same2]

/-- The attention's output projection's stack, cast. -/
theorem arr_attn (c : Dev nD) : (dat3 V c).arrAt 1 cfg3.N = fun i => V c main_arg3 i := by
  refine (dat3 V c).arrAt_eq_of_covers 1 _ (by decide +kernel) fun t hf y => ?_
  blk_simp
  rw [after3_1, out_attn]
  blk_simp [iblk3]
  blk_ext [same3]

/-- The mixer's output projection's stack, cast. -/
theorem arr_mix (c : Dev nD) : (dat4 V c).arrAt 1 cfg4.N = fun i => V c main_arg4 i := by
  refine (dat4 V c).arrAt_eq_of_covers 1 _ (by decide +kernel) fun t hf y => ?_
  blk_simp
  rw [after4_1, out_mix]
  blk_simp [iblk4]
  blk_ext [same4]

end Cert.Kernel3Ideal.Cast
-- ==== Proof.CastRun.lean ====
/-
  The run of the five cast calls to its end, with every buffer outside the calls' scratch at the last boundary's contents.
-/
module

public import proofs.«01_k».proof.Proof.Gen.Kernel3Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Kernel3Ideal.Cast

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F] (m : (ℓ : Loc nD τ sig) → Buf (Elt F) ℓ) (ρ : Dev nD → PrngReg)

set_option backward.isDefEq.respectTransparency.types false in
/-- Every run ends, and ends with each buffer that lives outside the calls at `W5`. -/
theorem run : θ_run defs (onTc (τ := τ) (main (F := F))) ⟨m, fun _ => 0, ρ⟩ (fun r => ∀ c : Dev nD, ∀ b : Ref sig .tc,
    ¬ (Proc.devRef .tc b : DevRef τ sig).isScoped → r.2.mem ((c : Thread nD τ).loc b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c _ (mem_uc b hb))

end Cert.Kernel3Ideal.Cast
-- ==== Proof.CastClaim.lean ====
/-
  The cast calls' claims: the reference's frame, and the six result arrays equal to the reference's.
-/
module

public import proofs.«01_k».proof.Defs
public import proofs.«01_k».proof.Proof.CastArray
public import proofs.«01_k».proof.Proof.CastRun
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Kernel3Ideal.Cast

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg) (c : Dev nD)

/-- An argument array at launch. -/
abbrev arg (b : Ref sig .tc) := m ((c : Thread nD τ).loc b)

/-- A buffer that the last four calls don't write ends as the first left it. -/
theorem keep1 (r : Ref sig .tc) (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false) : W5 m ρ c r = W1 m ρ c r :=
  (W5_of m ρ c r h4).trans ((W4_of m ρ c r h3).trans ((W3_of m ρ c r h2).trans (W2_of m ρ c r h1)))

/-- The projection's columns, cast by the first call, at the end. -/
theorem result_proj : W5 m ρ c main_v0_0
    = fun i : S2x1024x2560.Idx => arg m c main_arg2 (ix3 (i 0) (i 1) ⟨(i 2).val, (i 2).isLt.trans (by decide)⟩) :=
  (keep1 m ρ c main_v0_0 (by decide) (by decide) (by decide) (by decide)).trans
    ((W1_arr m ρ c 1).trans (arr_proj (V0 m ρ) c))

/-- The gates' columns, cast by the first call, at the end. -/
theorem result_gates : W5 m ρ c main_v0_1
    = fun i : S2x1024x2048.Idx => arg m c main_arg2 (ix3 (i 0) (i 1) ⟨2560 + (i 2).val, Nat.add_lt_add_left (i 2).isLt 2560⟩) :=
  (keep1 m ρ c main_v0_1 (by decide) (by decide) (by decide) (by decide)).trans
    ((W1_arr m ρ c 2).trans (arr_gates (V0 m ρ) c))

/-- The gate's stack at the end. -/
theorem result_gate : W5 m ρ c main_v1 = fun i => arg m c main_arg0 i := by
  refine (W5_of m ρ c main_v1 (by decide)).trans ((W4_of m ρ c main_v1 (by decide)).trans ((W3_of m ρ c main_v1 (by decide)).trans
    ((W2_arr m ρ c 1).trans ((arr_gate (V1 m ρ) c).trans ?_))))
  rw [show V1 m ρ c main_arg0 = arg m c main_arg0 from W1_args m ρ c main_arg0 (by decide)]

/-- The down projection's stack at the end. -/
theorem result_down : W5 m ρ c main_v2 = fun i => arg m c main_arg1 i := by
  refine (W5_of m ρ c main_v2 (by decide)).trans ((W4_of m ρ c main_v2 (by decide)).trans
    ((W3_arr m ρ c 1).trans ((arr_down (V2 m ρ) c).trans ?_)))
  rw [show V2 m ρ c main_arg1 = arg m c main_arg1 from W2_args m ρ c main_arg1 (by decide)]

/-- The attention's output projection's stack at the end. -/
theorem result_attn : W5 m ρ c main_v3 = fun i => arg m c main_arg3 i := by
  refine (W5_of m ρ c main_v3 (by decide)).trans ((W4_arr m ρ c 1).trans ((arr_attn (V3 m ρ) c).trans ?_))
  rw [show V3 m ρ c main_arg3 = arg m c main_arg3 from W3_args m ρ c main_arg3 (by decide)]

/-- The mixer's output projection's stack at the end. -/
theorem result_mix : W5 m ρ c main_v4 = fun i => arg m c main_arg4 i := by
  refine (W5_arr m ρ c 1).trans ((arr_mix (V4 m ρ) c).trans ?_)
  rw [show V4 m ρ c main_arg4 = arg m c main_arg4 from W4_args m ρ c main_arg4 (by decide)]

end Cert.Kernel3Ideal.Cast

namespace Cert.Proof.Cast

open Idealize.ShloMosaic Idealize.ShloMosaic.TcCoe Idealize.SL.Sem
open Cert.Kernel3Ideal Cert.Kernel3Ideal.Gen Cert.Kernel3Ideal.Cast

/-- The reference is host operations: it runs to its end, its arguments unchanged, and it declares no semaphore. -/
theorem frame_reference : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

/-- Both programs end with the weights, or their columns. -/
theorem algebraic : Cert.algebraic_Kernel3Ideal_Reference3Ideal := by
  intro m ρ m' ρ' _ hagree
  refine ⟨fun c => W5 m ρ c main_v1, fun c => W5 m ρ c main_v2, fun c => W5 m ρ c main_v0_0, fun c => W5 m ρ c main_v0_1,
    fun c => W5 m ρ c main_v3, fun c => W5 m ρ c main_v4,
    (θ_run Cert.Kernel3Ideal.defs _ _).mono (fun r h c => ⟨h c main_v1 (by decide), h c main_v2 (by decide),
      h c main_v0_0 (by decide), h c main_v0_1 (by decide), h c main_v3 (by decide), h c main_v4 (by decide),
      (h c main_arg0 (by decide)).trans (W5_main_arg0 m ρ c), (h c main_arg1 (by decide)).trans (W5_main_arg1 m ρ c),
      (h c main_arg2 (by decide)).trans (W5_main_arg2 m ρ c), (h c main_arg3 (by decide)).trans (W5_main_arg3 m ρ c),
      (h c main_arg4 (by decide)).trans (W5_main_arg4 m ρ c)⟩) (Cert.Kernel3Ideal.Cast.run m ρ),
    (θ_run Cert.Reference3Ideal.defs _ _).mono (fun r h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
      (Cert.Reference3Ideal.Value.run (F := Ideal) m' ρ')⟩
  all_goals obtain ⟨a0, a1, a2, a3, a4⟩ := hagree c
  · rw [a0]
    exact (result_gate m ρ c).symm
  · rw [a1]
    exact (result_down m ρ c).symm
  · rw [a2]
    refine Eq.trans (funext fun i => ?_) (result_proj m ρ c).symm
    pointwise
  · rw [a2]
    refine Eq.trans (funext fun i => ?_) (result_gates m ρ c).symm
    pointwise
  · rw [a3]
    exact (result_attn m ρ c).symm
  · rw [a4]
    exact (result_mix m ρ c).symm

end Cert.Proof.Cast

end
-- ==== Proof.FirstProjBlock.lean ====
/-
  The projection's call of the first layer's program: its four blocks of a point, row by row.
-/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WordCmp
public import proofs.«01_k».proof.Proof.ProjBlock

@[expose] public section

set_option maxRecDepth 16384

noncomputable section

namespace Cert.Kernel4Ideal.Block

open Idealize.ShloMosaic Idealize.ShloMosaic.TcCoe Idealize.SL.Sem
open Cert.Kernel4Ideal Cert.Kernel4Ideal.Gen Cert.Layer
open Cert.KernelIdeal.Block (col)

variable (i : grid0.Coords) (x0 : Vec Ideal S1040x1024 .f32) (x1 : Vec Ideal S1x1024 .f32) (x2 : Vec Ideal S1x1024x2560 .bf16)
  (y : S1040x512.Idx)

/-- The queries' block: the first 512 columns, times `-1/8`. -/
theorem q_apply : out0_3 i x0 x1 x2 y = col x0 x1 x2 (y 0) ⟨(y 1).val, by have := (y 1).isLt; change _ < 512 at this; omega⟩ * negEighth := by
  frame_out
  pointwise [k0_pay3, k0_pay2]
  rfl

/-- The keys' block: the next 512 columns. -/
theorem k_apply : out0_4 i x0 x1 x2 y = col x0 x1 x2 (y 0) ⟨512 + (y 1).val, by have := (y 1).isLt; change _ < 512 at this; omega⟩ := by
  frame_out
  pointwise [k0_pay4, k0_pay2]
  rfl

/-- The values' block: the next 512 columns. -/
theorem v_apply : out0_5 i x0 x1 x2 y = col x0 x1 x2 (y 0) ⟨1024 + (y 1).val, by have := (y 1).isLt; change _ < 512 at this; omega⟩ := by
  frame_out
  pointwise [k0_pay5, k0_pay2]
  rfl

/-- The gated block: columns 1536 to 2047 times the logistic of columns 2048 to 2559, and zero on the rows of the batch before
    row 112. -/
theorem u_apply : out0_6 i x0 x1 x2 y = if 112 ≤ (i 1).val * 1040 + (y 0).val then
    col x0 x1 x2 (y 0) ⟨1536 + (y 1).val, by have := (y 1).isLt; change _ < 512 at this; omega⟩
      * Ideal.div 1 (1 + Ideal.exp (-(col x0 x1 x2 (y 0) ⟨2048 + (y 1).val, by have := (y 1).isLt; change _ < 512 at this; omega⟩)))
    else 0 := by
  frame_out
  pointwise [k0_pay1, k0_pay2]
  have h1 : (i 1).val < 8 := (i 1).isLt
  have h0 : (y 0).val < 1040 := (y 0).isLt
  rw [show IntOp.cmpi .sge (IntOp.addi (Scalar.muli (BitVec.ofNat 32 (i 1).val) 1040#32) (BitVec.ofNat 32 (y 0).val)) 112#32
      = if 112 ≤ (i 1).val * 1040 + (y 0).val then 1#1 else 0#1 from
    WordCmp.cmpi_sge_mul_add_ofNat (w := 32) _ _ _ _ (by omega) (by omega)]
  split
  · simp only [zero_sub]
    rfl
  · rfl

end Cert.Kernel4Ideal.Block
-- ==== Proof.FirstProjArray.lean ====
/-
  The four arrays the first layer's projection call leaves: queries, keys, values, and the convolution's input.
-/
module

public import proofs.«01_k».proof.Proof.FirstProjBlock
public import Idealize.ShloMosaic.Lib.Claim

@[expose] public section

set_option maxRecDepth 16384

noncomputable section

namespace Cert.Kernel4Ideal.ProjArray

open Idealize.ShloMosaic Idealize.ShloMosaic.TcCoe Idealize.SL.Sem
open Cert.Kernel4Ideal Cert.Kernel4Ideal.Gen Cert.Layer

variable (V : (c : Dev nD) → (b : Ref sig .tc) → Buf (Elt Ideal) ((c : Thread nD τ).loc b))

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, 0] :=
  (by decide +kernel : ∀ t : Fin grid0.N, win0_2.index t = ![0, 0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])

/-- The second grid coordinate of point `t` is the tile's number within its batch. -/
theorem coord : ∀ t : Fin cfg0.N, ((grid0.coords t) 1).val = t.val % 8 :=
  (by decide +kernel : ∀ t : Fin grid0.N, ((grid0.coords t) 1).val = t.val % 8)

/-- Row `r` of tile `t` is row `1040 t + r` of the array. -/
theorem blk0 (c : Dev nD) (t : Fin cfg0.N) (r : Fin 1040) (k : Fin 1024) (i : S33280x1024.Idx)
    (h0 : (i 0).val = t.val * 1040 + r.val) (h1 : (i 1).val = k.val) : iblk0 V c 0 t (ix2 r k) = V c main_arg0 i := by
  blk_simp [iblk0, idx0]
  blk_ext [idx0, h0, h1]

theorem blk1 (c : Dev nD) (t : Fin cfg0.N) (k : Fin 1024) :
    iblk0 V c 1 t (ix2 0 k) = V c main_v12 (ix2 0 k) := by
  blk_simp [iblk0, idx1]
  blk_ext [idx1]

theorem blk2 (c : Dev nD) (t : Fin cfg0.N) (k : Fin 1024) (n : Fin 2560) :
    iblk0 V c 2 t (ix3 0 k n) = V c main_v4 (ix3 0 k n) := by
  blk_simp [iblk0, idx2]
  blk_ext [idx2]

/-- The 512 columns of the projection's matrix from column `j` on. -/
def cols (c : Dev nD) (j : ℕ) (h : j + 512 ≤ 2560) : Fin 1024 → Fin 512 → EReal := fun k n => V c main_v4 (ix3 0 k ⟨j + n.val, by omega⟩)

/-- A column of a tile's projection is the column of the array's projection at the row the tile's row is. -/
theorem col_eq (c : Dev nD) (t : Fin cfg0.N) (r : Fin 1040) (i : Fin 33280) (n : Fin 512) (j : ℕ) (h : j + 512 ≤ 2560)
    (h0 : i.val = t.val * 1040 + r.val) :
    KernelIdeal.Block.col (iblk0 V c 0 t) (iblk0 V c 1 t) (iblk0 V c 2 t) r ⟨j + n.val, by omega⟩
      = proj (V c main_arg0) (fun k => V c main_v12 (ix2 0 k)) (cols V c j h) i n := by
  have hx : ∀ k, iblk0 V c 0 t (ix2 r k) = V c main_arg0 (ix2 i k) := fun k => blk0 V c t r k _ h0 rfl
  unfold KernelIdeal.Block.col proj cols
  simp only [hx, blk1, blk2]

/-- The queries' array. -/
theorem arr3 (c : Dev nD) : (dat0 V c).arrAt 3 cfg0.N
    = queries (V c main_arg0) (fun k => V c main_v12 (ix2 0 k)) (cols V c 0 (by decide)) := by
  refine (dat0 V c).arrAt_eq_of_covers 3 _ (by decide +kernel) fun t hf y => ?_
  blk_simp
  rw [after0_3, Block.q_apply]
  have e0 : (((win0_3.blk t).view.emb y) 0).val = t.val * 1040 + (y 0).val := by blk_simp [idx3]
  have e1 : ((win0_3.blk t).view.emb y) 1 = y 1 := Fin.ext (by blk_simp [idx3])
  unfold queries
  rw [e1, ← col_eq V c t (y 0) _ (y 1) 0 (by decide) e0]
  simp only [Nat.zero_add]

/-- The keys' array. -/
theorem arr4 (c : Dev nD) : (dat0 V c).arrAt 4 cfg0.N
    = keys (V c main_arg0) (fun k => V c main_v12 (ix2 0 k)) (cols V c 512 (by decide)) := by
  refine (dat0 V c).arrAt_eq_of_covers 4 _ (by decide +kernel) fun t hf y => ?_
  blk_simp
  rw [after0_4, Block.k_apply]
  have e0 : (((win0_4.blk t).view.emb y) 0).val = t.val * 1040 + (y 0).val := by blk_simp [idx4]
  have e1 : ((win0_4.blk t).view.emb y) 1 = y 1 := Fin.ext (by blk_simp [idx4])
  unfold keys
  rw [e1, ← col_eq V c t (y 0) _ (y 1) 512 (by decide) e0]

/-- The values' array. -/
theorem arr5 (c : Dev nD) : (dat0 V c).arrAt 5 cfg0.N
    = keys (V c main_arg0) (fun k => V c main_v12 (ix2 0 k)) (cols V c 1024 (by decide)) := by
  refine (dat0 V c).arrAt_eq_of_covers 5 _ (by decide +kernel) fun t hf y => ?_
  blk_simp
  rw [after0_5, Block.v_apply]
  have e0 : (((win0_5.blk t).view.emb y) 0).val = t.val * 1040 + (y 0).val := by blk_simp [idx5]
  have e1 : ((win0_5.blk t).view.emb y) 1 = y 1 := Fin.ext (by blk_simp [idx5])
  unfold keys
  rw [e1, ← col_eq V c t (y 0) _ (y 1) 1024 (by decide) e0]

/-- The convolution's input. -/
theorem arr6 (c : Dev nD) : (dat0 V c).arrAt 6 cfg0.N = convIn (V c main_arg0) (fun k => V c main_v12 (ix2 0 k))
    (cols V c 1536 (by decide)) (cols V c 2048 (by decide)) := by
  refine (dat0 V c).arrAt_eq_of_covers 6 _ (by decide +kernel) fun t hf y => ?_
  blk_simp
  rw [after0_6, Block.u_apply, coord]
  have hy : (y 0).val < 1040 := (y 0).isLt
  have e0 : (((win0_6.blk t).view.emb y) 0).val = t.val * 1040 + (y 0).val := by blk_simp [idx6]
  have e1 : ((win0_6.blk t).view.emb y) 1 = y 1 := Fin.ext (by blk_simp [idx6])
  unfold convIn
  rw [e1, ← col_eq V c t (y 0) _ (y 1) 1536 (by decide) e0, ← col_eq V c t (y 0) _ (y 1) 2048 (by decide) e0, e0,
    show (t.val * 1040 + (y 0).val) % 8320 = t.val % 8 * 1040 + (y 0).val by omega]
  rfl

end Cert.Kernel4Ideal.ProjArray
-- ==== Proof.FirstMixBlock.lean ====
/-
  The mixer's call of the first layer's program: its block of a point, row by row.
-/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.MixBlock

@[expose] public section

set_option maxRecDepth 16384

noncomputable section

namespace Cert.Kernel4Ideal.Block

open Idealize.ShloMosaic Idealize.ShloMosaic.TcCoe Idealize.SL.Sem
open Cert.Kernel4Ideal Cert.Kernel4Ideal.Gen Cert.Layer
open Cert.KernelIdeal.Block (win win_congr win_old win_new winArr shiftArr convArr convArr_emb convArr_ld mixArr mixArr_at reads)

set_option maxHeartbeats 8000000 in
/-- What a point of the first layer's mixer call leaves in its block, as a function of the point's input blocks. -/
theorem outs1_apply (V : (c : Dev nD) → (b : Ref sig .tc) → Buf (Elt Ideal) ((c : Thread nD τ).loc b)) (c : Dev nD)
    (t : Fin cfg1.N) (x0 : Vec Ideal S640x1024 .f32) (x1 : Vec Ideal S1x1024 .f32) (x2 : Vec Ideal S1x1024x2048 .bf16)
    (x3 : Vec Ideal S640x512 .bf16) (x4 : Vec Ideal S640x512 .f32) (x5 : Vec Ideal S32x512 .f32) (x6 : Vec Ideal S31x8x512 .f32)
    (x7 x8 x9 : Vec Ideal S1x512 .f32) (x10 x11 : Vec Ideal S1x512x1024 .bf16) (x12 : Vec Ideal S1x1024x1024 .bf16)
    (w : ℕ → Fin 512 → EReal) (hw6 : ∀ k s ch, x6 (ix3 k s ch) = w k.val ch)
    (h0 : iblk1 V c 0 t = x0) (h1 : iblk1 V c 1 t = x1)
    (h2 : iblk1 V c 2 t = x2) (h3 : iblk1 V c 3 t = x3) (h4 : iblk1 V c 4 t = x4) (h5 : iblk1 V c 5 t = x5)
    (h6 : iblk1 V c 6 t = x6) (h7 : iblk1 V c 7 t = x7) (h8 : iblk1 V c 8 t = x8) (h9 : iblk1 V c 9 t = x9)
    (h10 : iblk1 V c 10 t = x10) (h11 : iblk1 V c 11 t = x11) (h12 : iblk1 V c 12 t = x12) (y : S640x1024.Idx) :
    outsAt1 V c t y = mixArr x0 x1 x2 x3 (fun n => convRow (taps (fun ch => x7 (ix2 0 ch)) w (fun n => win x4 x5 (n + 2)) n 31)
      (fun ch => x8 (ix2 0 ch)) (fun ch => x9 (ix2 0 ch))) x10 x11 x12 y := by
  unfold outsAt1
  rw [h0, h1, h2, h3, h4, h5, h6, h7, h8, h9, h10, h11, h12]
  frame_open
  rw [View.read_writes_junk_eq_canon]
  generalize hs : View.readCov (Val := Elt Ideal) scM1_1.view _ = sh
  have hw : ∀ (B : LoadRect S8x83x8x512) (j : B.shape.Idx), (B.idx j 0).val < 7 ∨ (B.idx j 1).val < 82 →
      sh B j = shiftArr x4 x5 (B.idx j) := by
    intro B j hj
    rw [← hs]
    clear hs
    generalize hu : View.readCov (Val := Elt Ideal) scM1_0.view _ = u
    have hv : ∀ (B : LoadRect S672x512) (j : B.shape.Idx), u B j = winArr x4 x5 (B.idx j) := by
      intro B j
      rw [← hu, View.readCov_eq_canon']
      refine View.canon_apply_of_pieces (winArr x4 x5) _ (View.PiecesOf.mem ?_) _ ?_
      · refine ⟨fun x => ?_, fun x => ?_, trivial⟩
        all_goals simp (disch := decide) only [View.readAt_eq_ld, View.ld_unit_lit', Memref.IsWhole.read_unread]
        all_goals pointwise [k1_pay3, k1_pay2]
        · refine Eq.trans ?_ (win_congr (n := 32 + (x 0).val) (ch := x 1) ?_ ?_)
          · exact (congrArg x4 (eq_ix2 x)).trans (win_new x4 x5 (x 0).isLt (x 1)).symm
          · blk_simp
          · blk_simp
        · refine Eq.trans ?_ (win_congr (n := (x 0).val) (ch := x 1) ?_ ?_)
          · exact (congrArg x5 (eq_ix2 x)).trans (win_old x4 x5 (x 0).isLt (x 1)).symm
          · blk_simp
          · blk_simp
      · have h0 : (B.idx j 0).val < 672 := (B.idx j 0).isLt
        have h1 : (B.idx j 1).val < 512 := (B.idx j 1).isLt
        simp only [List.exists_mem_cons_iff, Rect.mem_set_unit]
        generalize B.idx j = z at *
        simp [Fin.forall_fin_succ]
        omega
    clear hu
    rw [View.readCov_eq_canon']
    refine View.canon_apply_of_pieces (shiftArr x4 x5) _ (View.PiecesOf.mem ?_) _ ?_
    · refine ⟨fun x => ?_, fun x => ?_, fun x => ?_, fun x => ?_,
        fun x => ?_, fun x => ?_, fun x => ?_, fun x => ?_, trivial⟩
      all_goals
        have hx : (x 0).val < 1 := (x 0).isLt
        pointwise [k1_pay4, k1_pay5, k1_pay6, k1_pay7, k1_pay8, k1_pay9, k1_pay10, k1_pay11]
        refine (hv _ _).trans (win_congr ?_ ?_)
        · refine (Rect.idx_unit_val _ _ _ _ _).trans ?_
          blk_simp
          dsimp only
          omega
        · refine (Rect.idx_unit_val _ _ _ _ _).trans ?_
          blk_simp
    have h0 : (B.idx j 0).val < 8 := (B.idx j 0).isLt
    have h1 : (B.idx j 1).val < 83 := (B.idx j 1).isLt
    have h2 : (B.idx j 2).val < 8 := (B.idx j 2).isLt
    have h3 : (B.idx j 3).val < 512 := (B.idx j 3).isLt
    simp only [List.exists_mem_cons_iff, Rect.mem_set_unit]
    generalize B.idx j = z at *
    simp [Fin.forall_fin_succ]
    omega
  clear hs
  have hsh : ∀ (r g : ℕ) (inb) (n : ℕ) (hn : n / 8 < 4) (hn' : n % 8 < 8) (ch : Fin 512), r < 7 ∨ g < 79 →
      sh (Rect.unit (s := S8x83x8x512) ![r, g, 0, 0] ![1, 4, 8, 512] inb).toLoadRect (ix4 0 ⟨n / 8, hn⟩ ⟨n % 8, hn'⟩ ch)
        = win x4 x5 (n + (8 * g + r) + 2) ch := by
    intro r g inb n hn hn' ch h
    refine (hw _ _ ?_).trans (win_congr ?_ ?_)
    · show r + 1 * 0 < 7 ∨ g + 1 * (n / 8) < 82
      omega
    · show 2 + (r + 1 * 0) + (8 * (g + 1 * (n / 8)) + (0 + 1 * (n % 8))) = _
      omega
    · show 0 + 1 * ch.val = ch.val
      omega
  simp (disch := decide) only [View.readAt_eq_ld, View.ld_unit_lit', Memref.IsWhole.read_unread]
  generalize hc : View.readCov (Val := Elt Ideal) scM1_2.view _ = cv
  generalize hd : View.readCov (Val := Elt Ideal) scM1_2.view _ = cw
  obtain ⟨hcv, hcw⟩ : (∀ B j, cv B j = convArr x4 x5 w x7 x8 x9 (B.idx j)) ∧
      ∀ B j, (B.idx j 0).val < 320 → cw B j = convArr x4 x5 w x7 x8 x9 (B.idx j) := by
    refine reads hc hd _ ?_ (fun hq => ?_) ?_ ?_
    on_goal 4 =>
      intro y hy
      have h1 : (y 1).val < 512 := (y 1).isLt
      simp only [List.exists_mem_cons_iff, Rect.mem_set_unit]
      simp [Fin.forall_fin_succ]
      omega
    on_goal 3 =>
      intro y
      have h0 : (y 0).val < 640 := (y 0).isLt
      have h1 : (y 1).val < 512 := (y 1).isLt
      simp only [List.exists_mem_cons_iff, Rect.mem_set_unit]
      simp [Fin.forall_fin_succ]
      omega
    on_goal 2 => refine ⟨fun x => ?_, fun x => ?_, fun x => ?_, fun x => ?_, fun x => ?_, fun x => ?_, fun x => ?_, fun x => ?_,
      fun x => ?_, fun x => ?_, hq⟩
    on_goal 1 => refine ⟨fun x => ?_, fun x => ?_, fun x => ?_, fun x => ?_, fun x => ?_, fun x => ?_, fun x => ?_, fun x => ?_,
      fun x => ?_, fun x => ?_, trivial⟩
    all_goals
      clear hc hd
      obtain ⟨a, b, rfl⟩ : ∃ (a : Fin 32) (b : Fin 512), x = ix2 a b := ⟨x 0, x 1, eq_ix2 x⟩
      pointwise [
        k1_pay12, k1_pay13, k1_pay14, k1_pay15, k1_pay16, k1_pay17, k1_pay18, k1_pay19, k1_pay20, k1_pay21, k1_pay22,
        k1_pay23, k1_pay24, k1_pay25, k1_pay26, k1_pay27, k1_pay28, k1_pay29, k1_pay30, k1_pay31, k1_pay32, k1_pay33,
        k1_pay34, k1_pay35, k1_pay36, k1_pay37, k1_pay38, k1_pay39, k1_pay40, k1_pay41, k1_pay42, k1_pay43, k1_pay44,
        k1_pay45, k1_pay46, k1_pay47, k1_pay48, k1_pay49, k1_pay50, k1_pay51, k1_pay52, k1_pay53, k1_pay54, k1_pay55,
        k1_pay56, k1_pay57, k1_pay58, k1_pay59, k1_pay60, k1_pay61, k1_pay62, k1_pay63, k1_pay64, k1_pay65, k1_pay66,
        k1_pay67, k1_pay68, k1_pay69, k1_pay70, k1_pay71, k1_pay72, k1_pay73, k1_pay74, k1_pay75, k1_pay76, k1_pay77,
        k1_pay78, k1_pay79, k1_pay80, k1_pay81, k1_pay82, k1_pay83, k1_pay84, k1_pay85, k1_pay86, k1_pay87, k1_pay88,
        k1_pay89, k1_pay90, k1_pay91, k1_pay92, k1_pay93, k1_pay94, k1_pay95, k1_pay96, k1_pay97, k1_pay98, k1_pay99,
        k1_pay100, k1_pay101, k1_pay102, k1_pay103, k1_pay104, k1_pay105, k1_pay106, k1_pay107, k1_pay108, k1_pay109,
        k1_pay110, k1_pay111, k1_pay112, k1_pay113, k1_pay114, k1_pay115, k1_pay116, k1_pay117, k1_pay118, k1_pay119,
        k1_pay120, k1_pay121, k1_pay122, k1_pay123, k1_pay124, k1_pay125, k1_pay126, k1_pay127, k1_pay128, k1_pay129,
        k1_pay130, k1_pay131, k1_pay132, k1_pay133, k1_pay134, k1_pay135, k1_pay136, k1_pay137, k1_pay138, k1_pay139,
        k1_pay140, k1_pay141, k1_pay142, k1_pay143, k1_pay144, k1_pay145, k1_pay146, k1_pay147, k1_pay148, k1_pay149,
        k1_pay150, k1_pay151, k1_pay152, k1_pay153, k1_pay154, k1_pay155, k1_pay156, k1_pay157, k1_pay158, k1_pay159,
        k1_pay160, k1_pay161, k1_pay162, k1_pay163, k1_pay164, k1_pay165, k1_pay166, k1_pay167, k1_pay168, k1_pay169,
        k1_pay170, k1_pay171, k1_pay172, k1_pay173, k1_pay174, k1_pay175, k1_pay176, k1_pay177, k1_pay178, k1_pay179,
        k1_pay180, k1_pay181, k1_pay182, k1_pay183, k1_pay184, k1_pay185, k1_pay186, k1_pay187, k1_pay188, k1_pay194,
        k1_pay195, k1_pay196, k1_pay197, k1_pay198, k1_pay199, k1_pay200, k1_pay201, k1_pay202, k1_pay203, k1_pay204,
        k1_pay205, k1_pay206, k1_pay207, k1_pay208, k1_pay209, k1_pay210, k1_pay211, k1_pay212, k1_pay213, k1_pay214,
        k1_pay215, k1_pay216, k1_pay217, k1_pay218, k1_pay219, k1_pay220, k1_pay221, k1_pay222, k1_pay223, k1_pay224,
        k1_pay225, k1_pay226, k1_pay227, k1_pay228, k1_pay229, k1_pay230, k1_pay231, k1_pay232, k1_pay233, k1_pay234,
        k1_pay235, k1_pay236, k1_pay237, k1_pay238, k1_pay239, k1_pay240, k1_pay241, k1_pay242, k1_pay243, k1_pay244,
        k1_pay245, k1_pay246, k1_pay247, k1_pay248, k1_pay249, k1_pay250, k1_pay251, k1_pay252, k1_pay253, k1_pay254,
        k1_pay255, k1_pay256, k1_pay257, k1_pay258, k1_pay259, k1_pay260, k1_pay261, k1_pay262, k1_pay263, k1_pay264,
        k1_pay265, k1_pay266, k1_pay267, k1_pay268, k1_pay269, k1_pay270, k1_pay271, k1_pay272, k1_pay273, k1_pay274,
        k1_pay275, k1_pay276, k1_pay277, k1_pay278, k1_pay279, k1_pay280, k1_pay281, k1_pay282, k1_pay283, k1_pay284,
        k1_pay285, k1_pay286, k1_pay287, k1_pay288, k1_pay289, k1_pay290, k1_pay291, k1_pay292, k1_pay293, k1_pay294,
        k1_pay295, k1_pay296, k1_pay297, k1_pay298, k1_pay299, k1_pay300, k1_pay301, k1_pay302, k1_pay303, k1_pay304,
        k1_pay305, k1_pay306, k1_pay307, k1_pay308, k1_pay309, k1_pay310, k1_pay311, k1_pay312, k1_pay313, k1_pay314,
        k1_pay315, k1_pay316, k1_pay317, k1_pay318, k1_pay319, k1_pay320, k1_pay321, k1_pay322, k1_pay323, k1_pay324,
        k1_pay325, k1_pay326, k1_pay327, k1_pay328, k1_pay329, k1_pay330, k1_pay331, k1_pay332, k1_pay333, k1_pay334,
        k1_pay335, k1_pay336, k1_pay337, k1_pay338, k1_pay339, k1_pay340, k1_pay341, k1_pay342, k1_pay343, k1_pay344,
        k1_pay345, k1_pay346, k1_pay347, k1_pay348, k1_pay349, k1_pay350, k1_pay351, k1_pay352, k1_pay353, k1_pay354,
        k1_pay355]
      refine Eq.trans ?_ (convArr_emb ..).symm
      simp (disch := decide) only [hsh, hw6, zero_sub, convRow, silu, layerNorm, centred, taps, Nat.add_assoc, Nat.reduceMul,
        Nat.reduceAdd]
      rfl
  clear hc hd
  have hcv' (a : Fin 320) (b : Fin 512) :
      cv (Rect.unit (s := S640x512) ![320, 0] ![320, 512] inb_S640x512_S320x512_320_0).toLoadRect (ix2 a b)
        = convRow (taps (fun ch => x7 (ix2 0 ch)) w (fun n => win x4 x5 (n + 2)) (320 + a.val) 31) (fun ch => x8 (ix2 0 ch))
          (fun ch => x9 (ix2 0 ch)) b := (hcv _ _).trans (convArr_ld ..)
  have hcw' (a : Fin 320) (b : Fin 512) :
      cw (Rect.unit (s := S640x512) ![0, 0] ![320, 512] inb_S640x512_S320x512_0_0).toLoadRect (ix2 a b)
        = convRow (taps (fun ch => x7 (ix2 0 ch)) w (fun n => win x4 x5 (n + 2)) a.val 31) (fun ch => x8 (ix2 0 ch))
          (fun ch => x9 (ix2 0 ch)) b := by
    refine (hcw _ _ ?_).trans ((convArr_ld ..).trans (by rw [Nat.zero_add]))
    show 0 + 1 * a.val < 320
    omega
  canon_tiles x h
  all_goals
    obtain ⟨a, b, rfl⟩ : ∃ (a : Fin 320) (b : Fin 1024), x = ix2 a b := ⟨x 0, x 1, eq_ix2 x⟩
    refine Eq.trans ?_ (mixArr_at _ _ _ _ _ _ _ _ y _ _ h0 h1).symm
    pointwise [k1_pay1, k1_pay189, k1_pay190, k1_pay191, k1_pay192, k1_pay193, k1_pay356, k1_pay357, k1_pay358, k1_pay359,
      k1_pay360, k1_pay361]
  · simp only [hcv', zero_sub]
    rfl
  · simp only [hcw', zero_sub]
    rfl

end Cert.Kernel4Ideal.Block
-- ==== Proof.FirstMixArray.lean ====
/-
  The array the first layer's mixer call leaves: tile `t` holds rows `640 t` on; its convolution reads 30 rows back, which lie in the
  32 rows before the tile, or, for the first tile, in the array's first rows.
-/
module

public import proofs.«01_k».proof.Proof.FirstMixBlock
public import Idealize.ShloMosaic.Lib.Claim

@[expose] public section

set_option maxRecDepth 16384

noncomputable section

namespace Cert.Kernel4Ideal.MixArray

open Idealize.ShloMosaic Idealize.ShloMosaic.TcCoe Idealize.SL.Sem
open Cert.Kernel4Ideal Cert.Kernel4Ideal.Gen Cert.Layer

variable (V : (c : Dev nD) → (b : Ref sig .tc) → Buf (Elt Ideal) ((c : Thread nD τ).loc b))

theorem idx0 : ∀ t : Fin cfg1.N, win1_0.index t = ![t.val, 0] :=
  (by decide +kernel : ∀ t : Fin grid1.N, win1_0.index t = ![t.val, 0])
theorem idx1 : ∀ t : Fin cfg1.N, win1_1.index t = ![0, 0] :=
  (by decide +kernel : ∀ t : Fin grid1.N, win1_1.index t = ![0, 0])
theorem idx2 : ∀ t : Fin cfg1.N, win1_2.index t = ![0, 0, 0] :=
  (by decide +kernel : ∀ t : Fin grid1.N, win1_2.index t = ![0, 0, 0])
theorem idx3 : ∀ t : Fin cfg1.N, win1_3.index t = ![t.val, 0] :=
  (by decide +kernel : ∀ t : Fin grid1.N, win1_3.index t = ![t.val, 0])
theorem idx4 : ∀ t : Fin cfg1.N, win1_4.index t = ![t.val, 0] :=
  (by decide +kernel : ∀ t : Fin grid1.N, win1_4.index t = ![t.val, 0])
theorem idx5 : ∀ t : Fin cfg1.N, win1_5.index t = ![t.val * 20 - 1, 0] :=
  (by decide +kernel : ∀ t : Fin grid1.N, win1_5.index t = ![t.val * 20 - 1, 0])
theorem idx6 : ∀ t : Fin cfg1.N, win1_6.index t = ![0, 0, 0] :=
  (by decide +kernel : ∀ t : Fin grid1.N, win1_6.index t = ![0, 0, 0])
theorem idx7 : ∀ t : Fin cfg1.N, win1_7.index t = ![0, 0] :=
  (by decide +kernel : ∀ t : Fin grid1.N, win1_7.index t = ![0, 0])
theorem idx8 : ∀ t : Fin cfg1.N, win1_8.index t = ![0, 0] :=
  (by decide +kernel : ∀ t : Fin grid1.N, win1_8.index t = ![0, 0])
theorem idx9 : ∀ t : Fin cfg1.N, win1_9.index t = ![0, 0] :=
  (by decide +kernel : ∀ t : Fin grid1.N, win1_9.index t = ![0, 0])
theorem idx10 : ∀ t : Fin cfg1.N, win1_10.index t = ![0, 0, 0] :=
  (by decide +kernel : ∀ t : Fin grid1.N, win1_10.index t = ![0, 0, 0])
theorem idx11 : ∀ t : Fin cfg1.N, win1_11.index t = ![0, 0, 0] :=
  (by decide +kernel : ∀ t : Fin grid1.N, win1_11.index t = ![0, 0, 0])
theorem idx12 : ∀ t : Fin cfg1.N, win1_12.index t = ![0, 0, 0] :=
  (by decide +kernel : ∀ t : Fin grid1.N, win1_12.index t = ![0, 0, 0])
theorem idx13 : ∀ t : Fin cfg1.N, win1_13.index t = ![t.val, 0] :=
  (by decide +kernel : ∀ t : Fin grid1.N, win1_13.index t = ![t.val, 0])

theorem blk0 (c : Dev nD) (t : Fin cfg1.N) (r : Fin 640) (k : Fin 1024) (i : S33280x1024.Idx)
    (h0 : (i 0).val = t.val * 640 + r.val) (h1 : (i 1).val = k.val) : iblk1 V c 0 t (ix2 r k) = V c main_arg0 i := by
  blk_simp [iblk1, idx0]
  blk_ext [idx0, h0, h1]

theorem blk3 (c : Dev nD) (t : Fin cfg1.N) (r : Fin 640) (k : Fin 512) (i : S33280x512.Idx)
    (h0 : (i 0).val = t.val * 640 + r.val) (h1 : (i 1).val = k.val) : iblk1 V c 3 t (ix2 r k) = V c main_arg1 i := by
  blk_simp [iblk1, idx3]
  blk_ext [idx3, h0, h1]

theorem blk4 (c : Dev nD) (t : Fin cfg1.N) (r : Fin 640) (k : Fin 512) (i : S33280x512.Idx)
    (h0 : (i 0).val = t.val * 640 + r.val) (h1 : (i 1).val = k.val) : iblk1 V c 4 t (ix2 r k) = V c main_v13_3 i := by
  blk_simp [iblk1, idx4]
  blk_ext [idx4, h0, h1]

/-- The 32 rows before the tile; before the first tile the array's first 32 rows. -/
theorem blk5 (c : Dev nD) (t : Fin cfg1.N) (r : Fin 32) (k : Fin 512) (i : S33280x512.Idx)
    (h0 : (i 0).val = (t.val * 20 - 1) * 32 + r.val) (h1 : (i 1).val = k.val) : iblk1 V c 5 t (ix2 r k) = V c main_v13_3 i := by
  blk_simp [iblk1, idx5]
  blk_ext [idx5, h0, h1]

theorem blk1 (c : Dev nD) (t : Fin cfg1.N) (k : Fin 1024) :
    iblk1 V c 1 t (ix2 0 k) = V c main_v16 (ix2 0 k) := by
  blk_simp [iblk1, idx1]
  blk_ext [idx1]

theorem blk2 (c : Dev nD) (t : Fin cfg1.N) (k : Fin 1024) (n : Fin 2048) :
    iblk1 V c 2 t (ix3 0 k n) = V c main_v6 (ix3 0 k n) := by
  blk_simp [iblk1, idx2]
  blk_ext [idx2]

theorem blk6 (c : Dev nD) (t : Fin cfg1.N) (k : Fin 31) (s : Fin 8) (ch : Fin 512) :
    iblk1 V c 6 t (ix3 k s ch) = V c main_v20 (ix3 k s ch) := by
  blk_simp [iblk1, idx6]
  blk_ext [idx6]

theorem blk7 (c : Dev nD) (t : Fin cfg1.N) (ch : Fin 512) :
    iblk1 V c 7 t (ix2 0 ch) = V c main_v23 (ix2 0 ch) := by
  blk_simp [iblk1, idx7]
  blk_ext [idx7]

theorem blk8 (c : Dev nD) (t : Fin cfg1.N) (ch : Fin 512) :
    iblk1 V c 8 t (ix2 0 ch) = V c main_v26 (ix2 0 ch) := by
  blk_simp [iblk1, idx8]
  blk_ext [idx8]

theorem blk9 (c : Dev nD) (t : Fin cfg1.N) (ch : Fin 512) :
    iblk1 V c 9 t (ix2 0 ch) = V c main_v29 (ix2 0 ch) := by
  blk_simp [iblk1, idx9]
  blk_ext [idx9]

theorem blk10 (c : Dev nD) (t : Fin cfg1.N) (i : Fin 512) (k : Fin 1024) :
    iblk1 V c 10 t (ix3 0 i k) = V c main_v7 (ix3 0 i k) := by
  blk_simp [iblk1, idx10]
  blk_ext [idx10]

theorem blk11 (c : Dev nD) (t : Fin cfg1.N) (i : Fin 512) (k : Fin 1024) :
    iblk1 V c 11 t (ix3 0 i k) = V c main_v8 (ix3 0 i k) := by
  blk_simp [iblk1, idx11]
  blk_ext [idx11]

theorem blk12 (c : Dev nD) (t : Fin cfg1.N) (i : Fin 1024) (k : Fin 1024) :
    iblk1 V c 12 t (ix3 0 i k) = V c main_v9 (ix3 0 i k) := by
  blk_simp [iblk1, idx12]
  blk_ext [idx12]

/-- The tile's window at row `r` and tap `k` is the array's row that tap reads. -/
theorem window (c : Dev nD) (t : Fin cfg1.N) (r : Fin 640) (k : ℕ) (hk : k < 31) :
    KernelIdeal.Block.win (iblk1 V c 4 t) (iblk1 V c 5 t) (r.val + k + 2) = rowOf (V c main_v13_3) (source (t.val * 640 + r.val + k)) := by
  have ht : t.val < 52 := t.isLt
  have hr : r.val < 640 := r.isLt
  funext ch
  unfold rowOf source
  by_cases h : r.val + k + 2 < 32
  · rw [KernelIdeal.Block.win_old _ _ h]
    split <;> rw [dif_pos (by omega)] <;> refine blk5 V c t _ ch _ ?_ rfl
    · show t.val * 640 + r.val + k + 2 = (t.val * 20 - 1) * 32 + (r.val + k + 2)
      omega
    · show t.val * 640 + r.val + k - 30 = (t.val * 20 - 1) * 32 + (r.val + k + 2)
      omega
  · obtain ⟨n, hn⟩ : ∃ n, r.val + k + 2 = 32 + n := ⟨r.val + k - 30, by omega⟩
    rw [hn, KernelIdeal.Block.win_new _ _ (by omega), if_neg (by omega), dif_pos (by omega)]
    refine blk4 V c t _ ch _ ?_ rfl
    show t.val * 640 + r.val + k - 30 = t.val * 640 + n
    omega

set_option maxHeartbeats 2000000 in
/-- The array after the call is the mixer on every row. -/
theorem arr (c : Dev nD) (w : ℕ → Fin 512 → EReal) (hw : ∀ k s ch, V c main_v20 (ix3 k s ch) = w k.val ch) :
    (dat1 V c).arrAt 13 cfg1.N = mixRows (V c main_arg0) (V c main_arg1) (V c main_v13_3) (fun k => V c main_v16 (ix2 0 k))
      (fun i k => V c main_v6 (ix3 0 i ⟨k.val, by omega⟩)) (fun i k => V c main_v6 (ix3 0 i ⟨1024 + k.val, by omega⟩)) w
      (fun ch => V c main_v23 (ix2 0 ch)) (fun ch => V c main_v26 (ix2 0 ch)) (fun ch => V c main_v29 (ix2 0 ch))
      (fun i k => V c main_v7 (ix3 0 i k)) (fun i k => V c main_v8 (ix3 0 i k)) (fun i k => V c main_v9 (ix3 0 i k)) := by
  refine (dat1 V c).arrAt_eq_of_covers 13 _ (by decide +kernel) fun t hf y => ?_
  blk_simp
  rw [after1_13, Block.outs1_apply V c t _ _ _ _ _ _ _ _ _ _ _ _ _ w (fun k s ch => (blk6 V c t k s ch).trans (hw k s ch))
    rfl rfl rfl rfl rfl rfl rfl rfl rfl rfl rfl rfl rfl]
  have e0 : (((win1_13.blk t).view.emb y) 0).val = t.val * 640 + (y 0).val := by blk_simp [idx13]
  have e1 : ((win1_13.blk t).view.emb y) 1 = y 1 := Fin.ext (by blk_simp [idx13])
  have hx : ∀ k, iblk1 V c 0 t (ix2 (y 0) k) = V c main_arg0 (ix2 (((win1_13.blk t).view.emb y) 0) k) :=
    fun k => blk0 V c t (y 0) k _ e0 rfl
  have ha : ∀ k, iblk1 V c 3 t (ix2 (y 0) k) = V c main_arg1 (ix2 (((win1_13.blk t).view.emb y) 0) k) :=
    fun k => blk3 V c t (y 0) k _ e0 rfl
  unfold KernelIdeal.Block.mixArr mixRows
  simp only [hx, ha, blk1, blk2, blk7, blk8, blk9, blk10, blk11, blk12, e1]
  rw [taps_congr _ w _ (fun n => rowOf (V c main_v13_3) (source n)) (y 0).val (((win1_13.blk t).view.emb y) 0).val 31
    fun k hk => by rw [e0]; exact window V c t (y 0) k hk]

end Cert.Kernel4Ideal.MixArray
-- ==== Proof.FirstFfnBlock.lean ====
/-
  The feed-forward call of the first layer's program: its block of a point, row by row.
-/
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.FfnBlock

@[expose] public section

set_option maxRecDepth 16384

noncomputable section

namespace Cert.Kernel4Ideal.Block

open Idealize.ShloMosaic Idealize.ShloMosaic.TcCoe Idealize.SL.Sem
open Cert.Kernel4Ideal Cert.Kernel4Ideal.Gen Cert.Layer
open Cert.KernelIdeal.Block (act0 act0_at)

/-- What a point of the feed-forward call leaves in its block, as a function of the point's input blocks. -/
theorem outs2_apply (V : (c : Dev nD) → (b : Ref sig .tc) → Buf (Elt Ideal) ((c : Thread nD τ).loc b)) (c : Dev nD)
    (t : Fin cfg2.N) (x0 : Vec Ideal S1040x1024 .f32) (x1 : Vec Ideal S1x1024 .f32) (x2 x3 : Vec Ideal S1x1024x2816 .bf16)
    (x4 : Vec Ideal S1x2816x1024 .bf16) (h0 : iblk2 V c 0 t = x0) (h1 : iblk2 V c 1 t = x1)
    (h2 : iblk2 V c 2 t = x2) (h3 : iblk2 V c 3 t = x3) (h4 : iblk2 V c 4 t = x4) (y : S1040x1024.Idx) :
    outsAt2 V c t y = ffn (fun k => x0 (ix2 (y 0) k)) (fun k => x1 (ix2 0 k)) (fun k f => x2 (ix3 0 k f))
      (fun k f => x3 (ix3 0 k f)) (fun f k => x4 (ix3 0 f k)) (y 1) := by
  unfold outsAt2
  rw [h0, h1, h2, h3, h4]
  frame_out
  refine (congrArg (fun a => k2_pay2 (k2_pay3 x0) a x4 y) (?_ : _ = act0 x0 x1 x2 x3)).trans ?_
  · rw [View.readCov_eq_canon']
    funext y
    rw [show (Rect.unit (s := S1040x2816) ![0, 0] ![1040, 2816] inb_S1040x2816_S1040x2816_0_0).idx y = y from
      funext fun a => Fin.ext (by rw [Rect.idx_unit_val]; fin_cases a <;> exact Nat.zero_add _)]
    canon_tiles x h
    all_goals
      refine Eq.trans ?_ (act0_at x0 x1 x2 x3 y (x 0) _ h0 h1).symm
      pointwise [k2_pay1, k2_pay3, k2_pay4, k2_pay5, k2_pay6, k2_pay7, k2_pay8, k2_pay9, k2_pay10, k2_pay11,
        k2_pay12, k2_pay13, k2_pay14, k2_pay15, k2_pay16, k2_pay17, k2_pay18, k2_pay19, k2_pay20, k2_pay21,
        k2_pay22, k2_pay23, k2_pay24]
      simp only [zero_sub]
      rfl
  · pointwise [k2_pay2, k2_pay3]
    rw [show x0 y = x0 (ix2 (y 0) (y 1)) from congrArg x0 (eq_ix2 y)]
    rfl

end Cert.Kernel4Ideal.Block
-- ==== Proof.FirstFfnArray.lean ====
/-
  The array the first layer's second feed-forward call leaves: every tile of 1040 rows is the feed-forward block on its rows.
-/
module

public import proofs.«01_k».proof.Proof.FirstFfnBlock
public import Idealize.ShloMosaic.Lib.Claim

@[expose] public section

set_option maxRecDepth 16384

noncomputable section

namespace Cert.Kernel4Ideal.FfnArray

open Idealize.ShloMosaic Idealize.ShloMosaic.TcCoe Idealize.SL.Sem
open Cert.Kernel4Ideal Cert.Kernel4Ideal.Gen Cert.Layer

variable (V : (c : Dev nD) → (b : Ref sig .tc) → Buf (Elt Ideal) ((c : Thread nD τ).loc b))

theorem idx0 : ∀ t : Fin cfg2.N, win2_0.index t = ![t.val, 0] :=
  (by decide +kernel : ∀ t : Fin grid2.N, win2_0.index t = ![t.val, 0])
theorem idx5 : ∀ t : Fin cfg2.N, win2_5.index t = ![t.val, 0] :=
  (by decide +kernel : ∀ t : Fin grid2.N, win2_5.index t = ![t.val, 0])
theorem idx1 : ∀ t : Fin cfg2.N, win2_1.index t = ![0, 0] :=
  (by decide +kernel : ∀ t : Fin grid2.N, win2_1.index t = ![0, 0])
theorem idx2 : ∀ t : Fin cfg2.N, win2_2.index t = ![0, 0, 0] :=
  (by decide +kernel : ∀ t : Fin grid2.N, win2_2.index t = ![0, 0, 0])
theorem idx3 : ∀ t : Fin cfg2.N, win2_3.index t = ![0, 0, 0] :=
  (by decide +kernel : ∀ t : Fin grid2.N, win2_3.index t = ![0, 0, 0])
theorem idx4 : ∀ t : Fin cfg2.N, win2_4.index t = ![0, 0, 0] :=
  (by decide +kernel : ∀ t : Fin grid2.N, win2_4.index t = ![0, 0, 0])

/-- Row `r` of tile `t` is row `1040 t + r` of the array. -/
theorem blk0 (c : Dev nD) (t : Fin cfg2.N) (r : Fin 1040) (k : Fin 1024) (i : S33280x1024.Idx)
    (h0 : (i 0).val = t.val * 1040 + r.val) (h1 : (i 1).val = k.val) : iblk2 V c 0 t (ix2 r k) = V c main_v30 i := by
  blk_simp [iblk2, idx0]
  blk_ext [idx0, h0, h1]

theorem blk1 (c : Dev nD) (t : Fin cfg2.N) (k : Fin 1024) :
    iblk2 V c 1 t (ix2 0 k) = V c main_v33 (ix2 0 k) := by
  blk_simp [iblk2, idx1]
  blk_ext [idx1]

theorem blk2 (c : Dev nD) (t : Fin cfg2.N) (k : Fin 1024) (f : Fin 2816) :
    iblk2 V c 2 t (ix3 0 k f) = V c main_v0 (ix3 0 k f) := by
  blk_simp [iblk2, idx2]
  blk_ext [idx2]

theorem blk3 (c : Dev nD) (t : Fin cfg2.N) (k : Fin 1024) (f : Fin 2816) :
    iblk2 V c 3 t (ix3 0 k f) = V c main_v1 (ix3 0 k f) := by
  blk_simp [iblk2, idx3]
  blk_ext [idx3]

theorem blk4 (c : Dev nD) (t : Fin cfg2.N) (f : Fin 2816) (k : Fin 1024) :
    iblk2 V c 4 t (ix3 0 f k) = V c main_v2 (ix3 0 f k) := by
  blk_simp [iblk2, idx4]
  blk_ext [idx4]

/-- The array after the call is the feed-forward block on every row, with the first block of each weight. -/
theorem arr (c : Dev nD) : (dat2 V c).arrAt 5 cfg2.N = ffnRows (V c main_v30) (fun k => V c main_v33 (ix2 0 k))
    (fun k f => V c main_v0 (ix3 0 k f)) (fun k f => V c main_v1 (ix3 0 k f)) (fun f k => V c main_v2 (ix3 0 f k)) := by
  refine (dat2 V c).arrAt_eq_of_covers 5 _ (by decide +kernel) fun t hf y => ?_
  blk_simp
  rw [after2_5, Block.outs2_apply V c t _ _ _ _ _ rfl rfl rfl rfl rfl]
  have e0 : (((win2_5.blk t).view.emb y) 0).val = t.val * 1040 + (y 0).val := by blk_simp [idx5]
  have e1 : ((win2_5.blk t).view.emb y) 1 = y 1 := Fin.ext (by blk_simp [idx5])
  have hx : ∀ k, iblk2 V c 0 t (ix2 (y 0) k) = V c main_v30 (ix2 (((win2_5.blk t).view.emb y) 0) k) :=
    fun k => blk0 V c t (y 0) k _ e0 rfl
  unfold ffnRows
  simp only [hx, blk1, blk2, blk3, blk4, e1]

end Cert.Kernel4Ideal.FfnArray
-- ==== Proof.FirstResults.lean ====
/-
  The first layer's program: the buffers at each call's entry as functions of the argument arrays, and the four results.
-/
module

public import proofs.«01_k».proof.Proof.FirstProjArray
public import proofs.«01_k».proof.Proof.FirstMixArray
public import proofs.«01_k».proof.Proof.FirstFfnArray
public import Idealize.ShloMosaic.Lib.StableHlo.ReadAt

@[expose] public section

set_option maxRecDepth 16384

noncomputable section

namespace Cert.Kernel4Ideal.Results

open Idealize.ShloMosaic Idealize.ShloMosaic.TcCoe Idealize.SL.Sem
open Cert.Kernel4Ideal Cert.Kernel4Ideal.Gen Cert.Layer

variable (m : (ℓ : Loc nD τ sig) → Buf (Elt Ideal) ℓ) (ρ : Dev nD → PrngReg)

/-- An argument array at launch. -/
abbrev arg (c : Dev nD) (b : Ref sig .tc) := m ((c : Thread nD τ).loc b)

/-- A buffer that neither the first call nor the operations after it write is, at the second call, what it was at the first. -/
theorem keep3 (c : Dev nD) (r : Ref sig .tc) (h : ∀ w : Fin cfg0.W, Pipeline.arrRef spec0 w = r → (cfg0.win w).isOut = false)
    (h' : r ∉ hostOps1_W) : V3 m ρ c r = V1 m ρ c r :=
  (W3_of m ρ c r h').trans (W2_of m ρ c r h)

/-- The same from the second call to the third. -/
theorem keep5 (c : Dev nD) (r : Ref sig .tc) (h : ∀ w : Fin cfg1.W, Pipeline.arrRef spec1 w = r → (cfg1.win w).isOut = false)
    (h' : r ∉ hostOps2_W) : V5 m ρ c r = V3 m ρ c r :=
  (W5_of m ρ c r h').trans (W4_of m ρ c r h)

theorem v0 (c : Dev nD) (i) : V1 m ρ c main_v0 i = arg m c main_arg12 i := by
  show StableHlo.after hostOps0 _ _ i = _
  after_reads_at

theorem v1 (c : Dev nD) (i) : V1 m ρ c main_v1 i = arg m c main_arg13 i := by
  show StableHlo.after hostOps0 _ _ i = _
  after_reads_at

theorem v2 (c : Dev nD) (i) : V1 m ρ c main_v2 i = arg m c main_arg14 i := by
  show StableHlo.after hostOps0 _ _ i = _
  after_reads_at

theorem v7 (c : Dev nD) (i) : V1 m ρ c main_v7 i = arg m c main_arg4 i := by
  show StableHlo.after hostOps0 _ _ i = _
  after_reads_at

theorem v8 (c : Dev nD) (i) : V1 m ρ c main_v8 i = arg m c main_arg9 i := by
  show StableHlo.after hostOps0 _ _ i = _
  after_reads_at

theorem v9 (c : Dev nD) (i) : V1 m ρ c main_v9 i = arg m c main_arg10 i := by
  show StableHlo.after hostOps0 _ _ i = _
  after_reads_at

theorem v4 (c : Dev nD) (l : Fin 2) (k : Fin 1024) (n : Fin 2560) :
    V1 m ρ c main_v4 (ix3 l k n) = arg m c main_arg3 (ix3 l k ⟨n.val, by omega⟩) := by
  show StableHlo.after hostOps0 _ _ _ = _
  after_reads_at

theorem v6 (c : Dev nD) (l : Fin 2) (k : Fin 1024) (n : Fin 2048) :
    V1 m ρ c main_v6 (ix3 l k n) = arg m c main_arg3 (ix3 l k ⟨2560 + n.val, by omega⟩) := by
  show StableHlo.after hostOps0 _ _ _ = _
  after_reads_at

theorem v12 (c : Dev nD) (k : Fin 1024) : V1 m ρ c main_v12 (ix2 0 k) = arg m c main_arg2 (ix2 0 k) := by
  show StableHlo.after hostOps0 _ _ _ = _
  after_reads_at

theorem v16 (c : Dev nD) (k : Fin 1024) : V3 m ρ c main_v16 (ix2 0 k) = arg m c main_arg2 (ix2 0 k) := by
  show StableHlo.after hostOps1 _ _ _ = _
  after_reads_at
  exact congrFun (W2_args m ρ c main_arg2 (by decide)) _

theorem v20 (c : Dev nD) (k : Fin 31) (s : Fin 8) (ch : Fin 512) :
    V3 m ρ c main_v20 (ix3 k s ch) = arg m c main_arg5 (ix3 0 k ch) := by
  show StableHlo.after hostOps1 _ _ _ = _
  after_reads_at
  exact congrFun (W2_args m ρ c main_arg5 (by decide)) _

theorem v23 (c : Dev nD) (k : Fin 512) : V3 m ρ c main_v23 (ix2 0 k) = arg m c main_arg6 (ix2 0 k) := by
  show StableHlo.after hostOps1 _ _ _ = _
  after_reads_at
  exact congrFun (W2_args m ρ c main_arg6 (by decide)) _

theorem v26 (c : Dev nD) (k : Fin 512) : V3 m ρ c main_v26 (ix2 0 k) = arg m c main_arg7 (ix2 0 k) := by
  show StableHlo.after hostOps1 _ _ _ = _
  after_reads_at
  exact congrFun (W2_args m ρ c main_arg7 (by decide)) _

theorem v29 (c : Dev nD) (k : Fin 512) : V3 m ρ c main_v29 (ix2 0 k) = arg m c main_arg8 (ix2 0 k) := by
  show StableHlo.after hostOps1 _ _ _ = _
  after_reads_at
  exact congrFun (W2_args m ρ c main_arg8 (by decide)) _

theorem v33 (c : Dev nD) (k : Fin 1024) : V5 m ρ c main_v33 (ix2 0 k) = arg m c main_arg11 (ix2 0 k) := by
  show StableHlo.after hostOps2 _ _ _ = _
  after_reads_at
  exact congrFun (W4_args m ρ c main_arg11 (by decide)) _

/-- After the mixer's call. -/
def x1 (c : Dev nD) : Rows :=
  mixer 0 (arg m c main_arg0) (arg m c main_arg1) (arg m c main_arg2) (arg m c main_arg3) (arg m c main_arg4) (arg m c main_arg9)
    (arg m c main_arg5) (arg m c main_arg6) (arg m c main_arg7) (arg m c main_arg8) (arg m c main_arg10)

/-- After the second feed-forward block. -/
def x2 (c : Dev nD) : Rows :=
  ffn1 0 (x1 m c) (arg m c main_arg11) (arg m c main_arg12) (arg m c main_arg13) (arg m c main_arg14)

theorem entry1 (c : Dev nD) : V1 m ρ c main_arg0 = arg m c main_arg0 := W1_args m ρ c main_arg0 (by decide)

theorem cols_eq (c : Dev nD) (j : ℕ) (h : j + 512 ≤ 2560) :
    ProjArray.cols (V1 m ρ) c j h = cut (mat 0 (arg m c main_arg3)) j 512 (by omega) := by
  funext k n
  show V1 m ρ c main_v4 _ = _
  rw [v4]
  rfl

theorem gains1 (c : Dev nD) : (fun k => V1 m ρ c main_v12 (ix2 0 k)) = vect 0 (arg m c main_arg2) :=
  funext fun k => v12 m ρ c k

theorem entry3_q (c : Dev nD) : W2 m ρ c main_v13_0 = layerQ 0 (arg m c main_arg0) (arg m c main_arg2) (arg m c main_arg3) := by
  refine (W2_arr m ρ c 3).trans ((ProjArray.arr3 (V1 m ρ) c).trans ?_)
  rw [entry1, cols_eq, gains1]
  rfl

theorem entry3_k (c : Dev nD) : W2 m ρ c main_v13_1 = layerK 0 (arg m c main_arg0) (arg m c main_arg2) (arg m c main_arg3) := by
  refine (W2_arr m ρ c 4).trans ((ProjArray.arr4 (V1 m ρ) c).trans ?_)
  rw [entry1, cols_eq, gains1]
  rfl

theorem entry3_v (c : Dev nD) : W2 m ρ c main_v13_2 = layerV 0 (arg m c main_arg0) (arg m c main_arg2) (arg m c main_arg3) := by
  refine (W2_arr m ρ c 5).trans ((ProjArray.arr5 (V1 m ρ) c).trans ?_)
  rw [entry1, cols_eq, gains1]
  rfl

theorem entry3_u (c : Dev nD) : W2 m ρ c main_v13_3 = layerU 0 (arg m c main_arg0) (arg m c main_arg2) (arg m c main_arg3) := by
  refine (W2_arr m ρ c 6).trans ((ProjArray.arr6 (V1 m ρ) c).trans ?_)
  rw [entry1, cols_eq, cols_eq, gains1]
  rfl

theorem entry5 (c : Dev nD) : V5 m ρ c main_v30 = x1 m c := by
  refine (W5_of m ρ c main_v30 (by decide)).trans ((W4_arr m ρ c 13).trans
    ((MixArray.arr (V3 m ρ) c (tapRow (mat 0 (arg m c main_arg5))) fun k s ch => ?_).trans ?_))
  · rw [v20, tapRow, dif_pos k.isLt]
    rfl
  · have eu : V3 m ρ c main_v13_3 = layerU 0 (arg m c main_arg0) (arg m c main_arg2) (arg m c main_arg3) :=
      (W3_of m ρ c main_v13_3 (by decide)).trans (entry3_u m ρ c)
    rw [eu, show V3 m ρ c main_arg0 = arg m c main_arg0 from W3_args m ρ c main_arg0 (by decide),
      show V3 m ρ c main_arg1 = arg m c main_arg1 from W3_args m ρ c main_arg1 (by decide),
      keep3 m ρ c main_v6 (by decide) (by decide), keep3 m ρ c main_v7 (by decide) (by decide),
      keep3 m ρ c main_v8 (by decide) (by decide), keep3 m ρ c main_v9 (by decide) (by decide)]
    rw [show (fun k => V3 m ρ c main_v16 (ix2 0 k)) = vect 0 (arg m c main_arg2) from funext fun k => v16 m ρ c k,
      show (fun k => V3 m ρ c main_v23 (ix2 0 k)) = vect 0 (arg m c main_arg6) from funext fun k => v23 m ρ c k,
      show (fun k => V3 m ρ c main_v26 (ix2 0 k)) = vect 0 (arg m c main_arg7) from funext fun k => v26 m ρ c k,
      show (fun k => V3 m ρ c main_v29 (ix2 0 k)) = vect 0 (arg m c main_arg8) from funext fun k => v29 m ρ c k,
      show (fun i k => V1 m ρ c main_v7 (ix3 0 i k)) = mat 0 (arg m c main_arg4) from funext fun i => funext fun k => v7 m ρ c _,
      show (fun i k => V1 m ρ c main_v8 (ix3 0 i k)) = mat 0 (arg m c main_arg9) from funext fun i => funext fun k => v8 m ρ c _,
      show (fun i k => V1 m ρ c main_v9 (ix3 0 i k)) = mat 0 (arg m c main_arg10) from funext fun i => funext fun k => v9 m ρ c _,
      show (fun (i k : Fin 1024) => V1 m ρ c main_v6 (ix3 0 i ⟨k.val, by omega⟩)) = cut (mat 0 (arg m c main_arg3)) 2560 1024 (by decide)
        from funext fun i => funext fun k => v6 m ρ c 0 i _,
      show (fun (i k : Fin 1024) => V1 m ρ c main_v6 (ix3 0 i ⟨1024 + k.val, by omega⟩))
          = cut (mat 0 (arg m c main_arg3)) 3584 1024 (by decide) from funext fun i => funext fun k => by
        refine (v6 m ρ c 0 i _).trans (congrArg (fun n => arg m c main_arg3 (ix3 0 i n)) (Fin.ext ?_))
        show 2560 + (1024 + k.val) = 3584 + k.val
        omega]
    rfl

/-- The array the feed-forward call leaves. -/
theorem last6 (c : Dev nD) : W6 m ρ c main_v34 = x2 m c := by
  refine (W6_arr m ρ c 5).trans ((FfnArray.arr (V5 m ρ) c).trans ?_)
  have e (r : Ref sig .tc) (h : ∀ w : Fin cfg0.W, Pipeline.arrRef spec0 w = r → (cfg0.win w).isOut = false)
      (h' : r ∉ hostOps1_W) (h1 : ∀ w : Fin cfg1.W, Pipeline.arrRef spec1 w = r → (cfg1.win w).isOut = false)
      (h1' : r ∉ hostOps2_W) : V5 m ρ c r = V1 m ρ c r :=
    (keep5 m ρ c r h1 h1').trans (keep3 m ρ c r h h')
  rw [entry5, e main_v0 (by decide) (by decide) (by decide) (by decide),
    e main_v1 (by decide) (by decide) (by decide) (by decide), e main_v2 (by decide) (by decide) (by decide) (by decide)]
  rw [show (fun k => V5 m ρ c main_v33 (ix2 0 k)) = vect 0 (arg m c main_arg11) from funext fun k => v33 m ρ c k,
    show (fun k f => V1 m ρ c main_v0 (ix3 0 k f)) = mat 0 (arg m c main_arg12) from funext fun k => funext fun f => v0 m ρ c _,
    show (fun k f => V1 m ρ c main_v1 (ix3 0 k f)) = mat 0 (arg m c main_arg13) from funext fun k => funext fun f => v1 m ρ c _,
    show (fun f k => V1 m ρ c main_v2 (ix3 0 f k)) = mat 0 (arg m c main_arg14) from funext fun k => funext fun f => v2 m ρ c _]
  rfl

/-- The operations after the last call cut the padding rows off its array. -/
theorem last_ops (V : Valuation τ sig (Elt Ideal)) :
    StableHlo.after hostOps3 V main_v36 = unpadded (V main_v34) := by
  funext i
  obtain ⟨b, s, k, rfl⟩ : ∃ b s k, i = ix3 b s k := ⟨_, _, _, eq_ix3 i⟩
  generalize hx : unpadded (V main_v34) (ix3 b s k) = x
  after_reads_simp
  subst hx
  refine (extractStridedSlice_apply ![0, 112, 0] _ slices_S4x8320x1024_S4x8208x1024_0_112_0 (ix3 b s k)
    (ix3 b ⟨112 + s.val, by omega⟩ k) fun a => ?_).trans
    (shapeCast_apply _ shapeCasts_S33280x1024_S4x8320x1024 _ (ix2 ⟨b.val * 8320 + 112 + s.val, by omega⟩ k) ?_)
  · fin_cases a
    · show b.val = 0 + b.val
      omega
    · rfl
    · show k.val = 0 + k.val
      omega
  · rw [Shape.rowMajor_val_two, Shape.rowMajor_val_three]
    show (b.val * 8320 + 112 + s.val) * 1024 + k.val = (b.val * 8320 + (112 + s.val)) * 1024 + k.val
    omega

/-- The program's rows: those of the last call that are no padding. -/
theorem result (c : Dev nD) : W7 m ρ c main_v36 = unpadded (x2 m c) :=
  (last_ops _).trans (congrArg unpadded (last6 m ρ c))

/-- A buffer that neither of the last two calls nor the operations around them write ends as the first call left it. -/
theorem keep72 (c : Dev nD) (r : Ref sig .tc) (h : r ∉ hostOps1_W)
    (h1 : ∀ w : Fin cfg1.W, Pipeline.arrRef spec1 w = r → (cfg1.win w).isOut = false) (h' : r ∉ hostOps2_W)
    (h2 : ∀ w : Fin cfg2.W, Pipeline.arrRef spec2 w = r → (cfg2.win w).isOut = false) (h3 : r ∉ hostOps3_W) :
    W7 m ρ c r = W2 m ρ c r :=
  (W7_of m ρ c r h3).trans ((W6_of m ρ c r h2).trans ((W5_of m ρ c r h').trans ((W4_of m ρ c r h1).trans (W3_of m ρ c r h))))

/-- The queries, as the first call leaves them. -/
theorem result_q (c : Dev nD) : W7 m ρ c main_v13_0 = layerQ 0 (arg m c main_arg0) (arg m c main_arg2) (arg m c main_arg3) :=
  (keep72 m ρ c main_v13_0 (by decide) (by decide) (by decide) (by decide) (by decide)).trans (entry3_q m ρ c)

/-- The keys. -/
theorem result_k (c : Dev nD) : W7 m ρ c main_v13_1 = layerK 0 (arg m c main_arg0) (arg m c main_arg2) (arg m c main_arg3) :=
  (keep72 m ρ c main_v13_1 (by decide) (by decide) (by decide) (by decide) (by decide)).trans (entry3_k m ρ c)

/-- The values. -/
theorem result_v (c : Dev nD) : W7 m ρ c main_v13_2 = layerV 0 (arg m c main_arg0) (arg m c main_arg2) (arg m c main_arg3) :=
  (keep72 m ρ c main_v13_2 (by decide) (by decide) (by decide) (by decide) (by decide)).trans (entry3_v m ρ c)

end Cert.Kernel4Ideal.Results
-- ==== Proof.FirstRun.lean ====
/-
  The run of the first layer's three calls to its end, with every buffer outside the calls' scratch at the last boundary's contents.
-/
module

public import proofs.«01_k».proof.Proof.Gen.Kernel4Ideal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Kernel4Ideal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F] (m : (ℓ : Loc nD τ sig) → Buf (Elt F) ℓ) (ρ : Dev nD → PrngReg)

set_option backward.isDefEq.respectTransparency.types false in
/-- Every run ends, and ends with each buffer that lives outside the calls at `W7`. -/
theorem run : θ_run defs (onTc (τ := τ) (main (F := F))) ⟨m, fun _ => 0, ρ⟩ (fun r => ∀ c : Dev nD, ∀ b : Ref sig .tc,
    ¬ (Proc.devRef .tc b : DevRef τ sig).isScoped → r.2.mem ((c : Thread nD τ).loc b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.Kernel4Ideal.Results
-- ==== Proof.FirstRows.lean ====
/-
  The first layer's plain operations, row by row: normalisation, projections, convolution input.
-/
module

public import proofs.«01_k».proof.Proof.Layer
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Reference4Ideal.Rows

open Idealize.ShloMosaic Idealize.ShloMosaic.TcCoe Idealize.SL.Sem
open Cert.Reference4Ideal Cert.Reference4Ideal.Read Cert.Layer

variable (x0 : Vec Ideal S33280x1024 .f32) (x2 : Vec Ideal S2x1024 .f32) (x3 : Vec Ideal S2x1024x4608 .f32)

/-- The row normalised before the mixer. -/
theorem norm (r : Fin 33280) (k : Fin 1024) : val_main_v14 (F := Ideal) x0 x2 (ix2 r k)
    = rms (fun k => x0 (ix2 r k)) (vect 0 x2) k := by
  pointwise [val_main_v14, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  rfl

/-- Column `n` of the projection. -/
theorem proj_apply (r : Fin 33280) (n : Fin 4608) : val_main_v17 (F := Ideal) x0 x2 x3 (ix2 r n)
    = ∑ k, rms (fun k => x0 (ix2 r k)) (vect 0 x2) k * mat 0 x3 k n := by
  pointwise [val_main_v17, val_main_v16, val_main_v15]
  simp only [norm]
  rfl

/-- The queries. -/
theorem layerQ_eq : val_main_v348 (F := Ideal) x0 x2 x3 = layerQ 0 x0 x2 x3 := by
  funext i
  obtain ⟨r, n, rfl⟩ : ∃ r n, i = ix2 r n := ⟨_, _, eq_ix2 i⟩
  pointwise [val_main_v348, val_main_v18, val_main_v19, val_main_v20, val_main_cst_2]
  simp only [proj_apply]
  simp only [layerQ, queries, proj, cut, Nat.zero_add]
  rfl

/-- The keys. -/
theorem layerK_eq : val_main_v349 (F := Ideal) x0 x2 x3 = layerK 0 x0 x2 x3 := by
  funext i
  obtain ⟨r, n, rfl⟩ : ∃ r n, i = ix2 r n := ⟨_, _, eq_ix2 i⟩
  pointwise [val_main_v349, val_main_v21]
  simp only [proj_apply]
  rfl

/-- The values. -/
theorem layerV_eq : val_main_v350 (F := Ideal) x0 x2 x3 = layerV 0 x0 x2 x3 := by
  funext i
  obtain ⟨r, n, rfl⟩ : ∃ r n, i = ix2 r n := ⟨_, _, eq_ix2 i⟩
  pointwise [val_main_v350, val_main_v22]
  simp only [proj_apply]
  rfl

/-- Row `s` of batch `b` after the padding is cut is row `b * 8320 + 112 + s`. -/
theorem cut_apply (b : Fin 4) (s : Fin 8208) (n : Fin 4608) (r : Fin 33280) (h : r.val = b.val * 8320 + 112 + s.val) :
    val_main_v24 (F := Ideal) x0 x2 x3 (ix3 b s n) = val_main_v17 (F := Ideal) x0 x2 x3 (ix2 r n) := by
  rw [val_main_v24_apply, val_main_v23_apply]
  refine congrArg _ (funext fun a => Fin.ext ?_)
  fin_cases a
  · show ((b.val * 8320 + (112 + s.val)) * 4608 + n.val) / 4608 = r.val
    omega
  · show ((b.val * 8320 + (112 + s.val)) * 4608 + n.val) % 4608 = n.val
    omega

/-- The convolution's input on the rows that are no padding. -/
theorem u_apply (b : Fin 4) (s : Fin 8208) (ch : Fin 512) (r : Fin 33280) (h : r.val = b.val * 8320 + 112 + s.val) :
    val_main_v35 (F := Ideal) x0 x2 x3 (ix3 b s ch) = layerU 0 x0 x2 x3 (ix2 r ch) := by
  pointwise [val_main_v26, val_main_v25, val_main_v35, val_main_v34, val_main_v33, val_main_v32, val_main_v31, val_main_v30,
    val_main_v29, val_main_cst_3, val_main_cst_4]
  simp only [cut_apply _ _ _ b s _ r h, proj_apply]
  unfold layerU convIn
  rw [if_pos (by show 112 ≤ r.val % 8320; omega)]
  rfl

/-- The convolution's input with 30 zero rows before each batch. -/
theorem pad_apply (b : Fin 4) (n : Fin 8238) (ch : Fin 512) : val_main_v36 (F := Ideal) x0 x2 x3 (ix3 b n ch)
    = if h : 30 ≤ n.val then val_main_v35 (F := Ideal) x0 x2 x3 (ix3 b ⟨n.val - 30, by omega⟩ ch) else 0 := by
  pointwise [val_main_v36, val_main_call0_v0, val_main_c]
  by_cases h : 30 ≤ n.val
  · rw [dif_pos h, dif_pos ⟨h, by omega⟩]
  · rw [dif_neg h, dif_neg fun h' => h h'.1]
    show ((((0#32 : BitVec 32).toInt : ℤ) : ℝ) : EReal) = 0
    simp

end Cert.Reference4Ideal.Rows
-- ==== Proof.FirstConv.lean ====
/-
  The first layer's plain convolution branch, row by row.
-/
module

public import proofs.«01_k».proof.Proof.FirstRows
public import Idealize.ShloMosaic.Lib.Pipeline.ValueKit
public import Idealize.ShloMosaic.Lib.Pointwise

@[expose] public section

set_option maxRecDepth 16384
set_option maxHeartbeats 2000000

noncomputable section

namespace Cert.Reference4Ideal.Rows

open Idealize.ShloMosaic Idealize.ShloMosaic.TcCoe Idealize.SL.Sem
open Cert.Reference4Ideal Cert.Reference4Ideal.Read Cert.Layer

variable (x0 : Vec Ideal S33280x1024 .f32) (x2 : Vec Ideal S2x1024 .f32)
  (x3 : Vec Ideal S2x1024x4608 .f32) (x5 : Vec Ideal S2x31x512 .f32)
  (x6 x7 x8 : Vec Ideal S2x512 .f32) (x9 : Vec Ideal S2x512x1024 .f32) (x10 : Vec Ideal S2x1024x1024 .f32)

/-- Row `q = s + k` of the padded input is the row that tap `k` reads: in the batch's first rows it is padding, which is zero. -/
theorem halo_apply (b : Fin 4) (s : Fin 8208) (k : ℕ) (hk : k < 31) (q : Fin 8238) (hq : q.val = s.val + k) (ch : Fin 512)
    (r : Fin 33280) (h : r.val = b.val * 8320 + 112 + s.val) : val_main_v36 (F := Ideal) x0 x2 x3 (ix3 b q ch)
    = rowOf (layerU 0 x0 x2 x3) (source (r.val + k)) ch := by
  have e : source (r.val + k) = r.val + k - 30 := if_neg (by omega)
  have lt : source (r.val + k) < 33280 := by omega
  rw [pad_apply, rowOf, dif_pos lt]
  by_cases hs : 30 ≤ q.val
  · rw [dif_pos hs]
    exact u_apply _ _ _ b ⟨q.val - 30, by omega⟩ ch ⟨source (r.val + k), lt⟩ (by
      show source (r.val + k) = b.val * 8320 + 112 + (q.val - 30)
      omega)
  · rw [dif_neg hs]
    refine (if_neg ?_).symm
    show ¬ 112 ≤ source (r.val + k) % 8320
    omega

/-- One tap's product. -/
theorem tap_apply (b : Fin 4) (s : Fin 8208) (k : ℕ) (hk : k < 31) (q : Fin 8238) (hq : q.val = s.val + k) (ch : Fin 512)
    (r : Fin 33280) (h : r.val = b.val * 8320 + 112 + s.val) : val_main_v36 (F := Ideal) x0 x2 x3 (ix3 b q ch) * x5 (ix3 0 ⟨k, hk⟩ ch)
    = tapRow (mat 0 x5) k ch * rowOf (layerU 0 x0 x2 x3) (source (r.val + k)) ch := by
  rw [halo_apply _ _ _ b s k hk q hq ch r h, mul_comm, tapRow, dif_pos hk]
  rfl

/-- The convolution: the sum of the 31 taps, then the bias. -/
theorem conv_apply (b : Fin 4) (s : Fin 8208) (ch : Fin 512) (r : Fin 33280) (h : r.val = b.val * 8320 + 112 + s.val) :
    val_main_v259 (F := Ideal) x0 x2 x3 x5 x6 (ix3 b s ch)
    = taps (vect 0 x6) (tapRow (mat 0 x5)) (fun n => rowOf (layerU 0 x0 x2 x3) (source n)) r.val 31 ch := by
  rw [taps_bias]
  pointwise [val_main_v259, val_main_v258, val_main_v257, val_main_v256, val_main_v255, val_main_v254, val_main_v253,
    val_main_v252, val_main_v251, val_main_v250, val_main_v249, val_main_v248, val_main_v247, val_main_v246, val_main_v245,
    val_main_v244, val_main_v243, val_main_v242, val_main_v241, val_main_v240, val_main_v239, val_main_v238, val_main_v237,
    val_main_v236, val_main_v235, val_main_v234, val_main_v233, val_main_v232, val_main_v231, val_main_v230, val_main_v229,
    val_main_v228, val_main_v227, val_main_v226, val_main_v225, val_main_v224, val_main_v223, val_main_v222, val_main_v221,
    val_main_v220, val_main_v219, val_main_v218, val_main_v217, val_main_v216, val_main_v215, val_main_v214, val_main_v213,
    val_main_v212, val_main_v211, val_main_v210, val_main_v209, val_main_v208, val_main_v207, val_main_v206, val_main_v205,
    val_main_v204, val_main_v203, val_main_v202, val_main_v201, val_main_v200, val_main_v199, val_main_v198, val_main_v197,
    val_main_v196, val_main_v195, val_main_v194, val_main_v193, val_main_v192, val_main_v191, val_main_v190, val_main_v189,
    val_main_v188, val_main_v187, val_main_v186, val_main_v185, val_main_v184, val_main_v183, val_main_v182, val_main_v181,
    val_main_v180, val_main_v179, val_main_v178, val_main_v177, val_main_v176, val_main_v175, val_main_v174, val_main_v173,
    val_main_v172, val_main_v171, val_main_v170, val_main_v169, val_main_v168, val_main_v167, val_main_v166, val_main_v165,
    val_main_v164, val_main_v163, val_main_v162, val_main_v161, val_main_v160, val_main_v159, val_main_v158, val_main_v157,
    val_main_v156, val_main_v155, val_main_v154, val_main_v153, val_main_v152, val_main_v151, val_main_v150, val_main_v149,
    val_main_v148, val_main_v147, val_main_v146, val_main_v145, val_main_v144, val_main_v143, val_main_v142, val_main_v141,
    val_main_v140, val_main_v139, val_main_v138, val_main_v137, val_main_v136, val_main_v135, val_main_v134, val_main_v133,
    val_main_v132, val_main_v131, val_main_v130, val_main_v129, val_main_v128, val_main_v127, val_main_v126, val_main_v125,
    val_main_v124, val_main_v123, val_main_v122, val_main_v121, val_main_v120, val_main_v119, val_main_v118, val_main_v117,
    val_main_v116, val_main_v115, val_main_v114, val_main_v113, val_main_v112, val_main_v111, val_main_v110, val_main_v109,
    val_main_v108, val_main_v107, val_main_v106, val_main_v105, val_main_v104, val_main_v103, val_main_v102, val_main_v101,
    val_main_v100, val_main_v99, val_main_v98, val_main_v97, val_main_v96, val_main_v95, val_main_v94, val_main_v93,
    val_main_v92, val_main_v91, val_main_v90, val_main_v89, val_main_v88, val_main_v87, val_main_v86, val_main_v85,
    val_main_v84, val_main_v83, val_main_v82, val_main_v81, val_main_v80, val_main_v79, val_main_v78, val_main_v77,
    val_main_v76, val_main_v75, val_main_v74, val_main_v73, val_main_v72, val_main_v71, val_main_v70, val_main_v69,
    val_main_v68, val_main_v67, val_main_v66, val_main_v65, val_main_v64, val_main_v63, val_main_v62, val_main_v61,
    val_main_v60, val_main_v59, val_main_v58, val_main_v57, val_main_v56, val_main_v55, val_main_v54, val_main_v53,
    val_main_v52, val_main_v51, val_main_v50, val_main_v49, val_main_v48, val_main_v47, val_main_v46, val_main_v45,
    val_main_v44, val_main_v43, val_main_v42, val_main_v41, val_main_v40, val_main_v39, val_main_v38, val_main_v37,
    val_main_cst_5]
  simp only [taps, zero_add]
  refine congrArg₂ (· + ·) ?_ rfl
  iterate 30 refine congrArg₂ (· + ·) ?_ (tap_apply _ _ _ _ b s _ ?_ _ ?_ ch r h)
  refine tap_apply _ _ _ _ b s _ ?_ _ ?_ ch r h
  all_goals first | decide | (dsimp only; omega)

/-- The convolution branch's row: the layer normalisation and the gate. -/
theorem convRow_apply (b : Fin 4) (s : Fin 8208) (ch : Fin 512) : val_main_v288 (F := Ideal) x0 x2 x3 x5 x6 x7 x8 (ix3 b s ch)
    = convRow (fun ch => val_main_v259 (F := Ideal) x0 x2 x3 x5 x6 (ix3 b s ch)) (vect 0 x7) (vect 0 x8) ch := by
  pointwise [val_main_v288, val_main_v287, val_main_v286, val_main_v285, val_main_v284, val_main_v283, val_main_v282,
    val_main_v281, val_main_v280, val_main_v279, val_main_v278, val_main_v277, val_main_v276, val_main_v275, val_main_v274,
    val_main_v273, val_main_v272, val_main_v271, val_main_v270, val_main_v269, val_main_v268, val_main_v267, val_main_v266,
    val_main_v265, val_main_v264, val_main_v263, val_main_v262, val_main_v261, val_main_v260, val_main_cst_6,
    val_main_cst_7, val_main_cst_8, val_main_cst_9, val_main_cst_10, val_main_call1_v0, val_main_call1_v1,
    val_main_call1_v2, val_main_call1_v3, val_main_call1_v4, val_main_call1_v5, val_main_call1_cst, val_main_call1_cst_0]
  rfl

end Cert.Reference4Ideal.Rows
-- ==== Proof.FirstLast.lean ====
/-
  The first layer's plain mixer and second feed-forward block, row by row.
-/
module

public import proofs.«01_k».proof.Proof.FirstConv
public import Idealize.ShloMosaic.Lib.Pipeline.ValueKit
public import Idealize.ShloMosaic.Lib.Pointwise

@[expose] public section

set_option maxRecDepth 16384

noncomputable section

namespace Cert.Reference4Ideal.Rows

open Idealize.ShloMosaic Idealize.ShloMosaic.TcCoe Idealize.SL.Sem
open Cert.Reference4Ideal Cert.Reference4Ideal.Read Cert.Layer

variable (x0 : Vec Ideal S33280x1024 .f32) (x1 : Vec Ideal S33280x512 .bf16) (x2 : Vec Ideal S2x1024 .f32)
  (x3 : Vec Ideal S2x1024x4608 .f32) (x4 : Vec Ideal S2x512x1024 .f32) (x5 : Vec Ideal S2x31x512 .f32)
  (x6 x7 x8 : Vec Ideal S2x512 .f32) (x9 : Vec Ideal S2x512x1024 .f32) (x10 : Vec Ideal S2x1024x1024 .f32)
  (x11 : Vec Ideal S2x1024 .f32) (x12 x13 : Vec Ideal S2x1024x2816 .f32) (x14 : Vec Ideal S2x2816x1024 .f32)

/-- The attention's row `s` of batch `b` after the padding is cut. -/
theorem cutAtt_apply (b : Fin 4) (s : Fin 8208) (n : Fin 512) (r : Fin 33280) (h : r.val = b.val * 8320 + 112 + s.val) :
    val_main_v294 (F := Ideal) x1 (ix3 b s n) = x1 (ix2 r n) := by
  rw [val_main_v294_apply, val_main_v293_apply]
  refine congrArg x1 (funext fun a => Fin.ext ?_)
  fin_cases a
  · show ((b.val * 8320 + (112 + s.val)) * 512 + n.val) / 512 = r.val
    omega
  · show ((b.val * 8320 + (112 + s.val)) * 512 + n.val) % 512 = n.val
    omega

/-- The input's row `s` of batch `b` after the padding is cut. -/
theorem cutRow_apply (b : Fin 4) (s : Fin 8208) (n : Fin 1024) (r : Fin 33280) (h : r.val = b.val * 8320 + 112 + s.val) :
    val_main_v314 (F := Ideal) x0 (ix3 b s n) = x0 (ix2 r n) := by
  rw [val_main_v314_apply, val_main_v313_apply]
  refine congrArg _ (funext fun a => Fin.ext ?_)
  fin_cases a
  · show ((b.val * 8320 + (112 + s.val)) * 1024 + n.val) / 1024 = r.val
    omega
  · show ((b.val * 8320 + (112 + s.val)) * 1024 + n.val) % 1024 = n.val
    omega

/-- The two gated branches. -/
theorem gated_apply (b : Fin 4) (s : Fin 8208) (k : Fin 1024) (r : Fin 33280) (h : r.val = b.val * 8320 + 112 + s.val) :
    val_main_v312 (F := Ideal) x0 x1 x2 x3 x4 x5 x6 x7 x8 x9 (ix3 b s k)
    = gated (rms (fun k => x0 (ix2 r k)) (vect 0 x2)) (cut (mat 0 x3) 2560 1024 (by decide))
        (cut (mat 0 x3) 3584 1024 (by decide)) (fun j => x1 (ix2 r j))
        (convRow (taps (vect 0 x6) (tapRow (mat 0 x5)) (fun n => rowOf (layerU 0 x0 x2 x3) (source n)) r.val 31)
          (vect 0 x7) (vect 0 x8)) (mat 0 x4) (mat 0 x9) k := by
  pointwise [val_main_v312, val_main_v311, val_main_v310, val_main_v309, val_main_v308, val_main_v307, val_main_v306,
    val_main_v305, val_main_v304, val_main_v303, val_main_v302, val_main_v301, val_main_v300, val_main_v299, val_main_v298,
    val_main_v297, val_main_v296, val_main_v295, val_main_v291, val_main_v290, val_main_v289, val_main_v28, val_main_v27,
    val_main_cst_11, val_main_cst_12, val_main_cst_13, val_main_cst_14]
  simp only [cut_apply _ _ _ b s _ r h, proj_apply, cutAtt_apply _ b s _ r h, convRow_apply,
    conv_apply _ _ _ _ _ b s _ r h]
  rfl

/-- The mixer. -/
theorem mixer_apply (b : Fin 4) (s : Fin 8208) (k : Fin 1024) (r : Fin 33280) (h : r.val = b.val * 8320 + 112 + s.val) :
    val_main_v318 (F := Ideal) x0 x1 x2 x3 x4 x5 x6 x7 x8 x9 x10 (ix3 b s k)
    = mixer 0 x0 x1 x2 x3 x4 x9 x5 x6 x7 x8 x10 (ix2 r k) := by
  pointwise [val_main_v318, val_main_v317, val_main_v316, val_main_v315]
  simp only [cutRow_apply _ b s _ r h, gated_apply _ _ _ _ _ _ _ _ _ _ b s _ r h]
  rfl

/-- The row normalised before the second feed-forward block. -/
theorem norm3 (b : Fin 4) (s : Fin 8208) (k : Fin 1024) : val_main_v339 (F := Ideal) x0 x1 x2 x3 x4 x5 x6 x7 x8 x9 x10 x11 (ix3 b s k)
    = rms (fun k => val_main_v318 (F := Ideal) x0 x1 x2 x3 x4 x5 x6 x7 x8 x9 x10 (ix3 b s k)) (vect 0 x11) k := by
  pointwise [val_main_v339, val_main_v338, val_main_v337, val_main_v336, val_main_v335, val_main_v334, val_main_v333,
    val_main_v332, val_main_v331, val_main_v330, val_main_v329, val_main_v328, val_main_v327, val_main_cst_15,
    val_main_cst_16, val_main_cst_17, val_main_v320, val_main_v319]
  rfl

/-- The second block's gated hidden row. -/
theorem hidden3 (b : Fin 4) (s : Fin 8208) (f : Fin 2816) : val_main_v343 (F := Ideal) x0 x1 x2 x3 x4 x5 x6 x7 x8 x9 x10 x11 x12 x13 (ix3 b s f)
    = hidden (fun k => val_main_v339 (F := Ideal) x0 x1 x2 x3 x4 x5 x6 x7 x8 x9 x10 x11 (ix3 b s k)) (mat 0 x12) (mat 0 x13) f := by
  pointwise [val_main_v343, val_main_v342, val_main_v341, val_main_v340, val_main_call2_v0, val_main_call2_v1,
    val_main_call2_v2, val_main_call2_v3, val_main_call2_v4, val_main_call2_v5, val_main_call2_cst, val_main_call2_cst_0,
    val_main_v324, val_main_v323, val_main_v322, val_main_v321]
  rfl

/-- The second feed-forward block. -/
theorem ffn3_apply (b : Fin 4) (s : Fin 8208) (k : Fin 1024) : val_main_v347 (F := Ideal) x0 x1 x2 x3 x4 x5 x6 x7 x8 x9 x10 x11 x12 x13 x14 (ix3 b s k)
    = ffn (fun k => val_main_v318 (F := Ideal) x0 x1 x2 x3 x4 x5 x6 x7 x8 x9 x10 (ix3 b s k)) (vect 0 x11) (mat 0 x12) (mat 0 x13) (mat 0 x14) k := by
  pointwise [val_main_v347, val_main_v346, val_main_v345, val_main_v344, val_main_cst_18, val_main_v326, val_main_v325]
  simp only [hidden3, norm3]
  rfl

/-- The result: the rows that are no padding after the second feed-forward block. -/
theorem out_eq : val_main_v347 (F := Ideal) x0 x1 x2 x3 x4 x5 x6 x7 x8 x9 x10 x11 x12 x13 x14
    = unpadded (ffn1 0 (mixer 0 x0 x1 x2 x3 x4 x9 x5 x6 x7 x8 x10) x11 x12 x13 x14) := by
  funext i
  obtain ⟨b, s, k, rfl⟩ : ∃ b s k, i = ix3 b s k := ⟨_, _, _, eq_ix3 i⟩
  rw [ffn3_apply]
  simp only [mixer_apply _ _ _ _ _ _ _ _ _ _ _ b s _ ⟨b.val * 8320 + 112 + s.val, by omega⟩ rfl]
  rfl

end Cert.Reference4Ideal.Rows
-- ==== Proof.FirstClaim.lean ====
/-
  The first layer's claims: the reference's frame, and the four result arrays equal to the reference's.
-/
module

public import proofs.«01_k».proof.Defs
public import proofs.«01_k».proof.Proof.FirstResults
public import proofs.«01_k».proof.Proof.FirstRun
public import proofs.«01_k».proof.Proof.FirstLast
public import Idealize.ShloMosaic.Lib.Quiescent

@[expose] public section

noncomputable section

namespace Cert.Proof.First

open Idealize.ShloMosaic Idealize.ShloMosaic.TcCoe Idealize.SL.Sem
open Cert.Kernel4Ideal Cert.Kernel4Ideal.Gen Cert.Kernel4Ideal.Results

/-- The reference is host operations: it runs to its end, its arguments unchanged, and it declares no semaphore. -/
theorem frame_reference : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- Both programs end with the first layer's four results: the kernel by its calls' arrays, the reference by its operations. -/
theorem algebraic : Cert.algebraic_Kernel4Ideal_Reference4Ideal := by
  intro m ρ m' ρ' _ hagree
  refine ⟨fun c => W7 m ρ c main_v36, fun c => W7 m ρ c main_v13_0, fun c => W7 m ρ c main_v13_1,
    fun c => W7 m ρ c main_v13_2,
    (θ_run Cert.Kernel4Ideal.defs _ _).mono (fun r h c => ⟨h c main_v36 (by decide), h c main_v13_0 (by decide),
      h c main_v13_1 (by decide), h c main_v13_2 (by decide),
      (h c main_arg0 (by decide)).trans (W7_main_arg0 m ρ c), (h c main_arg1 (by decide)).trans (W7_main_arg1 m ρ c),
      (h c main_arg2 (by decide)).trans (W7_main_arg2 m ρ c), (h c main_arg3 (by decide)).trans (W7_main_arg3 m ρ c),
      (h c main_arg4 (by decide)).trans (W7_main_arg4 m ρ c), (h c main_arg5 (by decide)).trans (W7_main_arg5 m ρ c),
      (h c main_arg6 (by decide)).trans (W7_main_arg6 m ρ c), (h c main_arg7 (by decide)).trans (W7_main_arg7 m ρ c),
      (h c main_arg8 (by decide)).trans (W7_main_arg8 m ρ c), (h c main_arg9 (by decide)).trans (W7_main_arg9 m ρ c),
      (h c main_arg10 (by decide)).trans (W7_main_arg10 m ρ c), (h c main_arg11 (by decide)).trans (W7_main_arg11 m ρ c),
      (h c main_arg12 (by decide)).trans (W7_main_arg12 m ρ c), (h c main_arg13 (by decide)).trans (W7_main_arg13 m ρ c),
      (h c main_arg14 (by decide)).trans (W7_main_arg14 m ρ c)⟩)
      (Results.run m ρ),
    (θ_run Cert.Reference4Ideal.defs _ _).mono (fun r h c => ⟨(h c).1.trans ?_, (h c).2.1.trans ?_, (h c).2.2.1.trans ?_,
      (h c).2.2.2.1.trans ?_, (h c).2.2.2.2⟩) (Cert.Reference4Ideal.Value.run (F := Ideal) m' ρ')⟩
  all_goals obtain ⟨a0, a1, a2, a3, a4, a5, a6, a7, a8, a9, a10, a11, a12, a13, a14⟩ := hagree c
  · refine (Cert.Reference4Ideal.Read.val_main_v347_eq (StableHlo.launchContents m' c)).trans ?_
    clear hagree
    dsimp only [StableHlo.launchContents]
    rw [a0, a1, a2, a3, a4, a5, a6, a7, a8, a9, a10, a11, a12, a13, a14]
    exact (Cert.Reference4Ideal.Rows.out_eq ..).trans (result m ρ c).symm
  · refine (Cert.Reference4Ideal.Read.val_main_v348_eq (StableHlo.launchContents m' c)).trans ?_
    clear hagree
    dsimp only [StableHlo.launchContents]
    rw [a0, a2, a3]
    exact (Cert.Reference4Ideal.Rows.layerQ_eq ..).trans (result_q m ρ c).symm
  · refine (Cert.Reference4Ideal.Read.val_main_v349_eq (StableHlo.launchContents m' c)).trans ?_
    clear hagree
    dsimp only [StableHlo.launchContents]
    rw [a0, a2, a3]
    exact (Cert.Reference4Ideal.Rows.layerK_eq ..).trans (result_k m ρ c).symm
  · refine (Cert.Reference4Ideal.Read.val_main_v350_eq (StableHlo.launchContents m' c)).trans ?_
    clear hagree
    dsimp only [StableHlo.launchContents]
    rw [a0, a2, a3]
    exact (Cert.Reference4Ideal.Rows.layerV_eq ..).trans (result_v m ρ c).symm

end Cert.Proof.First

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.LayerClaim
public import proofs.«01_k».proof.Proof.HeadClaim
public import proofs.«01_k».proof.Proof.CastClaim
public import proofs.«01_k».proof.Proof.FirstClaim
public import Idealize.ShloMosaic.Adequacy
public import Idealize.ShloMosaic.Init

@[expose] public section

noncomputable section

namespace Cert.Proof

open Idealize.ShloMosaic Idealize.SL.Sem

/-- Every claim: the frames of the twelve programs, and per kernel that the idealised text is the printed one and its results are the
    reference's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, Layer.frame_reference,
  fun m ρ _ => Cert.Kernel2.Gen.frame m ρ, fun m ρ _ => Cert.Kernel2Ideal.Gen.frame m ρ, Head.frame_reference,
  fun m ρ _ => Cert.Kernel3.Gen.frame m ρ, fun m ρ _ => Cert.Kernel3Ideal.Gen.frame m ρ, Cast.frame_reference,
  fun m ρ _ => Cert.Kernel4.Gen.frame m ρ, fun m ρ _ => Cert.Kernel4Ideal.Gen.frame m ρ, First.frame_reference,
  trivial, Layer.algebraic, trivial, Head.algebraic, trivial, Cast.algebraic, trivial, First.algebraic⟩

end Cert.Proof

end
